-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S4680x2x128 Cert.KernelIdeal.S4680x1x128
  ∧ IdealRules.bf16_pair.Statement Cert.KernelIdeal.S4680x2x128 Cert.KernelIdeal.S4680x1x128
  ∧ IdealRules.bf16_pair.SelectZeroStatement Cert.KernelIdeal.S4680x128
  ∧ IdealRules.bf16_pair.Statement Cert.KernelIdeal.S256x128 Cert.KernelIdeal.S128x128
  ∧ IdealRules.bf16_pair.PackStatement Cert.KernelIdeal.S128x128
  ∧ IdealRules.bf16_pair.Statement Cert.KernelIdeal.S64x2x128 Cert.KernelIdeal.S64x1x128
  ∧ IdealRules.bf16_pair.Statement Cert.KernelIdeal.S72x2x128 Cert.KernelIdeal.S72x1x128
  ∧ IdealRules.bf16_pair.Statement Cert.KernelIdeal.S144x128 Cert.KernelIdeal.S72x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def holds_KernelIdeal_codes_bounded [hKernelIdeal : Cert.KernelIdeal.Facts] [hPost_codes_bounded : Cert.Post_codes_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ (Cert.Post_codes_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (r.2.mem ((c.tc : Thread Cert.KernelIdeal.nD Cert.KernelIdeal.τ).loc Cert.KernelIdeal.main_v5)) (r.2.mem ((c.tc : Thread Cert.KernelIdeal.nD Cert.KernelIdeal.τ).loc Cert.KernelIdeal.main_v6)) (r.2.mem ((c.tc : Thread Cert.KernelIdeal.nD Cert.KernelIdeal.τ).loc Cert.KernelIdeal.main_v8))).1 = (fun _ => 1#1)
      ∧ (Cert.Post_codes_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (r.2.mem ((c.tc : Thread Cert.KernelIdeal.nD Cert.KernelIdeal.τ).loc Cert.KernelIdeal.main_v5)) (r.2.mem ((c.tc : Thread Cert.KernelIdeal.nD Cert.KernelIdeal.τ).loc Cert.KernelIdeal.main_v6)) (r.2.mem ((c.tc : Thread Cert.KernelIdeal.nD Cert.KernelIdeal.τ).loc Cert.KernelIdeal.main_v8))).2 = (fun _ => 1#1))

def holds_KernelIdeal_scales_positive [hKernelIdeal : Cert.KernelIdeal.Facts] [hPost_scales_positive : Cert.Post_scales_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ (Cert.Post_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (r.2.mem ((c.tc : Thread Cert.KernelIdeal.nD Cert.KernelIdeal.τ).loc Cert.KernelIdeal.main_v5)) (r.2.mem ((c.tc : Thread Cert.KernelIdeal.nD Cert.KernelIdeal.τ).loc Cert.KernelIdeal.main_v6)) (r.2.mem ((c.tc : Thread Cert.KernelIdeal.nD Cert.KernelIdeal.τ).loc Cert.KernelIdeal.main_v8))) = (fun _ => 1#1))

def Claim : Prop :=
  ∃ (hKernel : Cert.Kernel.Facts) (hKernelIdeal : Cert.KernelIdeal.Facts) (hReferenceIdeal : Cert.ReferenceIdeal.Facts) (hPost_codes_bounded : Cert.Post_codes_bounded.Facts) (hPost_scales_positive : Cert.Post_scales_positive.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_codes_bounded (hKernelIdeal := hKernelIdeal) (hPost_codes_bounded := hPost_codes_bounded)
    ∧ holds_KernelIdeal_scales_positive (hKernelIdeal := hKernelIdeal) (hPost_scales_positive := hPost_scales_positive)
-- ==== Post_codes_bounded.lean ====
abbrev S12x512x8960 : Shape := ⟨3, ![12, 512, 8960]⟩
abbrev S140x140 : Shape := ⟨2, ![140, 140]⟩
abbrev S4480x1536 : Shape := ⟨2, ![4480, 1536]⟩
abbrev S1536 : Shape := ⟨1, ![1536]⟩
abbrev S12x512x1536 : Shape := ⟨3, ![12, 512, 1536]⟩
abbrev S12x512 : Shape := ⟨2, ![12, 512]⟩
abbrev S_ : Shape := ⟨0, ![]⟩

class Facts : Prop where
  natLt_8_32 : 8 < 32
  bcast_S_S12x512x8960 : S_.BroadcastsInDim S12x512x8960 (![] : Fin 0 → Fin S12x512x8960.rank)

variable [Facts]

def fn {F : FTy → Type} [FloatOps F] (main_arg0 : FVec F S12x512x8960 .bf16) (main_arg1 : FVec F S140x140 .f32) (main_arg2 : IVec S4480x1536 8) (main_arg3 : FVec F S1536 .f32) (main_arg4 : FVec F S12x512x1536 .bf16) (main_arg5 : IVec S12x512x8960 8) (main_arg6 : FVec F S12x512 .f32) : IVec S12x512x8960 1 × IVec S12x512x8960 1 :=
  let main_v0 : IVec S12x512x8960 32 := (extsi 32 · natLt_8_32) main_arg5
  let main_c : IVec S_ 32 := constantI S_ 32 4294967289#32
  let main_v1 : IVec S12x512x8960 32 := broadcastInDim S12x512x8960 ![] bcast_S_S12x512x8960 main_c
  let main_v2 : IVec S12x512x8960 1 := cmpi .sge main_v0 main_v1
  let main_c_0 : IVec S_ 32 := constantI S_ 32 7#32
  let main_v3 : IVec S12x512x8960 32 := broadcastInDim S12x512x8960 ![] bcast_S_S12x512x8960 main_c_0
  let main_v4 : IVec S12x512x8960 1 := cmpi .sle main_v0 main_v3
  (main_v2, main_v4)
-- ==== Post_scales_positive.lean ====
abbrev S12x512x8960 : Shape := ⟨3, ![12, 512, 8960]⟩
abbrev S140x140 : Shape := ⟨2, ![140, 140]⟩
abbrev S4480x1536 : Shape := ⟨2, ![4480, 1536]⟩
abbrev S1536 : Shape := ⟨1, ![1536]⟩
abbrev S12x512x1536 : Shape := ⟨3, ![12, 512, 1536]⟩
abbrev S12x512 : Shape := ⟨2, ![12, 512]⟩
abbrev S_ : Shape := ⟨0, ![]⟩

class Facts : Prop where
  bcast_S_S12x512 : S_.BroadcastsInDim S12x512 (![] : Fin 0 → Fin S12x512.rank)

variable [Facts]

def fn {F : FTy → Type} [FloatOps F] (main_arg0 : FVec F S12x512x8960 .bf16) (main_arg1 : FVec F S140x140 .f32) (main_arg2 : IVec S4480x1536 8) (main_arg3 : FVec F S1536 .f32) (main_arg4 : FVec F S12x512x1536 .bf16) (main_arg5 : IVec S12x512x8960 8) (main_arg6 : FVec F S12x512 .f32) : IVec S12x512 1 :=
  let main_cst : FVec F S_ .f32 := constant S_ .f32 0x00000000#32
  let main_v0 : FVec F S12x512 .f32 := broadcastInDim S12x512 ![] bcast_S_S12x512 main_cst
  let main_v1 : IVec S12x512 1 := cmpf .ogt main_arg6 main_v0
  main_v1
-- ==== Kernel.lean ====
abbrev S12x512x8960 : Shape := ⟨3, ![12, 512, 8960]⟩
abbrev S140x140 : Shape := ⟨2, ![140, 140]⟩
abbrev S4480x1536 : Shape := ⟨2, ![4480, 1536]⟩
abbrev S1536 : Shape := ⟨1, ![1536]⟩
abbrev S_ : Shape := ⟨0, ![]⟩
abbrev S144x144 : Shape := ⟨2, ![144, 144]⟩
abbrev S6144x8960 : Shape := ⟨2, ![6144, 8960]⟩
abbrev S1x1536 : Shape := ⟨2, ![1, 1536]⟩
abbrev S6144x1536 : Shape := ⟨2, ![6144, 1536]⟩
abbrev S24x2x128 : Shape := ⟨3, ![24, 2, 128]⟩
abbrev S256x8960 : Shape := ⟨2, ![256, 8960]⟩
abbrev S256x1536 : Shape := ⟨2, ![256, 1536]⟩
abbrev S1x2x128 : Shape := ⟨3, ![1, 2, 128]⟩
abbrev S4680x128 : Shape := ⟨2, ![4680, 128]⟩
abbrev S9280x128 : Shape := ⟨2, ![9280, 128]⟩
abbrev S256x128 : Shape := ⟨2, ![256, 128]⟩
abbrev S128x8960 : Shape := ⟨2, ![128, 8960]⟩
abbrev S128x128 : Shape := ⟨2, ![128, 128]⟩
abbrev S64x128 : Shape := ⟨2, ![64, 128]⟩
abbrev S72x128 : Shape := ⟨2, ![72, 128]⟩
abbrev S144x128 : Shape := ⟨2, ![144, 128]⟩
abbrev S144x256 : Shape := ⟨2, ![144, 256]⟩
abbrev S8x128 : Shape := ⟨2, ![8, 128]⟩
abbrev S128 : Shape := ⟨1, ![128]⟩
abbrev S1x128 : Shape := ⟨2, ![1, 128]⟩
abbrev S2x128 : Shape := ⟨2, ![2, 128]⟩
abbrev S4480x256 : Shape := ⟨2, ![4480, 256]⟩
abbrev S8960x256 : Shape := ⟨2, ![8960, 256]⟩
abbrev S256x256 : Shape := ⟨2, ![256, 256]⟩
abbrev S1x256 : Shape := ⟨2, ![1, 256]⟩
abbrev S12x512x1536 : Shape := ⟨3, ![12, 512, 1536]⟩
abbrev S24x128x2 : Shape := ⟨3, ![24, 128, 2]⟩
abbrev S12x512 : Shape := ⟨2, ![12, 512]⟩

abbrev nBuf : Space → Nat
  | .hbm => 17
  | .vmem => 17
  | .smem => 0
  | _ => 0

abbrev bufTy : (tb : Table) → Fin (tcTables nBuf tb) → BufTy
  | .hbm, ⟨0, _⟩ => ⟨S12x512x8960, .bf16⟩
  | .hbm, ⟨1, _⟩ => ⟨S140x140, .f32⟩
  | .hbm, ⟨2, _⟩ => ⟨S4480x1536, .i8⟩
  | .hbm, ⟨3, _⟩ => ⟨S1536, .f32⟩
  | .hbm, ⟨4, _⟩ => ⟨S140x140, .bf16⟩
  | .hbm, ⟨5, _⟩ => ⟨S_, .i32⟩
  | .hbm, ⟨6, _⟩ => ⟨S_, .bf16⟩
  | .hbm, ⟨7, _⟩ => ⟨S144x144, .bf16⟩
  | .hbm, ⟨8, _⟩ => ⟨S6144x8960, .bf16⟩
  | .hbm, ⟨9, _⟩ => ⟨S1x1536, .f32⟩
  | .hbm, ⟨10, _⟩ => ⟨S6144x1536, .bf16⟩
  | .hbm, ⟨11, _⟩ => ⟨S6144x8960, .i8⟩
  | .hbm, ⟨12, _⟩ => ⟨S24x2x128, .f32⟩
  | .hbm, ⟨13, _⟩ => ⟨S12x512x1536, .bf16⟩
  | .hbm, ⟨14, _⟩ => ⟨S12x512x8960, .i8⟩
  | .hbm, ⟨15, _⟩ => ⟨S24x128x2, .f32⟩
  | .hbm, ⟨16, _⟩ => ⟨S12x512, .f32⟩
  | .local _ .vmem, ⟨0, _⟩ => ⟨S256x8960, .bf16⟩
  | .local _ .vmem, ⟨1, _⟩ => ⟨S256x8960, .bf16⟩
  | .local _ .vmem, ⟨2, _⟩ => ⟨S144x144, .bf16⟩
  | .local _ .vmem, ⟨3, _⟩ => ⟨S4480x1536, .i8⟩
  | .local _ .vmem, ⟨4, _⟩ => ⟨S1x1536, .f32⟩
  | .local _ .vmem, ⟨5, _⟩ => ⟨S256x1536, .bf16⟩
  | .local _ .vmem, ⟨6, _⟩ => ⟨S256x1536, .bf16⟩
  | .local _ .vmem, ⟨7, _⟩ => ⟨S256x8960, .i8⟩
  | .local _ .vmem, ⟨8, _⟩ => ⟨S256x8960, .i8⟩
  | .local _ .vmem, ⟨9, _⟩ => ⟨S1x2x128, .f32⟩
  | .local _ .vmem, ⟨10, _⟩ => ⟨S1x2x128, .f32⟩
  | .local _ .vmem, ⟨11, _⟩ => ⟨S4680x128, .i32⟩
  | .local _ .vmem, ⟨12, _⟩ => ⟨S4680x128, .i32⟩
  | .local _ .vmem, ⟨13, _⟩ => ⟨S9280x128, .f32⟩
  | .local _ .vmem, ⟨14, _⟩ => ⟨S9280x128, .f32⟩
  | .local _ .vmem, ⟨15, _⟩ => ⟨S256x8960, .bf16⟩
  | .local _ .vmem, ⟨16, _⟩ => ⟨S256x128, .f32⟩
  | _, _ => ⟨S12x512x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨1, ![24], ![false]⟩

@[reducible] def k0_t1_loop : Scf.Loop 32 :=
  let c0_i32_1 : BitVec 32 := 0#32
  let c70_i32 : BitVec 32 := 70#32
  let v3 : BitVec 32 := Scalar.addi c0_i32_1 c70_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg14 : BitVec 32 := Scf.iv c0_i32_1 c1_i32 k0_t1
  let c128_i32 : BitVec 32 := 128#32
  let v217 : BitVec 32 := Scalar.muli arg14 c128_i32
  v217
def k0_off1 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c128_i32 : BitVec 32 := 128#32
  let v217 : BitVec 32 := Scalar.muli arg14 c128_i32
  let v218 : BitVec 32 := v217
  let v220 : Index := Scalar.indexCast v218
  ![0, v220.toNat]
def k0_off2 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c65_i32 : BitVec 32 := 65#32
  let v239 : BitVec 32 := Scalar.muli arg14 c65_i32
  let v240 : Index := Scalar.indexCast v239
  let c0_127 : Index := 0#32
  ![v240.toNat, 0]
@[reducible] def k0_t2_loop : Scf.Loop 32 :=
  let c0_i32_3 : BitVec 32 := 0#32
  let c8_i32 : BitVec 32 := 8#32
  let v4 : BitVec 32 := Scalar.addi c0_i32_3 c8_i32
  let c1_i32_4 : BitVec 32 := 1#32
  ⟨c0_i32_3, v4, c1_i32_4⟩
def k0_off3 (k0_t2 : Fin k0_t2_loop.trips) (c0_i32_124 : BitVec 32) : Fin 2 → Nat :=
  let c0_i32_3 : BitVec 32 := 0#32
  let c1_i32_4 : BitVec 32 := 1#32
  let arg14 : BitVec 32 := Scf.iv c0_i32_3 c1_i32_4 k0_t2
  let c8_i32_123 : BitVec 32 := 8#32
  let v217 : BitVec 32 := Scalar.muli arg14 c8_i32_123
  let v218 : BitVec 32 := Scalar.addi v217 c0_i32_124
  let v219 : Index := Scalar.indexCast v218
  let c0_125 : Index := 0#32
  ![v219.toNat, 0]
def k0_off4 (k0_t2 : Fin k0_t2_loop.trips) (c0_i32_174 : BitVec 32) : Fin 2 → Nat :=
  let c0_i32_3 : BitVec 32 := 0#32
  let c1_i32_4 : BitVec 32 := 1#32
  let arg14 : BitVec 32 := Scf.iv c0_i32_3 c1_i32_4 k0_t2
  let c8_i32_173 : BitVec 32 := 8#32
  let v337 : BitVec 32 := Scalar.muli arg14 c8_i32_173
  let v338 : BitVec 32 := Scalar.addi v337 c0_i32_174
  let c145_i32 : BitVec 32 := 145#32
  let v339 : BitVec 32 := Scalar.muli v338 c145_i32
  let v341 : Index := Scalar.indexCast v339
  let c0_175 : Index := 0#32
  ![v341.toNat, 0]
@[reducible] def k0_t3_loop : Scf.Loop 32 :=
  let c0_i32_6 : BitVec 32 := 0#32
  let c144_i32 : BitVec 32 := 144#32
  let v6 : BitVec 32 := Scalar.addi c0_i32_6 c144_i32
  let c1_i32_7 : BitVec 32 := 1#32
  ⟨c0_i32_6, v6, c1_i32_7⟩
def k0_off5 (k0_t3 : Fin k0_t3_loop.trips) (c0_i32_135 : BitVec 32) : Fin 2 → Nat :=
  let c0_i32_6 : BitVec 32 := 0#32
  let c1_i32_7 : BitVec 32 := 1#32
  let arg14 : BitVec 32 := Scf.iv c0_i32_6 c1_i32_7 k0_t3
  let c0_i32_123 : BitVec 32 := 0#32
  let v218 : BitVec 1 := Scalar.cmpi .sgt arg14 c0_i32_123
  let v219 : BitVec 32 := Scalar.extui v218
  let c0_i32_124 : BitVec 32 := 0#32
  let v220 : BitVec 1 := Scalar.cmpi .slt arg14 c0_i32_124
  let v221 : BitVec 32 := Scalar.extui v220
  let v222 : BitVec 32 := Scalar.subi v219 v221
  let c18_i32 : BitVec 32 := 18#32
  let c0_i32_125 : BitVec 32 := 0#32
  let v223 : BitVec 1 := Scalar.cmpi .sgt c18_i32 c0_i32_125
  let v224 : BitVec 32 := Scalar.extui v223
  let c0_i32_126 : BitVec 32 := 0#32
  let v225 : BitVec 1 := Scalar.cmpi .slt c18_i32 c0_i32_126
  let v226 : BitVec 32 := Scalar.extui v225
  let v227 : BitVec 32 := Scalar.subi v224 v226
  let v228 : BitVec 1 := Scalar.cmpi .ne v222 v227
  let v229 : BitVec 32 := Scalar.remsi arg14 c18_i32
  let c0_i32_127 : BitVec 32 := 0#32
  let v230 : BitVec 1 := Scalar.cmpi .ne v229 c0_i32_127
  let v231 : BitVec 1 := Scalar.andi v228 v230
  let v217 : BitVec 32 := Scalar.divsi arg14 c18_i32
  let c1_i32_128 : BitVec 32 := 1#32
  let v232 : BitVec 32 := Scalar.subi v217 c1_i32_128
  let v233 : BitVec 32 := Scalar.select v231 v232 v217
  let v244 : BitVec 32 := Scalar.addi c0_i32_135 v233
  let c145_i32 : BitVec 32 := 145#32
  let v245 : BitVec 32 := Scalar.muli v244 c145_i32
  let c18_i32_129 : BitVec 32 := 18#32
  let c0_i32_130 : BitVec 32 := 0#32
  let v234 : BitVec 1 := Scalar.cmpi .eq c18_i32_129 c0_i32_130
  let c1_i32_131 : BitVec 32 := 1#32
  let v235 : BitVec 32 := Scalar.select v234 c1_i32_131 c18_i32_129
  let v236 : BitVec 32 := Scalar.remsi arg14 v235
  let c0_i32_133 : BitVec 32 := 0#32
  let v238 : BitVec 1 := Scalar.cmpi .slt v236 c0_i32_133
  let c0_i32_134 : BitVec 32 := 0#32
  let v239 : BitVec 1 := Scalar.cmpi .slt v235 c0_i32_134
  let v240 : BitVec 1 := Scalar.xori v238 v239
  let c0_i32_132 : BitVec 32 := 0#32
  let v237 : BitVec 1 := Scalar.cmpi .ne v236 c0_i32_132
  let v241 : BitVec 1 := Scalar.andi v240 v237
  let v242 : BitVec 32 := Scalar.addi v236 v235
  let v243 : BitVec 32 := Scalar.select v241 v242 v236
  let c8_i32_136 : BitVec 32 := 8#32
  let v246 : BitVec 32 := Scalar.muli v243 c8_i32_136
  let v247 : BitVec 32 := Scalar.addi v245 v246
  let v276 : Index := Scalar.indexCast v247
  let c0_154 : Index := 0#32
  ![v276.toNat, 0]
@[reducible] def k0_t4_loop : Scf.Loop 32 :=
  let c0_i32_26 : BitVec 32 := 0#32
  let c70_i32_27 : BitVec 32 := 70#32
  let v48 : BitVec 32 := Scalar.addi c0_i32_26 c70_i32_27
  let c1_i32_28 : BitVec 32 := 1#32
  ⟨c0_i32_26, v48, c1_i32_28⟩
def k0_off6 (k0_t4 : Fin k0_t4_loop.trips) (c0_i32_123 : BitVec 32) : Fin 2 → Nat :=
  let c2_i32 : BitVec 32 := 2#32
  let c0_i32_26 : BitVec 32 := 0#32
  let c1_i32_28 : BitVec 32 := 1#32
  let arg14 : BitVec 32 := Scf.iv c0_i32_26 c1_i32_28 k0_t4
  let v217 : BitVec 32 := Scalar.muli c2_i32 arg14
  let v218 : BitVec 32 := Scalar.addi v217 c0_i32_123
  let v219 : Index := Scalar.indexCast v218
  let c0_124 : Index := 0#32
  ![v219.toNat, 0]
def k0_mult2 (k0_t4 : Fin k0_t4_loop.trips) : BitVec 32 :=
  let c0_i32_26 : BitVec 32 := 0#32
  let c1_i32_28 : BitVec 32 := 1#32
  let arg14 : BitVec 32 := Scf.iv c0_i32_26 c1_i32_28 k0_t4
  let c128_i32 : BitVec 32 := 128#32
  let v267 : BitVec 32 := Scalar.muli arg14 c128_i32
  v267
def k0_off7 (k0_t4 : Fin k0_t4_loop.trips) : Fin 2 → Nat :=
  let c0_138 : Index := 0#32
  let c0_i32_26 : BitVec 32 := 0#32
  let c1_i32_28 : BitVec 32 := 1#32
  let arg14 : BitVec 32 := Scf.iv c0_i32_26 c1_i32_28 k0_t4
  let c128_i32 : BitVec 32 := 128#32
  let v267 : BitVec 32 := Scalar.muli arg14 c128_i32
  let v268 : BitVec 32 := v267
  let v269 : Index := Scalar.indexCast v268
  ![0, v269.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8960 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S144x144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4480x1536 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8960 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S12x512x8960 : Shape := ⟨3, ![12, 512, 8960]⟩
abbrev S140x140 : Shape := ⟨2, ![140, 140]⟩
abbrev S4480x1536 : Shape := ⟨2, ![4480, 1536]⟩
abbrev S1536 : Shape := ⟨1, ![1536]⟩
abbrev S_ : Shape := ⟨0, ![]⟩
abbrev S144x144 : Shape := ⟨2, ![144, 144]⟩
abbrev S6144x8960 : Shape := ⟨2, ![6144, 8960]⟩
abbrev S1x1536 : Shape := ⟨2, ![1, 1536]⟩
abbrev S6144x1536 : Shape := ⟨2, ![6144, 1536]⟩
abbrev S24x2x128 : Shape := ⟨3, ![24, 2, 128]⟩
abbrev S256x8960 : Shape := ⟨2, ![256, 8960]⟩
abbrev S256x1536 : Shape := ⟨2, ![256, 1536]⟩
abbrev S1x2x128 : Shape := ⟨3, ![1, 2, 128]⟩
abbrev S4680x128 : Shape := ⟨2, ![4680, 128]⟩
abbrev S4680x2x128 : Shape := ⟨3, ![4680, 2, 128]⟩
abbrev S4680x1x128 : Shape := ⟨3, ![4680, 1, 128]⟩
abbrev S9280x128 : Shape := ⟨2, ![9280, 128]⟩
abbrev S256x128 : Shape := ⟨2, ![256, 128]⟩
abbrev S128x8960 : Shape := ⟨2, ![128, 8960]⟩
abbrev S128x128 : Shape := ⟨2, ![128, 128]⟩
abbrev S64x128 : Shape := ⟨2, ![64, 128]⟩
abbrev S64x2x128 : Shape := ⟨3, ![64, 2, 128]⟩
abbrev S64x1x128 : Shape := ⟨3, ![64, 1, 128]⟩
abbrev S72x128 : Shape := ⟨2, ![72, 128]⟩
abbrev S72x2x128 : Shape := ⟨3, ![72, 2, 128]⟩
abbrev S72x1x128 : Shape := ⟨3, ![72, 1, 128]⟩
abbrev S144x128 : Shape := ⟨2, ![144, 128]⟩
abbrev S144x256 : Shape := ⟨2, ![144, 256]⟩
abbrev S8x128 : Shape := ⟨2, ![8, 128]⟩
abbrev S128 : Shape := ⟨1, ![128]⟩
abbrev S1x128 : Shape := ⟨2, ![1, 128]⟩
abbrev S2x128 : Shape := ⟨2, ![2, 128]⟩
abbrev S4480x256 : Shape := ⟨2, ![4480, 256]⟩
abbrev S8960x256 : Shape := ⟨2, ![8960, 256]⟩
abbrev S256x256 : Shape := ⟨2, ![256, 256]⟩
abbrev S1x256 : Shape := ⟨2, ![1, 256]⟩
abbrev S12x512x1536 : Shape := ⟨3, ![12, 512, 1536]⟩
abbrev S24x128x2 : Shape := ⟨3, ![24, 128, 2]⟩
abbrev S12x512 : Shape := ⟨2, ![12, 512]⟩

abbrev nBuf : Space → Nat
  | .hbm => 17
  | .vmem => 17
  | .smem => 0
  | _ => 0

abbrev bufTy : (tb : Table) → Fin (tcTables nBuf tb) → BufTy
  | .hbm, ⟨0, _⟩ => ⟨S12x512x8960, .bf16⟩
  | .hbm, ⟨1, _⟩ => ⟨S140x140, .f32⟩
  | .hbm, ⟨2, _⟩ => ⟨S4480x1536, .i8⟩
  | .hbm, ⟨3, _⟩ => ⟨S1536, .f32⟩
  | .hbm, ⟨4, _⟩ => ⟨S140x140, .bf16⟩
  | .hbm, ⟨5, _⟩ => ⟨S_, .i32⟩
  | .hbm, ⟨6, _⟩ => ⟨S_, .bf16⟩
  | .hbm, ⟨7, _⟩ => ⟨S144x144, .bf16⟩
  | .hbm, ⟨8, _⟩ => ⟨S6144x8960, .bf16⟩
  | .hbm, ⟨9, _⟩ => ⟨S1x1536, .f32⟩
  | .hbm, ⟨10, _⟩ => ⟨S6144x1536, .bf16⟩
  | .hbm, ⟨11, _⟩ => ⟨S6144x8960, .i8⟩
  | .hbm, ⟨12, _⟩ => ⟨S24x2x128, .f32⟩
  | .hbm, ⟨13, _⟩ => ⟨S12x512x1536, .bf16⟩
  | .hbm, ⟨14, _⟩ => ⟨S12x512x8960, .i8⟩
  | .hbm, ⟨15, _⟩ => ⟨S24x128x2, .f32⟩
  | .hbm, ⟨16, _⟩ => ⟨S12x512, .f32⟩
  | .local _ .vmem, ⟨0, _⟩ => ⟨S256x8960, .bf16⟩
  | .local _ .vmem, ⟨1, _⟩ => ⟨S256x8960, .bf16⟩
  | .local _ .vmem, ⟨2, _⟩ => ⟨S144x144, .bf16⟩
  | .local _ .vmem, ⟨3, _⟩ => ⟨S4480x1536, .i8⟩
  | .local _ .vmem, ⟨4, _⟩ => ⟨S1x1536, .f32⟩
  | .local _ .vmem, ⟨5, _⟩ => ⟨S256x1536, .bf16⟩
  | .local _ .vmem, ⟨6, _⟩ => ⟨S256x1536, .bf16⟩
  | .local _ .vmem, ⟨7, _⟩ => ⟨S256x8960, .i8⟩
  | .local _ .vmem, ⟨8, _⟩ => ⟨S256x8960, .i8⟩
  | .local _ .vmem, ⟨9, _⟩ => ⟨S1x2x128, .f32⟩
  | .local _ .vmem, ⟨10, _⟩ => ⟨S1x2x128, .f32⟩
  | .local _ .vmem, ⟨11, _⟩ => ⟨S4680x2x128, .bf16⟩
  | .local _ .vmem, ⟨12, _⟩ => ⟨S4680x2x128, .bf16⟩
  | .local _ .vmem, ⟨13, _⟩ => ⟨S9280x128, .f32⟩
  | .local _ .vmem, ⟨14, _⟩ => ⟨S9280x128, .f32⟩
  | .local _ .vmem, ⟨15, _⟩ => ⟨S256x8960, .bf16⟩
  | .local _ .vmem, ⟨16, _⟩ => ⟨S256x128, .f32⟩
  | _, _ => ⟨S12x512x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32_1 : BitVec 32 := 0#32
  let c70_i32 : BitVec 32 := 70#32
  let v3 : BitVec 32 := Scalar.addi c0_i32_1 c70_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg14 : BitVec 32 := Scf.iv c0_i32_1 c1_i32 k0_t1
  let c128_i32 : BitVec 32 := 128#32
  let v217 : BitVec 32 := Scalar.muli arg14 c128_i32
  v217
def k0_off1 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c128_i32 : BitVec 32 := 128#32
  let v217 : BitVec 32 := Scalar.muli arg14 c128_i32
  let v218 : BitVec 32 := v217
  let v220 : Index := Scalar.indexCast v218
  ![0, v220.toNat]
def k0_off2 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let c65_i32 : BitVec 32 := 65#32
  let v239 : BitVec 32 := Scalar.muli arg14 c65_i32
  let v240 : Index := Scalar.indexCast v239
  let c0_127 : Index := 0#32
  ![v240.toNat, 0, 0]
@[reducible] def k0_t2_loop : Scf.Loop 32 :=
  let c0_i32_3 : BitVec 32 := 0#32
  let c8_i32 : BitVec 32 := 8#32
  let v4 : BitVec 32 := Scalar.addi c0_i32_3 c8_i32
  let c1_i32_4 : BitVec 32 := 1#32
  ⟨c0_i32_3, v4, c1_i32_4⟩
def k0_off3 (k0_t2 : Fin k0_t2_loop.trips) (c0_i32_124 : BitVec 32) : Fin 3 → Nat :=
  let c0_i32_3 : BitVec 32 := 0#32
  let c1_i32_4 : BitVec 32 := 1#32
  let arg14 : BitVec 32 := Scf.iv c0_i32_3 c1_i32_4 k0_t2
  let c8_i32_123 : BitVec 32 := 8#32
  let v217 : BitVec 32 := Scalar.muli arg14 c8_i32_123
  let v218 : BitVec 32 := Scalar.addi v217 c0_i32_124
  let v219 : Index := Scalar.indexCast v218
  let c0_125 : Index := 0#32
  ![v219.toNat, 0, 0]
def k0_off4 (k0_t2 : Fin k0_t2_loop.trips) (c0_i32_174 : BitVec 32) : Fin 2 → Nat :=
  let c0_i32_3 : BitVec 32 := 0#32
  let c1_i32_4 : BitVec 32 := 1#32
  let arg14 : BitVec 32 := Scf.iv c0_i32_3 c1_i32_4 k0_t2
  let c8_i32_173 : BitVec 32 := 8#32
  let v337 : BitVec 32 := Scalar.muli arg14 c8_i32_173
  let v338 : BitVec 32 := Scalar.addi v337 c0_i32_174
  let c145_i32 : BitVec 32 := 145#32
  let v339 : BitVec 32 := Scalar.muli v338 c145_i32
  let v341 : Index := Scalar.indexCast v339
  let c0_175 : Index := 0#32
  ![v341.toNat, 0]
@[reducible] def k0_t3_loop : Scf.Loop 32 :=
  let c0_i32_6 : BitVec 32 := 0#32
  let c144_i32 : BitVec 32 := 144#32
  let v6 : BitVec 32 := Scalar.addi c0_i32_6 c144_i32
  let c1_i32_7 : BitVec 32 := 1#32
  ⟨c0_i32_6, v6, c1_i32_7⟩
def k0_off5 (k0_t3 : Fin k0_t3_loop.trips) (c0_i32_135 : BitVec 32) : Fin 2 → Nat :=
  let c0_i32_6 : BitVec 32 := 0#32
  let c1_i32_7 : BitVec 32 := 1#32
  let arg14 : BitVec 32 := Scf.iv c0_i32_6 c1_i32_7 k0_t3
  let c0_i32_123 : BitVec 32 := 0#32
  let v218 : BitVec 1 := Scalar.cmpi .sgt arg14 c0_i32_123
  let v219 : BitVec 32 := Scalar.extui v218
  let c0_i32_124 : BitVec 32 := 0#32
  let v220 : BitVec 1 := Scalar.cmpi .slt arg14 c0_i32_124
  let v221 : BitVec 32 := Scalar.extui v220
  let v222 : BitVec 32 := Scalar.subi v219 v221
  let c18_i32 : BitVec 32 := 18#32
  let c0_i32_125 : BitVec 32 := 0#32
  let v223 : BitVec 1 := Scalar.cmpi .sgt c18_i32 c0_i32_125
  let v224 : BitVec 32 := Scalar.extui v223
  let c0_i32_126 : BitVec 32 := 0#32
  let v225 : BitVec 1 := Scalar.cmpi .slt c18_i32 c0_i32_126
  let v226 : BitVec 32 := Scalar.extui v225
  let v227 : BitVec 32 := Scalar.subi v224 v226
  let v228 : BitVec 1 := Scalar.cmpi .ne v222 v227
  let v229 : BitVec 32 := Scalar.remsi arg14 c18_i32
  let c0_i32_127 : BitVec 32 := 0#32
  let v230 : BitVec 1 := Scalar.cmpi .ne v229 c0_i32_127
  let v231 : BitVec 1 := Scalar.andi v228 v230
  let v217 : BitVec 32 := Scalar.divsi arg14 c18_i32
  let c1_i32_128 : BitVec 32 := 1#32
  let v232 : BitVec 32 := Scalar.subi v217 c1_i32_128
  let v233 : BitVec 32 := Scalar.select v231 v232 v217
  let v244 : BitVec 32 := Scalar.addi c0_i32_135 v233
  let c145_i32 : BitVec 32 := 145#32
  let v245 : BitVec 32 := Scalar.muli v244 c145_i32
  let c18_i32_129 : BitVec 32 := 18#32
  let c0_i32_130 : BitVec 32 := 0#32
  let v234 : BitVec 1 := Scalar.cmpi .eq c18_i32_129 c0_i32_130
  let c1_i32_131 : BitVec 32 := 1#32
  let v235 : BitVec 32 := Scalar.select v234 c1_i32_131 c18_i32_129
  let v236 : BitVec 32 := Scalar.remsi arg14 v235
  let c0_i32_133 : BitVec 32 := 0#32
  let v238 : BitVec 1 := Scalar.cmpi .slt v236 c0_i32_133
  let c0_i32_134 : BitVec 32 := 0#32
  let v239 : BitVec 1 := Scalar.cmpi .slt v235 c0_i32_134
  let v240 : BitVec 1 := Scalar.xori v238 v239
  let c0_i32_132 : BitVec 32 := 0#32
  let v237 : BitVec 1 := Scalar.cmpi .ne v236 c0_i32_132
  let v241 : BitVec 1 := Scalar.andi v240 v237
  let v242 : BitVec 32 := Scalar.addi v236 v235
  let v243 : BitVec 32 := Scalar.select v241 v242 v236
  let c8_i32_136 : BitVec 32 := 8#32
  let v246 : BitVec 32 := Scalar.muli v243 c8_i32_136
  let v247 : BitVec 32 := Scalar.addi v245 v246
  let v276 : Index := Scalar.indexCast v247
  let c0_154 : Index := 0#32
  ![v276.toNat, 0]
@[reducible] def k0_t4_loop : Scf.Loop 32 :=
  let c0_i32_26 : BitVec 32 := 0#32
  let c70_i32_27 : BitVec 32 := 70#32
  let v48 : BitVec 32 := Scalar.addi c0_i32_26 c70_i32_27
  let c1_i32_28 : BitVec 32 := 1#32
  ⟨c0_i32_26, v48, c1_i32_28⟩
def k0_off6 (k0_t4 : Fin k0_t4_loop.trips) (c0_i32_123 : BitVec 32) : Fin 2 → Nat :=
  let c2_i32 : BitVec 32 := 2#32
  let c0_i32_26 : BitVec 32 := 0#32
  let c1_i32_28 : BitVec 32 := 1#32
  let arg14 : BitVec 32 := Scf.iv c0_i32_26 c1_i32_28 k0_t4
  let v217 : BitVec 32 := Scalar.muli c2_i32 arg14
  let v218 : BitVec 32 := Scalar.addi v217 c0_i32_123
  let v219 : Index := Scalar.indexCast v218
  let c0_124 : Index := 0#32
  ![v219.toNat, 0]
def k0_mult2 (k0_t4 : Fin k0_t4_loop.trips) : BitVec 32 :=
  let c0_i32_26 : BitVec 32 := 0#32
  let c1_i32_28 : BitVec 32 := 1#32
  let arg14 : BitVec 32 := Scf.iv c0_i32_26 c1_i32_28 k0_t4
  let c128_i32 : BitVec 32 := 128#32
  let v267 : BitVec 32 := Scalar.muli arg14 c128_i32
  v267
def k0_off7 (k0_t4 : Fin k0_t4_loop.trips) : Fin 2 → Nat :=
  let c0_138 : Index := 0#32
  let c0_i32_26 : BitVec 32 := 0#32
  let c1_i32_28 : BitVec 32 := 1#32
  let arg14 : BitVec 32 := Scf.iv c0_i32_26 c1_i32_28 k0_t4
  let c128_i32 : BitVec 32 := 128#32
  let v267 : BitVec 32 := Scalar.muli arg14 c128_i32
  let v268 : BitVec 32 := v267
  let v269 : Index := Scalar.indexCast v268
  ![0, v269.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8960 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S144x144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4480x1536 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8960 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S12x512x8960 : Shape := ⟨3, ![12, 512, 8960]⟩
abbrev S140x140 : Shape := ⟨2, ![140, 140]⟩
abbrev S4480x1536 : Shape := ⟨2, ![4480, 1536]⟩
abbrev S1536 : Shape := ⟨1, ![1536]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S12x512x140x64 : Shape := ⟨4, ![12, 512, 140, 64]⟩
abbrev S140x12x512x64 : Shape := ⟨4, ![140, 12, 512, 64]⟩
abbrev S12x512 : Shape := ⟨2, ![12, 512]⟩
abbrev S12x512x1 : Shape := ⟨3, ![12, 512, 1]⟩
abbrev S12x512x4480x2 : Shape := ⟨4, ![12, 512, 4480, 2]⟩
abbrev S12x512x4480x1 : Shape := ⟨4, ![12, 512, 4480, 1]⟩
abbrev S12x512x4480 : Shape := ⟨3, ![12, 512, 4480]⟩
abbrev S12x512x1536 : Shape := ⟨3, ![12, 512, 1536]⟩
abbrev S1x1x1536 : Shape := ⟨3, ![1, 1, 1536]⟩

abbrev nBuf : Space → Nat
  | .hbm => 99
  | .vmem => 0
  | .smem => 0
  | _ => 0

abbrev bufTy : (tb : Table) → Fin (tcTables nBuf tb) → BufTy
  | .hbm, ⟨0, _⟩ => ⟨S12x512x8960, .bf16⟩
  | .hbm, ⟨1, _⟩ => ⟨S140x140, .f32⟩
  | .hbm, ⟨2, _⟩ => ⟨S4480x1536, .i8⟩
  | .hbm, ⟨3, _⟩ => ⟨S1536, .f32⟩
  | .hbm, ⟨4, _⟩ => ⟨S64, .i32⟩
  | .hbm, ⟨5, _⟩ => ⟨S64x1, .i32⟩
  | .hbm, ⟨6, _⟩ => ⟨S1x64, .i32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S64x64, .f32⟩
  | .hbm, ⟨21, _⟩ => ⟨S12x512x8960, .f32⟩
  | .hbm, ⟨22, _⟩ => ⟨S12x512x140x64, .f32⟩
  | .hbm, ⟨23, _⟩ => ⟨S12x512x140x64, .f32⟩
  | .hbm, ⟨24, _⟩ => ⟨S140x12x512x64, .f32⟩
  | .hbm, ⟨25, _⟩ => ⟨S12x512x140x64, .f32⟩
  | .hbm, ⟨26, _⟩ => ⟨S_, .f32⟩
  | .hbm, ⟨27, _⟩ => ⟨S12x512x140x64, .f32⟩
  | .hbm, ⟨28, _⟩ => ⟨S12x512x140x64, .f32⟩
  | .hbm, ⟨29, _⟩ => ⟨S12x512x8960, .f32⟩
  | .hbm, ⟨30, _⟩ => ⟨S12x512x8960, .f32⟩
  | .hbm, ⟨31, _⟩ => ⟨S_, .f32⟩
  | .hbm, ⟨32, _⟩ => ⟨S12x512, .f32⟩
  | .hbm, ⟨33, _⟩ => ⟨S_, .f32⟩
  | .hbm, ⟨34, _⟩ => ⟨S12x512, .f32⟩
  | .hbm, ⟨35, _⟩ => ⟨S12x512, .i1⟩
  | .hbm, ⟨36, _⟩ => ⟨S_, .f32⟩
  | .hbm, ⟨37, _⟩ => ⟨S12x512, .f32⟩
  | .hbm, ⟨38, _⟩ => ⟨S12x512, .f32⟩
  | .hbm, ⟨39, _⟩ => ⟨S_, .f32⟩
  | .hbm, ⟨40, _⟩ => ⟨S_, .f32⟩
  | .hbm, ⟨41, _⟩ => ⟨S12x512, .f32⟩
  | .hbm, ⟨42, _⟩ => ⟨S12x512, .f32⟩
  | .hbm, ⟨43, _⟩ => ⟨S12x512x1, .f32⟩
  | .hbm, ⟨44, _⟩ => ⟨S12x512x8960, .f32⟩
  | .hbm, ⟨45, _⟩ => ⟨S12x512x8960, .f32⟩
  | .hbm, ⟨46, _⟩ => ⟨S12x512x8960, .f32⟩
  | .hbm, ⟨47, _⟩ => ⟨S_, .i32⟩
  | .hbm, ⟨48, _⟩ => ⟨S_, .i32⟩
  | .hbm, ⟨49, _⟩ => ⟨S_, .f32⟩
  | .hbm, ⟨50, _⟩ => ⟨S12x512x8960, .f32⟩
  | .hbm, ⟨51, _⟩ => ⟨S12x512x8960, .f32⟩
  | .hbm, ⟨52, _⟩ => ⟨S_, .f32⟩
  | .hbm, ⟨53, _⟩ => ⟨S12x512x8960, .f32⟩
  | .hbm, ⟨54, _⟩ => ⟨S12x512x8960, .f32⟩
  | .hbm, ⟨55, _⟩ => ⟨S12x512x8960, .i32⟩
  | .hbm, ⟨56, _⟩ => ⟨S12x512x8960, .i8⟩
  | .hbm, ⟨57, _⟩ => ⟨S4480x1536, .i32⟩
  | .hbm, ⟨58, _⟩ => ⟨S_, .i32⟩
  | .hbm, ⟨59, _⟩ => ⟨S4480x1536, .i32⟩
  | .hbm, ⟨60, _⟩ => ⟨S4480x1536, .i32⟩
  | .hbm, ⟨61, _⟩ => ⟨S_, .i32⟩
  | .hbm, ⟨62, _⟩ => ⟨S4480x1536, .i32⟩
  | .hbm, ⟨63, _⟩ => ⟨S4480x1536, .i32⟩
  | .hbm, ⟨64, _⟩ => ⟨S_, .i32⟩
  | .hbm, ⟨65, _⟩ => ⟨S4480x1536, .i32⟩
  | .hbm, ⟨66, _⟩ => ⟨S4480x1536, .i1⟩
  | .hbm, ⟨67, _⟩ => ⟨S_, .i32⟩
  | .hbm, ⟨68, _⟩ => ⟨S4480x1536, .i32⟩
  | .hbm, ⟨69, _⟩ => ⟨S4480x1536, .i32⟩
  | .hbm, ⟨70, _⟩ => ⟨S4480x1536, .i32⟩
  | .hbm, ⟨71, _⟩ => ⟨S4480x1536, .f32⟩
  | .hbm, ⟨72, _⟩ => ⟨S4480x1536, .bf16⟩
  | .hbm, ⟨73, _⟩ => ⟨S_, .i32⟩
  | .hbm, ⟨74, _⟩ => ⟨S4480x1536, .i32⟩
  | .hbm, ⟨75, _⟩ => ⟨S4480x1536, .i1⟩
  | .hbm, ⟨76, _⟩ => ⟨S_, .i32⟩
  | .hbm, ⟨77, _⟩ => ⟨S4480x1536, .i32⟩
  | .hbm, ⟨78, _⟩ => ⟨S4480x1536, .i32⟩
  | .hbm, ⟨79, _⟩ => ⟨S4480x1536, .i32⟩
  | .hbm, ⟨80, _⟩ => ⟨S4480x1536, .f32⟩
  | .hbm, ⟨81, _⟩ => ⟨S4480x1536, .bf16⟩
  | .hbm, ⟨82, _⟩ => ⟨S12x512x4480x2, .i32⟩
  | .hbm, ⟨83, _⟩ => ⟨S12x512x4480x2, .f32⟩
  | .hbm, ⟨84, _⟩ => ⟨S12x512x4480x2, .bf16⟩
  | .hbm, ⟨85, _⟩ => ⟨S12x512x4480x1, .bf16⟩
  | .hbm, ⟨86, _⟩ => ⟨S12x512x4480, .bf16⟩
  | .hbm, ⟨87, _⟩ => ⟨S12x512x1536, .f32⟩
  | .hbm, ⟨88, _⟩ => ⟨S12x512x4480x1, .bf16⟩
  | .hbm, ⟨89, _⟩ => ⟨S12x512x4480, .bf16⟩
  | .hbm, ⟨90, _⟩ => ⟨S12x512x1536, .f32⟩
  | .hbm, ⟨91, _⟩ => ⟨S12x512x1536, .f32⟩
  | .hbm, ⟨92, _⟩ => ⟨S12x512x1, .f32⟩
  | .hbm, ⟨93, _⟩ => ⟨S12x512x1536, .f32⟩
  | .hbm, ⟨94, _⟩ => ⟨S12x512x1536, .f32⟩
  | .hbm, ⟨95, _⟩ => ⟨S1x1x1536, .f32⟩
  | .hbm, ⟨96, _⟩ => ⟨S12x512x1536, .f32⟩
  | .hbm, ⟨97, _⟩ => ⟨S12x512x1536, .f32⟩
  | .hbm, ⟨98, _⟩ => ⟨S12x512x1536, .bf16⟩
  | _, _ => ⟨S12x512x8960, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_c_7 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_c_10 : Ref sig .tc := ⟨.hbm, 64, rfl⟩
abbrev main_v41 : Ref sig .tc := ⟨.hbm, 65, rfl⟩
abbrev main_v42 : Ref sig .tc := ⟨.hbm, 66, rfl⟩
abbrev main_c_11 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_12 : Ref sig .tc := ⟨.hbm, 73, rfl⟩
abbrev main_v48 : Ref sig .tc := ⟨.hbm, 74, rfl⟩
abbrev main_v49 : Ref sig .tc := ⟨.hbm, 75, rfl⟩
abbrev main_c_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]
-- ==== Proof.Butterfly.lean ====
/- The third counted loop of the bit-level kernel (`k0_t3_loop`: 144 trips, each combining eight groups of rows of the two rotation
   scratch buffers in place and carrying the running maximum of magnitudes): the closed form of its row offsets and
   its invariant. A trip reads the rows it later overwrites, so the pieces a trip writes are functions of the contents
   it finds; the invariant says the buffers hold the pieces of the trips so far over the contents at loop entry. -/
module

public import proofs.«01_k».proof.Proof.Gen.Kernel.Loops
public import Idealize.ShloMosaic.Lib.Exec
public import Idealize.ShloMosaic.Lib.Tactic
public import Idealize.ShloMosaic.Lib.Pipeline.Kit

@[expose] public section

-- the recursion's equation lemmas apply every parameter of the region
set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- `k0_off5` in closed form, to rewrite the access's rectangle by (`simp only [Gen.k0_off5_eq]`). A line passes a row's constant as the literal `BitVec.ofNat 32 (…)` here reduces to (`rfl`). -/
theorem k0_off5_eq : ∀ k0_t3 : Fin k0_t3_loop.trips, ∀ (r : Fin 8), k0_off5 k0_t3 (BitVec.ofNat 32 (8 * r.val)) = ![1160 * r.val + 145 * (k0_t3.val / 18) + 8 * (k0_t3.val % 18), 0] := by
  intro k0_t3 r
  have r_r : r.val < 8 := r.isLt
  have h_c0_i32_135 : Affine.IsInt (BitVec.ofNat 32 (8 * r.val)) (8 * (r.val : Int)) := Affine.ofNat _ (by omega)
  have h_c0_i32_6 : Affine.IsInt 0#32 (0) := Affine.ofNat _ (by omega)
  have h_c1_i32_7 : Affine.IsInt 1#32 (1) := Affine.ofNat _ (by omega)
  have r_k0_t3 : k0_t3.val < 144 := Nat.lt_of_lt_of_le k0_t3.isLt k0_t3_abs.2.1
  have h_arg14 : Affine.IsInt _ ((k0_t3.val : Int)) := Affine.iv h_c0_i32_6 h_c1_i32_7 k0_t3.val (by omega)
  have c_arg14 : (k0_t3.val : Int) ≤ 144 - 1 := Affine.iv_lt k0_t3_abs.1 k0_t3.isLt k0_t3_abs.2.2 h_arg14
  have h_c0_i32_123 : Affine.IsInt 0#32 (0) := Affine.ofNat _ (by omega)
  rcases (show (k0_t3.val : Int) ≤ 0 ∨ 1 ≤ (k0_t3.val : Int) by omega) with hs | hs
  · have h_v218 : Affine.Fails _ := Affine.sgt_fails h_arg14 h_c0_i32_123 (by omega)
    have h_v219 : Affine.IsInt _ (0) := Affine.extui_fails h_v218 (by omega)
    have h_c0_i32_124 : Affine.IsInt 0#32 (0) := Affine.ofNat _ (by omega)
    have h_v220 : Affine.Fails _ := Affine.slt_fails h_arg14 h_c0_i32_124 (by omega)
    have h_v221 : Affine.IsInt _ (0) := Affine.extui_fails h_v220 (by omega)
    have h_v222 : Affine.IsInt _ (0) := Affine.subi h_v219 h_v221 (by omega)
    have h_c18_i32 : Affine.IsInt 18#32 (18) := Affine.ofNat _ (by omega)
    have h_c0_i32_125 : Affine.IsInt 0#32 (0) := Affine.ofNat _ (by omega)
    have h_v223 : Affine.Holds _ := Affine.sgt_holds h_c18_i32 h_c0_i32_125 (by omega)
    have h_v224 : Affine.IsInt _ (1) := Affine.extui_holds h_v223 (by omega)
    have h_c0_i32_126 : Affine.IsInt 0#32 (0) := Affine.ofNat _ (by omega)
    have h_v225 : Affine.Fails _ := Affine.slt_fails h_c18_i32 h_c0_i32_126 (by omega)
    have h_v226 : Affine.IsInt _ (0) := Affine.extui_fails h_v225 (by omega)
    have h_v227 : Affine.IsInt _ (1) := Affine.subi h_v224 h_v226 (by omega)
    have h_v228 : Affine.Holds _ := Affine.ne_holds h_v222 h_v227 (by omega)
    have h_v229 : Affine.IsInt _ ((k0_t3.val : Int)) := Affine.remsi h_arg14 h_c18_i32 (by omega)
    have h_c0_i32_127 : Affine.IsInt 0#32 (0) := Affine.ofNat _ (by omega)
    have h_v230 : Affine.Fails _ := Affine.ne_fails h_v229 h_c0_i32_127 (by omega)
    have h_v231 : Affine.Fails _ := Affine.andi_fails_right (Affine.tH h_v228) h_v230
    have h_v217 : Affine.IsInt _ (((k0_t3.val : Int) / 18)) := Affine.divsi h_arg14 h_c18_i32 (by omega)
    have h_c1_i32_128 : Affine.IsInt 1#32 (1) := Affine.ofNat _ (by omega)
    have h_v232 : Affine.IsInt _ (((k0_t3.val : Int) / 18) - 1) := Affine.subi h_v217 h_c1_i32_128 (by omega)
    have h_v233 : Affine.IsInt _ (((k0_t3.val : Int) / 18)) := Affine.select_fails h_v231 h_v232 h_v217 (by omega)
    have h_v244 : Affine.IsInt _ (8 * (r.val : Int) + ((k0_t3.val : Int) / 18)) := Affine.addi h_c0_i32_135 h_v233 (by omega)
    have h_c145_i32 : Affine.IsInt 145#32 (145) := Affine.ofNat _ (by omega)
    have h_v245 : Affine.IsInt _ (1160 * (r.val : Int) + 145 * ((k0_t3.val : Int) / 18)) := Affine.muli h_v244 h_c145_i32 (by omega)
    have h_c18_i32_129 : Affine.IsInt 18#32 (18) := Affine.ofNat _ (by omega)
    have h_c0_i32_130 : Affine.IsInt 0#32 (0) := Affine.ofNat _ (by omega)
    have h_v234 : Affine.Fails _ := Affine.eq_fails h_c18_i32_129 h_c0_i32_130 (by omega)
    have h_c1_i32_131 : Affine.IsInt 1#32 (1) := Affine.ofNat _ (by omega)
    have h_v235 : Affine.IsInt _ (18) := Affine.select_fails h_v234 h_c1_i32_131 h_c18_i32_129 (by omega)
    have h_v236 : Affine.IsInt _ ((k0_t3.val : Int)) := Affine.remsi h_arg14 h_v235 (by omega)
    have h_c0_i32_133 : Affine.IsInt 0#32 (0) := Affine.ofNat _ (by omega)
    have h_v238 : Affine.Fails _ := Affine.slt_fails h_v236 h_c0_i32_133 (by omega)
    have h_c0_i32_134 : Affine.IsInt 0#32 (0) := Affine.ofNat _ (by omega)
    have h_v239 : Affine.Fails _ := Affine.slt_fails h_v235 h_c0_i32_134 (by omega)
    have h_v240 : Affine.Fails _ := Affine.xori_ff h_v238 h_v239
    have h_c0_i32_132 : Affine.IsInt 0#32 (0) := Affine.ofNat _ (by omega)
    have h_v237 : Affine.Fails _ := Affine.ne_fails h_v236 h_c0_i32_132 (by omega)
    have h_v241 : Affine.Fails _ := Affine.andi_fails_left h_v240 (Affine.tF h_v237)
    have h_v242 : Affine.IsInt _ ((k0_t3.val : Int) + 18) := Affine.addi h_v236 h_v235 (by omega)
    have h_v243 : Affine.IsInt _ ((k0_t3.val : Int)) := Affine.select_fails h_v241 h_v242 h_v236 (by omega)
    have h_c8_i32_136 : Affine.IsInt 8#32 (8) := Affine.ofNat _ (by omega)
    have h_v246 : Affine.IsInt _ (8 * (k0_t3.val : Int)) := Affine.muli h_v243 h_c8_i32_136 (by omega)
    have h_v247 : Affine.IsInt _ (1160 * (r.val : Int) + 145 * ((k0_t3.val : Int) / 18) + 8 * (k0_t3.val : Int)) := Affine.addi h_v245 h_v246 (by omega)
    have h_v276 : Affine.IsInt _ (1160 * (r.val : Int) + 145 * ((k0_t3.val : Int) / 18) + 8 * (k0_t3.val : Int)) := Affine.indexCast h_v247
    have h_c0_154 : Affine.IsInt 0#32 (0) := Affine.ofNat _ (by omega)
    exact Affine.vec_cons h_v276 (by omega) <| Affine.vec_cons (Affine.ofNat 0 (by omega) : Affine.IsInt 0#32 0) (by omega) <| Affine.vec_nil
  · have h_v218 : Affine.Holds _ := Affine.sgt_holds h_arg14 h_c0_i32_123 (by omega)
    have h_v219 : Affine.IsInt _ (1) := Affine.extui_holds h_v218 (by omega)
    have h_c0_i32_124 : Affine.IsInt 0#32 (0) := Affine.ofNat _ (by omega)
    have h_v220 : Affine.Fails _ := Affine.slt_fails h_arg14 h_c0_i32_124 (by omega)
    have h_v221 : Affine.IsInt _ (0) := Affine.extui_fails h_v220 (by omega)
    have h_v222 : Affine.IsInt _ (1) := Affine.subi h_v219 h_v221 (by omega)
    have h_c18_i32 : Affine.IsInt 18#32 (18) := Affine.ofNat _ (by omega)
    have h_c0_i32_125 : Affine.IsInt 0#32 (0) := Affine.ofNat _ (by omega)
    have h_v223 : Affine.Holds _ := Affine.sgt_holds h_c18_i32 h_c0_i32_125 (by omega)
    have h_v224 : Affine.IsInt _ (1) := Affine.extui_holds h_v223 (by omega)
    have h_c0_i32_126 : Affine.IsInt 0#32 (0) := Affine.ofNat _ (by omega)
    have h_v225 : Affine.Fails _ := Affine.slt_fails h_c18_i32 h_c0_i32_126 (by omega)
    have h_v226 : Affine.IsInt _ (0) := Affine.extui_fails h_v225 (by omega)
    have h_v227 : Affine.IsInt _ (1) := Affine.subi h_v224 h_v226 (by omega)
    have h_v228 : Affine.Fails _ := Affine.ne_fails h_v222 h_v227 (by omega)
    have h_v229 : Affine.IsInt _ (((k0_t3.val : Int) % 18)) := Affine.remsi h_arg14 h_c18_i32 (by omega)
    have h_c0_i32_127 : Affine.IsInt 0#32 (0) := Affine.ofNat _ (by omega)
    have h_v230 : Affine.Term _ := Affine.cmpi_term .ne h_v229 h_c0_i32_127
    have h_v231 : Affine.Fails _ := Affine.andi_fails_left h_v228 h_v230
    have h_v217 : Affine.IsInt _ (((k0_t3.val : Int) / 18)) := Affine.divsi h_arg14 h_c18_i32 (by omega)
    have h_c1_i32_128 : Affine.IsInt 1#32 (1) := Affine.ofNat _ (by omega)
    have h_v232 : Affine.IsInt _ (((k0_t3.val : Int) / 18) - 1) := Affine.subi h_v217 h_c1_i32_128 (by omega)
    have h_v233 : Affine.IsInt _ (((k0_t3.val : Int) / 18)) := Affine.select_fails h_v231 h_v232 h_v217 (by omega)
    have h_v244 : Affine.IsInt _ (8 * (r.val : Int) + ((k0_t3.val : Int) / 18)) := Affine.addi h_c0_i32_135 h_v233 (by omega)
    have h_c145_i32 : Affine.IsInt 145#32 (145) := Affine.ofNat _ (by omega)
    have h_v245 : Affine.IsInt _ (1160 * (r.val : Int) + 145 * ((k0_t3.val : Int) / 18)) := Affine.muli h_v244 h_c145_i32 (by omega)
    have h_c18_i32_129 : Affine.IsInt 18#32 (18) := Affine.ofNat _ (by omega)
    have h_c0_i32_130 : Affine.IsInt 0#32 (0) := Affine.ofNat _ (by omega)
    have h_v234 : Affine.Fails _ := Affine.eq_fails h_c18_i32_129 h_c0_i32_130 (by omega)
    have h_c1_i32_131 : Affine.IsInt 1#32 (1) := Affine.ofNat _ (by omega)
    have h_v235 : Affine.IsInt _ (18) := Affine.select_fails h_v234 h_c1_i32_131 h_c18_i32_129 (by omega)
    have h_v236 : Affine.IsInt _ (((k0_t3.val : Int) % 18)) := Affine.remsi h_arg14 h_v235 (by omega)
    have h_c0_i32_133 : Affine.IsInt 0#32 (0) := Affine.ofNat _ (by omega)
    have h_v238 : Affine.Fails _ := Affine.slt_fails h_v236 h_c0_i32_133 (by omega)
    have h_c0_i32_134 : Affine.IsInt 0#32 (0) := Affine.ofNat _ (by omega)
    have h_v239 : Affine.Fails _ := Affine.slt_fails h_v235 h_c0_i32_134 (by omega)
    have h_v240 : Affine.Fails _ := Affine.xori_ff h_v238 h_v239
    have h_c0_i32_132 : Affine.IsInt 0#32 (0) := Affine.ofNat _ (by omega)
    have h_v237 : Affine.Term _ := Affine.cmpi_term .ne h_v236 h_c0_i32_132
    have h_v241 : Affine.Fails _ := Affine.andi_fails_left h_v240 h_v237
    have h_v242 : Affine.IsInt _ (((k0_t3.val : Int) % 18) + 18) := Affine.addi h_v236 h_v235 (by omega)
    have h_v243 : Affine.IsInt _ (((k0_t3.val : Int) % 18)) := Affine.select_fails h_v241 h_v242 h_v236 (by omega)
    have h_c8_i32_136 : Affine.IsInt 8#32 (8) := Affine.ofNat _ (by omega)
    have h_v246 : Affine.IsInt _ (8 * ((k0_t3.val : Int) % 18)) := Affine.muli h_v243 h_c8_i32_136 (by omega)
    have h_v247 : Affine.IsInt _ (1160 * (r.val : Int) + 145 * ((k0_t3.val : Int) / 18) + 8 * ((k0_t3.val : Int) % 18)) := Affine.addi h_v245 h_v246 (by omega)
    have h_v276 : Affine.IsInt _ (1160 * (r.val : Int) + 145 * ((k0_t3.val : Int) / 18) + 8 * ((k0_t3.val : Int) % 18)) := Affine.indexCast h_v247
    have h_c0_154 : Affine.IsInt 0#32 (0) := Affine.ofNat _ (by omega)
    exact Affine.vec_cons h_v276 (by omega) <| Affine.vec_cons (Affine.ofNat 0 (by omega) : Affine.IsInt 0#32 0) (by omega) <| Affine.vec_nil
instance closedOff_k0_off5_0 (k0_t3 : Fin k0_t3_loop.trips) : ClosedOff (k0_off5 k0_t3 (BitVec.ofNat 32 0)) := ⟨![1160 * 0 + 145 * (k0_t3.val / 18) + 8 * (k0_t3.val % 18), 0], k0_off5_eq k0_t3 ⟨0, by decide⟩⟩
instance closedOff_k0_off5_1 (k0_t3 : Fin k0_t3_loop.trips) : ClosedOff (k0_off5 k0_t3 (BitVec.ofNat 32 8)) := ⟨![1160 * 1 + 145 * (k0_t3.val / 18) + 8 * (k0_t3.val % 18), 0], k0_off5_eq k0_t3 ⟨1, by decide⟩⟩
instance closedOff_k0_off5_2 (k0_t3 : Fin k0_t3_loop.trips) : ClosedOff (k0_off5 k0_t3 (BitVec.ofNat 32 16)) := ⟨![1160 * 2 + 145 * (k0_t3.val / 18) + 8 * (k0_t3.val % 18), 0], k0_off5_eq k0_t3 ⟨2, by decide⟩⟩
instance closedOff_k0_off5_3 (k0_t3 : Fin k0_t3_loop.trips) : ClosedOff (k0_off5 k0_t3 (BitVec.ofNat 32 24)) := ⟨![1160 * 3 + 145 * (k0_t3.val / 18) + 8 * (k0_t3.val % 18), 0], k0_off5_eq k0_t3 ⟨3, by decide⟩⟩
instance closedOff_k0_off5_4 (k0_t3 : Fin k0_t3_loop.trips) : ClosedOff (k0_off5 k0_t3 (BitVec.ofNat 32 32)) := ⟨![1160 * 4 + 145 * (k0_t3.val / 18) + 8 * (k0_t3.val % 18), 0], k0_off5_eq k0_t3 ⟨4, by decide⟩⟩
instance closedOff_k0_off5_5 (k0_t3 : Fin k0_t3_loop.trips) : ClosedOff (k0_off5 k0_t3 (BitVec.ofNat 32 40)) := ⟨![1160 * 5 + 145 * (k0_t3.val / 18) + 8 * (k0_t3.val % 18), 0], k0_off5_eq k0_t3 ⟨5, by decide⟩⟩
instance closedOff_k0_off5_6 (k0_t3 : Fin k0_t3_loop.trips) : ClosedOff (k0_off5 k0_t3 (BitVec.ofNat 32 48)) := ⟨![1160 * 6 + 145 * (k0_t3.val / 18) + 8 * (k0_t3.val % 18), 0], k0_off5_eq k0_t3 ⟨6, by decide⟩⟩
instance closedOff_k0_off5_7 (k0_t3 : Fin k0_t3_loop.trips) : ClosedOff (k0_off5 k0_t3 (BitVec.ofNat 32 56)) := ⟨![1160 * 7 + 145 * (k0_t3.val / 18) + 8 * (k0_t3.val % 18), 0], k0_off5_eq k0_t3 ⟨7, by decide⟩⟩

/-- One trip's resources: what the region reads (nothing) at its contents, what it writes (arg10,
   arg11) at any. -/
abbrev Trip_k0_t3 (c : Dev nD) (arg10 : Memref sig .tc .vmem S9280x128 .f32) (arg11 : Memref sig .tc .vmem S9280x128 .f32) (f_arg10 : BufTy.Contents (Elt F) arg10.view.ty) (f_arg11 : BufTy.Contents (Elt F) arg11.view.ty) : sProp 𝕄G :=
  iprop((arg10.view.loc (c : Thread nD τ) ↦[arg10.view.set]{fullShare} f_arg10) ∗ (arg11.view.loc (c : Thread nD τ) ↦[arg11.view.set]{fullShare} f_arg11))

/-- ONE TRIP of `k0_t3_loop` at a symbolic `k` and carried value `acc`, run by `sl_exec` (its
   rectangles where the program's in-range evidence puts them, their places unread): what it yields
   and the pieces it writes into arg10, arg11 are the run's own finds — the witnesses `sl_close`
   assigns handing the buffers to the continuation, as functions of the carried value and of the
   contents the trip finds in the memrefs it writes (the region loads some of them back).
   `@[irreducible]`: cited, never unfolded. -/
@[irreducible] def trip_k0_t3 (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x128 .i32) (harg8 : arg8.IsWhole) (arg9 : Memref sig .tc .vmem S4680x128 .i32) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (k : Fin k0_t3_loop.trips) :
    Σ' (R_k0_t3 : ((FVec F S8x128 .f32 × FVec F S8x128 .f32) → BufTy.Contents (Elt F) arg10.view.ty → BufTy.Contents (Elt F) arg11.view.ty → FVec F S8x128 .f32 × FVec F S8x128 .f32)) (L_arg10 : ((FVec F S8x128 .f32 × FVec F S8x128 .f32) → BufTy.Contents (Elt F) arg10.view.ty → BufTy.Contents (Elt F) arg11.view.ty → List (View.Piece (Elt F) S9280x128 .f32))) , { L_arg11 : ((FVec F S8x128 .f32 × FVec F S8x128 .f32) → BufTy.Contents (Elt F) arg10.view.ty → BufTy.Contents (Elt F) arg11.view.ty → List (View.Piece (Elt F) S9280x128 .f32)) // ∀ (E : Set ℕ) (acc : FVec F S8x128 .f32 × FVec F S8x128 .f32) (f_arg10 : BufTy.Contents (Elt F) arg10.view.ty) (f_arg11 : BufTy.Contents (Elt F) arg11.view.ty),
      Trip_k0_t3 (F := F) c arg10 arg11 f_arg10 f_arg11
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 k acc)
          (fun yld => iprop(⌜yld = R_k0_t3 acc f_arg10 f_arg11⌝ ∗ Trip_k0_t3 (F := F) c arg10 arg11 (arg10.view.writes (Elt F) f_arg10 (L_arg10 acc f_arg10 f_arg11)) (arg11.view.writes (Elt F) f_arg11 (L_arg11 acc f_arg10 f_arg11)))) } := by
  have hk : k.val < 144 := Nat.lt_of_lt_of_le k.isLt k0_t3_abs.2.1
  refine ⟨?_, ?_, ?_, fun E acc f_arg10 f_arg11 => ?run⟩
  case run =>
    unfold k0_t3_body
    iintro ⟨HW_arg10, HW_arg11⟩
    sl_exec
    sl_step
    sl_close

/-- The trip's result (a plain projection of `trip_…`, for the recursion below to cite without its
   proof). -/
abbrev tripR_k0_t3 (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x128 .i32) (harg8 : arg8.IsWhole) (arg9 : Memref sig .tc .vmem S4680x128 .i32) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (k : Fin k0_t3_loop.trips) (acc : FVec F S8x128 .f32 × FVec F S8x128 .f32) (f_arg10 : BufTy.Contents (Elt F) arg10.view.ty) (f_arg11 : BufTy.Contents (Elt F) arg11.view.ty) : FVec F S8x128 .f32 × FVec F S8x128 .f32 :=
  (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 k).1 acc f_arg10 f_arg11

/-- The trip's piece lists (plain projections of `trip_…`, for the recursion below to cite without
   its proof), at the carried value and the contents the trip finds in the written memrefs. -/
abbrev tripL_k0_t3 (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x128 .i32) (harg8 : arg8.IsWhole) (arg9 : Memref sig .tc .vmem S4680x128 .i32) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (k : Fin k0_t3_loop.trips) (acc : FVec F S8x128 .f32 × FVec F S8x128 .f32) (f_arg10 : BufTy.Contents (Elt F) arg10.view.ty) (f_arg11 : BufTy.Contents (Elt F) arg11.view.ty) : List (View.Piece (Elt F) S9280x128 .f32) × List (View.Piece (Elt F) S9280x128 .f32) :=
  ((trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 k).2.1 acc f_arg10 f_arg11, (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 k).2.2.1 acc f_arg10 f_arg11)

/-- Trip `k`'s contribution to the state the recursion `st_k0_t3` below carries (`prev`): its result
   as the new carried value and its pieces in front, per written memref; past the last trip, `prev`
   itself. -/
@[irreducible] def st_k0_t3Step (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x128 .i32) (harg8 : arg8.IsWhole) (arg9 : Memref sig .tc .vmem S4680x128 .i32) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (G_arg10 : BufTy.Contents (Elt F) arg10.view.ty) (G_arg11 : BufTy.Contents (Elt F) arg11.view.ty) (init : FVec F S8x128 .f32 × FVec F S8x128 .f32) (k : ℕ) (prev : (FVec F S8x128 .f32 × FVec F S8x128 .f32) × List (View.Piece (Elt F) S9280x128 .f32) × List (View.Piece (Elt F) S9280x128 .f32)) : (FVec F S8x128 .f32 × FVec F S8x128 .f32) × List (View.Piece (Elt F) S9280x128 .f32) × List (View.Piece (Elt F) S9280x128 .f32) :=
  if h : k < k0_t3_loop.trips then
    (tripR_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 ⟨k, h⟩ prev.1 (arg10.view.writes (Elt F) G_arg10 prev.2.1) (arg11.view.writes (Elt F) G_arg11 prev.2.2), (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 ⟨k, h⟩ prev.1 (arg10.view.writes (Elt F) G_arg10 prev.2.1) (arg11.view.writes (Elt F) G_arg11 prev.2.2)).1 ++ prev.2.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 ⟨k, h⟩ prev.1 (arg10.view.writes (Elt F) G_arg10 prev.2.1) (arg11.view.writes (Elt F) G_arg11 prev.2.2)).2 ++ prev.2.2)
  else prev

/-- The STATE before trip `k`: the carried value and, per written memref, the pieces of the trips
   before (last first), starting from the contents `G_·` at loop entry; each trip's pieces taken at
   the contents the earlier trips left. -/
def st_k0_t3 (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x128 .i32) (harg8 : arg8.IsWhole) (arg9 : Memref sig .tc .vmem S4680x128 .i32) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (G_arg10 : BufTy.Contents (Elt F) arg10.view.ty) (G_arg11 : BufTy.Contents (Elt F) arg11.view.ty) (init : FVec F S8x128 .f32 × FVec F S8x128 .f32) : ℕ → (FVec F S8x128 .f32 × FVec F S8x128 .f32) × List (View.Piece (Elt F) S9280x128 .f32) × List (View.Piece (Elt F) S9280x128 .f32)
  | 0 => (init, [], [])
  | k + 1 => st_k0_t3Step 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k (st_k0_t3 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k)

theorem st_k0_t3_succ (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x128 .i32) (harg8 : arg8.IsWhole) (arg9 : Memref sig .tc .vmem S4680x128 .i32) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (G_arg10 : BufTy.Contents (Elt F) arg10.view.ty) (G_arg11 : BufTy.Contents (Elt F) arg11.view.ty) (init : FVec F S8x128 .f32 × FVec F S8x128 .f32) (k : Fin k0_t3_loop.trips) :
    st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init (k.val + 1)
      = ((tripR_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 k (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).1 (arg10.view.writes (Elt F) G_arg10 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).2.1) (arg11.view.writes (Elt F) G_arg11 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).2.2)), (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 k (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).1 (arg10.view.writes (Elt F) G_arg10 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).2.1) (arg11.view.writes (Elt F) G_arg11 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).2.2)).1 ++ (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).2.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 k (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).1 (arg10.view.writes (Elt F) G_arg10 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).2.1) (arg11.view.writes (Elt F) G_arg11 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).2.2)).2 ++ (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).2.2) := by
  rw [st_k0_t3.eq_2]; unfold st_k0_t3Step; exact dif_pos k.isLt

/-- The carried value before trip 0 is the initial one: the invariant's equation at loop entry,
   which the run closes by this (`sl_pure`) without unfolding the value it holds. -/
theorem st_k0_t3_zero (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x128 .i32) (harg8 : arg8.IsWhole) (arg9 : Memref sig .tc .vmem S4680x128 .i32) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (G_arg10 : BufTy.Contents (Elt F) arg10.view.ty) (G_arg11 : BufTy.Contents (Elt F) arg11.view.ty) (init : FVec F S8x128 .f32 × FVec F S8x128 .f32) :
    (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init 0).1 = init := rfl

/-- THE INVARIANT before trip `k`: nothing read at `X_·`; arg10, arg11 holding the pieces of the
   trips before `k` written over the contents at loop entry `G_·` (stated `∃ f, … ∗ ⌜f = …⌝`, so
   that a hypothesis of any contents matches and the equation is what is proved); and `acc` equal to
   the state's carried value (an equation the run substitutes after the loop). -/
abbrev inv_k0_t3 (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x128 .i32) (harg8 : arg8.IsWhole) (arg9 : Memref sig .tc .vmem S4680x128 .i32) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (G_arg10 : BufTy.Contents (Elt F) arg10.view.ty) (G_arg11 : BufTy.Contents (Elt F) arg11.view.ty) (init : FVec F S8x128 .f32 × FVec F S8x128 .f32) (k : ℕ) (acc : FVec F S8x128 .f32 × FVec F S8x128 .f32) : sProp 𝕄G :=
  iprop((∃ f, (arg10.view.loc (c : Thread nD τ) ↦[arg10.view.set]{fullShare} f) ∗ ⌜f = arg10.view.writes (Elt F) G_arg10 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k).2.1⌝) ∗ (∃ f, (arg11.view.loc (c : Thread nD τ) ↦[arg11.view.set]{fullShare} f) ∗ ⌜f = arg11.view.writes (Elt F) G_arg11 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k).2.2⌝) ∗ ⌜acc = (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k).1⌝)

set_option warn.classDefReducibility false in
/-- THE LOOP BY ITS INVARIANT — generated (`@[sl_loop]`: `sl_exec` finds it meeting `k0_t3_loop`,
   fixing `X_· G_·` and `init` against the context; after the loop each written memref holds `writes
   G (st … trips).2` and what it yields is `(st … trips).1`). -/
@[sl_loop] def loopInv_k0_t3 (𝒱 : Variants) (c : Dev nD) (bd : Option 𝒱.V) (E : Set ℕ) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x128 .i32) (harg8 : arg8.IsWhole) (arg9 : Memref sig .tc .vmem S4680x128 .i32) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (G_arg10 : BufTy.Contents (Elt F) arg10.view.ty) (G_arg11 : BufTy.Contents (Elt F) arg11.view.ty) (init : FVec F S8x128 .f32 × FVec F S8x128 .f32) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 init where
  inv := inv_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init
  step k acc := by
    iintro ⟨⟨%f_arg10, HW_arg10, %h_arg10⟩, ⟨%f_arg11, HW_arg11, %h_arg11⟩, %h_acc⟩
    subst h_acc
    iapply (wp_wand_r Idealize.ShloMosaic.frame (wpE (defs₀ (F := F)) 𝒱 (c : Thread nD τ) bd) E)
    isplitl [HW_arg10 HW_arg11]
    · iapply ((trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 k).2.2.2 E (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k).1 f_arg10 f_arg11)
      isplitl [HW_arg10]; · iexact HW_arg10
      iexact HW_arg11
    · iintro %yld ⟨%h_res, HW_arg10, HW_arg11⟩
      unfold inv_k0_t3
      simp only [st_k0_t3_succ]
      isplitl [HW_arg10]
      · iexists _; isplitl [HW_arg10]; · iexact HW_arg10
        ipureintro; rw [h_arg10, h_arg11, ← View.writes_append]
      isplitl [HW_arg11]
      · iexists _; isplitl [HW_arg11]; · iexact HW_arg11
        ipureintro; rw [h_arg10, h_arg11, ← View.writes_append]
      ipureintro; rw [h_res, h_arg10, h_arg11]

end Cert.Kernel.Gen

end
-- ==== Proof.KernelBody.lean ====
/- The kernel body at the bit level, run once on arbitrary staging buffers: the body's triple. Nothing is said of what
   the body computes; the inputs' buffers come back as they were, the other buffers come back at some contents. -/
module

public import proofs.«01_k».proof.Proof.Gen.Kernel.Frame
public import proofs.«01_k».proof.Proof.Butterfly

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, e0]
    word_cmp
   : ∀ t : Fin grid0.N, cond0_0 (grid0.coords t) ↔ t.val % 24 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x8960 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S144x144 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4480x1536 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x8960 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S4680x128 .i32 := Memref.whole cc0_scratch0
abbrev scM0_1 : Memref sig .tc .vmem S4680x128 .i32 := Memref.whole cc0_scratch1
abbrev scM0_2 : Memref sig .tc .vmem S9280x128 .f32 := Memref.whole cc0_scratch2
abbrev scM0_3 : Memref sig .tc .vmem S9280x128 .f32 := Memref.whole cc0_scratch3
abbrev scM0_4 : Memref sig .tc .vmem S256x8960 .bf16 := Memref.whole cc0_scratch4
abbrev scM0_5 : Memref sig .tc .vmem S256x128 .f32 := Memref.whole cc0_scratch5
set_option maxHeartbeats 4000000 in
/-- THE BODY'S TRIPLE: on whole staging memrefs, the inputs' at their contents, the outputs' and the scratch buffers at
    anything, the body runs to the continuation holding the inputs' as they were and every other buffer at some contents —
    at the first point (the branch that zeroes two scratch buffers taken) and at the others. -/
theorem kernelRun0 (c : Dev nD) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x128 .i32) (harg8 : arg8.IsWhole) (arg9 : Memref sig .tc .vmem S4680x128 .i32) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole)
    (x0 : Vec F S256x8960 .bf16) (x1 : Vec F S144x144 .bf16) (x2 : Vec F S4480x1536 .i8) (x3 : Vec F S1x1536 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_hadamard_int4_down_proj i arg1 harg1 arg2 harg2 arg3 harg3 arg4 harg4 arg5 harg5 arg6 harg6 arg7 harg7 arg8 harg8 arg9 harg9 arg10 harg10 arg11 harg11 arg12 harg12 arg13 harg13) K := by
  simp only [cc0_hadamard_int4_down_proj_eq_skeleton]; unfold cc0_hadamard_int4_down_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  by_cases hc0 : cond0_0 i
  all_goals
    · iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
      obtain rfl := harg1.eq_unread hf0; obtain rfl := harg2.eq_unread hf1; obtain rfl := harg3.eq_unread hf2; obtain rfl := harg4.eq_unread hf3
      sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _, _; isplitr; swap; · iexact H4
        ipureintro; rfl
      isplitl [H5]
      · iexists _, _; isplitr; swap; · iexact H5
        ipureintro; rfl
      isplitl [H6]
      · iexists _, _; isplitr; swap; · iexact H6
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      iexists _, _; isplitr; swap; · iexact HS5
      ipureintro; rfl

end Cert.Kernel.Gen

end
-- ==== Proof.KernelFrame.lean ====
/- The frame of the bit-level kernel: every run ends, with the argument arrays unchanged and every semaphore counter at
   zero. The three outputs' contents are not named here. -/
module

public import proofs.«01_k».proof.Proof.KernelBody
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v5, main_v6, main_v7, main_v8}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c)⟩) h

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The output windows this certificate FORGETS (4, 5, 6): nothing reads what the kernel leaves in them, so nothing
    of it is named (Lib/Pipeline/Dat.lean `Dat.toRForget`). -/
def forgets0 : Fin 7 → Bool := fun w => w.val == 4 || w.val == 5 || w.val == 6

/-- The proof data of the one pipeline on core `c`: the arrays as the region finds them (`V`); after the body at
    point `t` each input's buffer at its block and the outputs, FORGOTTEN, at `Dat.unnamed`; the invariant
    the scratch buffers and the generator register at some contents;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- The body at any point: the inputs' memrefs hold their blocks, everything else is at some contents before and after
    (`kernelRun0`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.castSucc = Pipeline.ΦA spec0 c from rfl, show (dats m 0 c).Φ t.succ = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply (kernelRun0 c (grid0.coords t) _ _ _ _ _ _ _ _ _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := Idealize.SL.BI.Entails.refl _

/-- The invariant after the last point is what the region gives back. -/
theorem hout (c : Dev nD) : (dats m 0 c).Φ (Fin.last cfg0.N) ⊢ Pipeline.ΦA spec0 c := Idealize.SL.BI.Entails.refl _

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 4, 5, 6) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_forget m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.ButterflyIdeal.lean ====
/- The third counted loop of the idealized kernel (`k0_t3_loop`: 144 trips, each combining eight groups of rows of the two rotation
   scratch buffers in place and carrying the running maximum of magnitudes): the closed form of its row offsets and
   its invariant. A trip reads the rows it later overwrites, so the pieces a trip writes are functions of the contents
   it finds; the invariant says the buffers hold the pieces of the trips so far over the contents at loop entry. -/
module

public import proofs.«01_k».proof.Proof.Gen.KernelIdeal.Loops
public import Idealize.ShloMosaic.Lib.Exec
public import Idealize.ShloMosaic.Lib.Tactic
public import Idealize.ShloMosaic.Lib.Pipeline.Kit

@[expose] public section

-- the recursion's equation lemmas apply every parameter of the region
set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- `k0_off5` in closed form, to rewrite the access's rectangle by (`simp only [Gen.k0_off5_eq]`). A line passes a row's constant as the literal `BitVec.ofNat 32 (…)` here reduces to (`rfl`). -/
theorem k0_off5_eq : ∀ k0_t3 : Fin k0_t3_loop.trips, ∀ (r : Fin 8), k0_off5 k0_t3 (BitVec.ofNat 32 (8 * r.val)) = ![1160 * r.val + 145 * (k0_t3.val / 18) + 8 * (k0_t3.val % 18), 0] := by
  intro k0_t3 r
  have r_r : r.val < 8 := r.isLt
  have h_c0_i32_135 : Affine.IsInt (BitVec.ofNat 32 (8 * r.val)) (8 * (r.val : Int)) := Affine.ofNat _ (by omega)
  have h_c0_i32_6 : Affine.IsInt 0#32 (0) := Affine.ofNat _ (by omega)
  have h_c1_i32_7 : Affine.IsInt 1#32 (1) := Affine.ofNat _ (by omega)
  have r_k0_t3 : k0_t3.val < 144 := Nat.lt_of_lt_of_le k0_t3.isLt k0_t3_abs.2.1
  have h_arg14 : Affine.IsInt _ ((k0_t3.val : Int)) := Affine.iv h_c0_i32_6 h_c1_i32_7 k0_t3.val (by omega)
  have c_arg14 : (k0_t3.val : Int) ≤ 144 - 1 := Affine.iv_lt k0_t3_abs.1 k0_t3.isLt k0_t3_abs.2.2 h_arg14
  have h_c0_i32_123 : Affine.IsInt 0#32 (0) := Affine.ofNat _ (by omega)
  rcases (show (k0_t3.val : Int) ≤ 0 ∨ 1 ≤ (k0_t3.val : Int) by omega) with hs | hs
  · have h_v218 : Affine.Fails _ := Affine.sgt_fails h_arg14 h_c0_i32_123 (by omega)
    have h_v219 : Affine.IsInt _ (0) := Affine.extui_fails h_v218 (by omega)
    have h_c0_i32_124 : Affine.IsInt 0#32 (0) := Affine.ofNat _ (by omega)
    have h_v220 : Affine.Fails _ := Affine.slt_fails h_arg14 h_c0_i32_124 (by omega)
    have h_v221 : Affine.IsInt _ (0) := Affine.extui_fails h_v220 (by omega)
    have h_v222 : Affine.IsInt _ (0) := Affine.subi h_v219 h_v221 (by omega)
    have h_c18_i32 : Affine.IsInt 18#32 (18) := Affine.ofNat _ (by omega)
    have h_c0_i32_125 : Affine.IsInt 0#32 (0) := Affine.ofNat _ (by omega)
    have h_v223 : Affine.Holds _ := Affine.sgt_holds h_c18_i32 h_c0_i32_125 (by omega)
    have h_v224 : Affine.IsInt _ (1) := Affine.extui_holds h_v223 (by omega)
    have h_c0_i32_126 : Affine.IsInt 0#32 (0) := Affine.ofNat _ (by omega)
    have h_v225 : Affine.Fails _ := Affine.slt_fails h_c18_i32 h_c0_i32_126 (by omega)
    have h_v226 : Affine.IsInt _ (0) := Affine.extui_fails h_v225 (by omega)
    have h_v227 : Affine.IsInt _ (1) := Affine.subi h_v224 h_v226 (by omega)
    have h_v228 : Affine.Holds _ := Affine.ne_holds h_v222 h_v227 (by omega)
    have h_v229 : Affine.IsInt _ ((k0_t3.val : Int)) := Affine.remsi h_arg14 h_c18_i32 (by omega)
    have h_c0_i32_127 : Affine.IsInt 0#32 (0) := Affine.ofNat _ (by omega)
    have h_v230 : Affine.Fails _ := Affine.ne_fails h_v229 h_c0_i32_127 (by omega)
    have h_v231 : Affine.Fails _ := Affine.andi_fails_right (Affine.tH h_v228) h_v230
    have h_v217 : Affine.IsInt _ (((k0_t3.val : Int) / 18)) := Affine.divsi h_arg14 h_c18_i32 (by omega)
    have h_c1_i32_128 : Affine.IsInt 1#32 (1) := Affine.ofNat _ (by omega)
    have h_v232 : Affine.IsInt _ (((k0_t3.val : Int) / 18) - 1) := Affine.subi h_v217 h_c1_i32_128 (by omega)
    have h_v233 : Affine.IsInt _ (((k0_t3.val : Int) / 18)) := Affine.select_fails h_v231 h_v232 h_v217 (by omega)
    have h_v244 : Affine.IsInt _ (8 * (r.val : Int) + ((k0_t3.val : Int) / 18)) := Affine.addi h_c0_i32_135 h_v233 (by omega)
    have h_c145_i32 : Affine.IsInt 145#32 (145) := Affine.ofNat _ (by omega)
    have h_v245 : Affine.IsInt _ (1160 * (r.val : Int) + 145 * ((k0_t3.val : Int) / 18)) := Affine.muli h_v244 h_c145_i32 (by omega)
    have h_c18_i32_129 : Affine.IsInt 18#32 (18) := Affine.ofNat _ (by omega)
    have h_c0_i32_130 : Affine.IsInt 0#32 (0) := Affine.ofNat _ (by omega)
    have h_v234 : Affine.Fails _ := Affine.eq_fails h_c18_i32_129 h_c0_i32_130 (by omega)
    have h_c1_i32_131 : Affine.IsInt 1#32 (1) := Affine.ofNat _ (by omega)
    have h_v235 : Affine.IsInt _ (18) := Affine.select_fails h_v234 h_c1_i32_131 h_c18_i32_129 (by omega)
    have h_v236 : Affine.IsInt _ ((k0_t3.val : Int)) := Affine.remsi h_arg14 h_v235 (by omega)
    have h_c0_i32_133 : Affine.IsInt 0#32 (0) := Affine.ofNat _ (by omega)
    have h_v238 : Affine.Fails _ := Affine.slt_fails h_v236 h_c0_i32_133 (by omega)
    have h_c0_i32_134 : Affine.IsInt 0#32 (0) := Affine.ofNat _ (by omega)
    have h_v239 : Affine.Fails _ := Affine.slt_fails h_v235 h_c0_i32_134 (by omega)
    have h_v240 : Affine.Fails _ := Affine.xori_ff h_v238 h_v239
    have h_c0_i32_132 : Affine.IsInt 0#32 (0) := Affine.ofNat _ (by omega)
    have h_v237 : Affine.Fails _ := Affine.ne_fails h_v236 h_c0_i32_132 (by omega)
    have h_v241 : Affine.Fails _ := Affine.andi_fails_left h_v240 (Affine.tF h_v237)
    have h_v242 : Affine.IsInt _ ((k0_t3.val : Int) + 18) := Affine.addi h_v236 h_v235 (by omega)
    have h_v243 : Affine.IsInt _ ((k0_t3.val : Int)) := Affine.select_fails h_v241 h_v242 h_v236 (by omega)
    have h_c8_i32_136 : Affine.IsInt 8#32 (8) := Affine.ofNat _ (by omega)
    have h_v246 : Affine.IsInt _ (8 * (k0_t3.val : Int)) := Affine.muli h_v243 h_c8_i32_136 (by omega)
    have h_v247 : Affine.IsInt _ (1160 * (r.val : Int) + 145 * ((k0_t3.val : Int) / 18) + 8 * (k0_t3.val : Int)) := Affine.addi h_v245 h_v246 (by omega)
    have h_v276 : Affine.IsInt _ (1160 * (r.val : Int) + 145 * ((k0_t3.val : Int) / 18) + 8 * (k0_t3.val : Int)) := Affine.indexCast h_v247
    have h_c0_154 : Affine.IsInt 0#32 (0) := Affine.ofNat _ (by omega)
    exact Affine.vec_cons h_v276 (by omega) <| Affine.vec_cons (Affine.ofNat 0 (by omega) : Affine.IsInt 0#32 0) (by omega) <| Affine.vec_nil
  · have h_v218 : Affine.Holds _ := Affine.sgt_holds h_arg14 h_c0_i32_123 (by omega)
    have h_v219 : Affine.IsInt _ (1) := Affine.extui_holds h_v218 (by omega)
    have h_c0_i32_124 : Affine.IsInt 0#32 (0) := Affine.ofNat _ (by omega)
    have h_v220 : Affine.Fails _ := Affine.slt_fails h_arg14 h_c0_i32_124 (by omega)
    have h_v221 : Affine.IsInt _ (0) := Affine.extui_fails h_v220 (by omega)
    have h_v222 : Affine.IsInt _ (1) := Affine.subi h_v219 h_v221 (by omega)
    have h_c18_i32 : Affine.IsInt 18#32 (18) := Affine.ofNat _ (by omega)
    have h_c0_i32_125 : Affine.IsInt 0#32 (0) := Affine.ofNat _ (by omega)
    have h_v223 : Affine.Holds _ := Affine.sgt_holds h_c18_i32 h_c0_i32_125 (by omega)
    have h_v224 : Affine.IsInt _ (1) := Affine.extui_holds h_v223 (by omega)
    have h_c0_i32_126 : Affine.IsInt 0#32 (0) := Affine.ofNat _ (by omega)
    have h_v225 : Affine.Fails _ := Affine.slt_fails h_c18_i32 h_c0_i32_126 (by omega)
    have h_v226 : Affine.IsInt _ (0) := Affine.extui_fails h_v225 (by omega)
    have h_v227 : Affine.IsInt _ (1) := Affine.subi h_v224 h_v226 (by omega)
    have h_v228 : Affine.Fails _ := Affine.ne_fails h_v222 h_v227 (by omega)
    have h_v229 : Affine.IsInt _ (((k0_t3.val : Int) % 18)) := Affine.remsi h_arg14 h_c18_i32 (by omega)
    have h_c0_i32_127 : Affine.IsInt 0#32 (0) := Affine.ofNat _ (by omega)
    have h_v230 : Affine.Term _ := Affine.cmpi_term .ne h_v229 h_c0_i32_127
    have h_v231 : Affine.Fails _ := Affine.andi_fails_left h_v228 h_v230
    have h_v217 : Affine.IsInt _ (((k0_t3.val : Int) / 18)) := Affine.divsi h_arg14 h_c18_i32 (by omega)
    have h_c1_i32_128 : Affine.IsInt 1#32 (1) := Affine.ofNat _ (by omega)
    have h_v232 : Affine.IsInt _ (((k0_t3.val : Int) / 18) - 1) := Affine.subi h_v217 h_c1_i32_128 (by omega)
    have h_v233 : Affine.IsInt _ (((k0_t3.val : Int) / 18)) := Affine.select_fails h_v231 h_v232 h_v217 (by omega)
    have h_v244 : Affine.IsInt _ (8 * (r.val : Int) + ((k0_t3.val : Int) / 18)) := Affine.addi h_c0_i32_135 h_v233 (by omega)
    have h_c145_i32 : Affine.IsInt 145#32 (145) := Affine.ofNat _ (by omega)
    have h_v245 : Affine.IsInt _ (1160 * (r.val : Int) + 145 * ((k0_t3.val : Int) / 18)) := Affine.muli h_v244 h_c145_i32 (by omega)
    have h_c18_i32_129 : Affine.IsInt 18#32 (18) := Affine.ofNat _ (by omega)
    have h_c0_i32_130 : Affine.IsInt 0#32 (0) := Affine.ofNat _ (by omega)
    have h_v234 : Affine.Fails _ := Affine.eq_fails h_c18_i32_129 h_c0_i32_130 (by omega)
    have h_c1_i32_131 : Affine.IsInt 1#32 (1) := Affine.ofNat _ (by omega)
    have h_v235 : Affine.IsInt _ (18) := Affine.select_fails h_v234 h_c1_i32_131 h_c18_i32_129 (by omega)
    have h_v236 : Affine.IsInt _ (((k0_t3.val : Int) % 18)) := Affine.remsi h_arg14 h_v235 (by omega)
    have h_c0_i32_133 : Affine.IsInt 0#32 (0) := Affine.ofNat _ (by omega)
    have h_v238 : Affine.Fails _ := Affine.slt_fails h_v236 h_c0_i32_133 (by omega)
    have h_c0_i32_134 : Affine.IsInt 0#32 (0) := Affine.ofNat _ (by omega)
    have h_v239 : Affine.Fails _ := Affine.slt_fails h_v235 h_c0_i32_134 (by omega)
    have h_v240 : Affine.Fails _ := Affine.xori_ff h_v238 h_v239
    have h_c0_i32_132 : Affine.IsInt 0#32 (0) := Affine.ofNat _ (by omega)
    have h_v237 : Affine.Term _ := Affine.cmpi_term .ne h_v236 h_c0_i32_132
    have h_v241 : Affine.Fails _ := Affine.andi_fails_left h_v240 h_v237
    have h_v242 : Affine.IsInt _ (((k0_t3.val : Int) % 18) + 18) := Affine.addi h_v236 h_v235 (by omega)
    have h_v243 : Affine.IsInt _ (((k0_t3.val : Int) % 18)) := Affine.select_fails h_v241 h_v242 h_v236 (by omega)
    have h_c8_i32_136 : Affine.IsInt 8#32 (8) := Affine.ofNat _ (by omega)
    have h_v246 : Affine.IsInt _ (8 * ((k0_t3.val : Int) % 18)) := Affine.muli h_v243 h_c8_i32_136 (by omega)
    have h_v247 : Affine.IsInt _ (1160 * (r.val : Int) + 145 * ((k0_t3.val : Int) / 18) + 8 * ((k0_t3.val : Int) % 18)) := Affine.addi h_v245 h_v246 (by omega)
    have h_v276 : Affine.IsInt _ (1160 * (r.val : Int) + 145 * ((k0_t3.val : Int) / 18) + 8 * ((k0_t3.val : Int) % 18)) := Affine.indexCast h_v247
    have h_c0_154 : Affine.IsInt 0#32 (0) := Affine.ofNat _ (by omega)
    exact Affine.vec_cons h_v276 (by omega) <| Affine.vec_cons (Affine.ofNat 0 (by omega) : Affine.IsInt 0#32 0) (by omega) <| Affine.vec_nil
instance closedOff_k0_off5_0 (k0_t3 : Fin k0_t3_loop.trips) : ClosedOff (k0_off5 k0_t3 (BitVec.ofNat 32 0)) := ⟨![1160 * 0 + 145 * (k0_t3.val / 18) + 8 * (k0_t3.val % 18), 0], k0_off5_eq k0_t3 ⟨0, by decide⟩⟩
instance closedOff_k0_off5_1 (k0_t3 : Fin k0_t3_loop.trips) : ClosedOff (k0_off5 k0_t3 (BitVec.ofNat 32 8)) := ⟨![1160 * 1 + 145 * (k0_t3.val / 18) + 8 * (k0_t3.val % 18), 0], k0_off5_eq k0_t3 ⟨1, by decide⟩⟩
instance closedOff_k0_off5_2 (k0_t3 : Fin k0_t3_loop.trips) : ClosedOff (k0_off5 k0_t3 (BitVec.ofNat 32 16)) := ⟨![1160 * 2 + 145 * (k0_t3.val / 18) + 8 * (k0_t3.val % 18), 0], k0_off5_eq k0_t3 ⟨2, by decide⟩⟩
instance closedOff_k0_off5_3 (k0_t3 : Fin k0_t3_loop.trips) : ClosedOff (k0_off5 k0_t3 (BitVec.ofNat 32 24)) := ⟨![1160 * 3 + 145 * (k0_t3.val / 18) + 8 * (k0_t3.val % 18), 0], k0_off5_eq k0_t3 ⟨3, by decide⟩⟩
instance closedOff_k0_off5_4 (k0_t3 : Fin k0_t3_loop.trips) : ClosedOff (k0_off5 k0_t3 (BitVec.ofNat 32 32)) := ⟨![1160 * 4 + 145 * (k0_t3.val / 18) + 8 * (k0_t3.val % 18), 0], k0_off5_eq k0_t3 ⟨4, by decide⟩⟩
instance closedOff_k0_off5_5 (k0_t3 : Fin k0_t3_loop.trips) : ClosedOff (k0_off5 k0_t3 (BitVec.ofNat 32 40)) := ⟨![1160 * 5 + 145 * (k0_t3.val / 18) + 8 * (k0_t3.val % 18), 0], k0_off5_eq k0_t3 ⟨5, by decide⟩⟩
instance closedOff_k0_off5_6 (k0_t3 : Fin k0_t3_loop.trips) : ClosedOff (k0_off5 k0_t3 (BitVec.ofNat 32 48)) := ⟨![1160 * 6 + 145 * (k0_t3.val / 18) + 8 * (k0_t3.val % 18), 0], k0_off5_eq k0_t3 ⟨6, by decide⟩⟩
instance closedOff_k0_off5_7 (k0_t3 : Fin k0_t3_loop.trips) : ClosedOff (k0_off5 k0_t3 (BitVec.ofNat 32 56)) := ⟨![1160 * 7 + 145 * (k0_t3.val / 18) + 8 * (k0_t3.val % 18), 0], k0_off5_eq k0_t3 ⟨7, by decide⟩⟩

/-- One trip's resources: what the region reads (nothing) at its contents, what it writes (arg10,
   arg11) at any. -/
abbrev Trip_k0_t3 (c : Dev nD) (arg10 : Memref sig .tc .vmem S9280x128 .f32) (arg11 : Memref sig .tc .vmem S9280x128 .f32) (f_arg10 : BufTy.Contents (Elt F) arg10.view.ty) (f_arg11 : BufTy.Contents (Elt F) arg11.view.ty) : sProp 𝕄G :=
  iprop((arg10.view.loc (c : Thread nD τ) ↦[arg10.view.set]{fullShare} f_arg10) ∗ (arg11.view.loc (c : Thread nD τ) ↦[arg11.view.set]{fullShare} f_arg11))

/-- ONE TRIP of `k0_t3_loop` at a symbolic `k` and carried value `acc`, run by `sl_exec` (its
   rectangles where the program's in-range evidence puts them, their places unread): what it yields
   and the pieces it writes into arg10, arg11 are the run's own finds — the witnesses `sl_close`
   assigns handing the buffers to the continuation, as functions of the carried value and of the
   contents the trip finds in the memrefs it writes (the region loads some of them back).
   `@[irreducible]`: cited, never unfolded. -/
@[irreducible] def trip_k0_t3 (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x2x128 .bf16) (harg8 : arg8.IsWhole) (arg9 : Memref sig .tc .vmem S4680x2x128 .bf16) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (k : Fin k0_t3_loop.trips) :
    Σ' (R_k0_t3 : ((FVec F S8x128 .f32 × FVec F S8x128 .f32) → BufTy.Contents (Elt F) arg10.view.ty → BufTy.Contents (Elt F) arg11.view.ty → FVec F S8x128 .f32 × FVec F S8x128 .f32)) (L_arg10 : ((FVec F S8x128 .f32 × FVec F S8x128 .f32) → BufTy.Contents (Elt F) arg10.view.ty → BufTy.Contents (Elt F) arg11.view.ty → List (View.Piece (Elt F) S9280x128 .f32))) , { L_arg11 : ((FVec F S8x128 .f32 × FVec F S8x128 .f32) → BufTy.Contents (Elt F) arg10.view.ty → BufTy.Contents (Elt F) arg11.view.ty → List (View.Piece (Elt F) S9280x128 .f32)) // ∀ (E : Set ℕ) (acc : FVec F S8x128 .f32 × FVec F S8x128 .f32) (f_arg10 : BufTy.Contents (Elt F) arg10.view.ty) (f_arg11 : BufTy.Contents (Elt F) arg11.view.ty),
      Trip_k0_t3 (F := F) c arg10 arg11 f_arg10 f_arg11
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 k acc)
          (fun yld => iprop(⌜yld = R_k0_t3 acc f_arg10 f_arg11⌝ ∗ Trip_k0_t3 (F := F) c arg10 arg11 (arg10.view.writes (Elt F) f_arg10 (L_arg10 acc f_arg10 f_arg11)) (arg11.view.writes (Elt F) f_arg11 (L_arg11 acc f_arg10 f_arg11)))) } := by
  have hk : k.val < 144 := Nat.lt_of_lt_of_le k.isLt k0_t3_abs.2.1
  refine ⟨?_, ?_, ?_, fun E acc f_arg10 f_arg11 => ?run⟩
  case run =>
    unfold k0_t3_body
    iintro ⟨HW_arg10, HW_arg11⟩
    sl_exec
    sl_step
    sl_close

/-- The trip's result (a plain projection of `trip_…`, for the recursion below to cite without its
   proof). -/
abbrev tripR_k0_t3 (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x2x128 .bf16) (harg8 : arg8.IsWhole) (arg9 : Memref sig .tc .vmem S4680x2x128 .bf16) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (k : Fin k0_t3_loop.trips) (acc : FVec F S8x128 .f32 × FVec F S8x128 .f32) (f_arg10 : BufTy.Contents (Elt F) arg10.view.ty) (f_arg11 : BufTy.Contents (Elt F) arg11.view.ty) : FVec F S8x128 .f32 × FVec F S8x128 .f32 :=
  (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 k).1 acc f_arg10 f_arg11

/-- The trip's piece lists (plain projections of `trip_…`, for the recursion below to cite without
   its proof), at the carried value and the contents the trip finds in the written memrefs. -/
abbrev tripL_k0_t3 (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x2x128 .bf16) (harg8 : arg8.IsWhole) (arg9 : Memref sig .tc .vmem S4680x2x128 .bf16) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (k : Fin k0_t3_loop.trips) (acc : FVec F S8x128 .f32 × FVec F S8x128 .f32) (f_arg10 : BufTy.Contents (Elt F) arg10.view.ty) (f_arg11 : BufTy.Contents (Elt F) arg11.view.ty) : List (View.Piece (Elt F) S9280x128 .f32) × List (View.Piece (Elt F) S9280x128 .f32) :=
  ((trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 k).2.1 acc f_arg10 f_arg11, (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 k).2.2.1 acc f_arg10 f_arg11)

/-- Trip `k`'s contribution to the state the recursion `st_k0_t3` below carries (`prev`): its result
   as the new carried value and its pieces in front, per written memref; past the last trip, `prev`
   itself. -/
@[irreducible] def st_k0_t3Step (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x2x128 .bf16) (harg8 : arg8.IsWhole) (arg9 : Memref sig .tc .vmem S4680x2x128 .bf16) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (G_arg10 : BufTy.Contents (Elt F) arg10.view.ty) (G_arg11 : BufTy.Contents (Elt F) arg11.view.ty) (init : FVec F S8x128 .f32 × FVec F S8x128 .f32) (k : ℕ) (prev : (FVec F S8x128 .f32 × FVec F S8x128 .f32) × List (View.Piece (Elt F) S9280x128 .f32) × List (View.Piece (Elt F) S9280x128 .f32)) : (FVec F S8x128 .f32 × FVec F S8x128 .f32) × List (View.Piece (Elt F) S9280x128 .f32) × List (View.Piece (Elt F) S9280x128 .f32) :=
  if h : k < k0_t3_loop.trips then
    (tripR_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 ⟨k, h⟩ prev.1 (arg10.view.writes (Elt F) G_arg10 prev.2.1) (arg11.view.writes (Elt F) G_arg11 prev.2.2), (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 ⟨k, h⟩ prev.1 (arg10.view.writes (Elt F) G_arg10 prev.2.1) (arg11.view.writes (Elt F) G_arg11 prev.2.2)).1 ++ prev.2.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 ⟨k, h⟩ prev.1 (arg10.view.writes (Elt F) G_arg10 prev.2.1) (arg11.view.writes (Elt F) G_arg11 prev.2.2)).2 ++ prev.2.2)
  else prev

/-- The STATE before trip `k`: the carried value and, per written memref, the pieces of the trips
   before (last first), starting from the contents `G_·` at loop entry; each trip's pieces taken at
   the contents the earlier trips left. -/
def st_k0_t3 (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x2x128 .bf16) (harg8 : arg8.IsWhole) (arg9 : Memref sig .tc .vmem S4680x2x128 .bf16) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (G_arg10 : BufTy.Contents (Elt F) arg10.view.ty) (G_arg11 : BufTy.Contents (Elt F) arg11.view.ty) (init : FVec F S8x128 .f32 × FVec F S8x128 .f32) : ℕ → (FVec F S8x128 .f32 × FVec F S8x128 .f32) × List (View.Piece (Elt F) S9280x128 .f32) × List (View.Piece (Elt F) S9280x128 .f32)
  | 0 => (init, [], [])
  | k + 1 => st_k0_t3Step 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k (st_k0_t3 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k)

theorem st_k0_t3_succ (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x2x128 .bf16) (harg8 : arg8.IsWhole) (arg9 : Memref sig .tc .vmem S4680x2x128 .bf16) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (G_arg10 : BufTy.Contents (Elt F) arg10.view.ty) (G_arg11 : BufTy.Contents (Elt F) arg11.view.ty) (init : FVec F S8x128 .f32 × FVec F S8x128 .f32) (k : Fin k0_t3_loop.trips) :
    st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init (k.val + 1)
      = ((tripR_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 k (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).1 (arg10.view.writes (Elt F) G_arg10 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).2.1) (arg11.view.writes (Elt F) G_arg11 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).2.2)), (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 k (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).1 (arg10.view.writes (Elt F) G_arg10 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).2.1) (arg11.view.writes (Elt F) G_arg11 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).2.2)).1 ++ (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).2.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 k (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).1 (arg10.view.writes (Elt F) G_arg10 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).2.1) (arg11.view.writes (Elt F) G_arg11 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).2.2)).2 ++ (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k.val).2.2) := by
  rw [st_k0_t3.eq_2]; unfold st_k0_t3Step; exact dif_pos k.isLt

/-- The carried value before trip 0 is the initial one: the invariant's equation at loop entry,
   which the run closes by this (`sl_pure`) without unfolding the value it holds. -/
theorem st_k0_t3_zero (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x2x128 .bf16) (harg8 : arg8.IsWhole) (arg9 : Memref sig .tc .vmem S4680x2x128 .bf16) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (G_arg10 : BufTy.Contents (Elt F) arg10.view.ty) (G_arg11 : BufTy.Contents (Elt F) arg11.view.ty) (init : FVec F S8x128 .f32 × FVec F S8x128 .f32) :
    (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init 0).1 = init := rfl

/-- THE INVARIANT before trip `k`: nothing read at `X_·`; arg10, arg11 holding the pieces of the
   trips before `k` written over the contents at loop entry `G_·` (stated `∃ f, … ∗ ⌜f = …⌝`, so
   that a hypothesis of any contents matches and the equation is what is proved); and `acc` equal to
   the state's carried value (an equation the run substitutes after the loop). -/
abbrev inv_k0_t3 (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x2x128 .bf16) (harg8 : arg8.IsWhole) (arg9 : Memref sig .tc .vmem S4680x2x128 .bf16) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (G_arg10 : BufTy.Contents (Elt F) arg10.view.ty) (G_arg11 : BufTy.Contents (Elt F) arg11.view.ty) (init : FVec F S8x128 .f32 × FVec F S8x128 .f32) (k : ℕ) (acc : FVec F S8x128 .f32 × FVec F S8x128 .f32) : sProp 𝕄G :=
  iprop((∃ f, (arg10.view.loc (c : Thread nD τ) ↦[arg10.view.set]{fullShare} f) ∗ ⌜f = arg10.view.writes (Elt F) G_arg10 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k).2.1⌝) ∗ (∃ f, (arg11.view.loc (c : Thread nD τ) ↦[arg11.view.set]{fullShare} f) ∗ ⌜f = arg11.view.writes (Elt F) G_arg11 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k).2.2⌝) ∗ ⌜acc = (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k).1⌝)

set_option warn.classDefReducibility false in
/-- THE LOOP BY ITS INVARIANT — generated (`@[sl_loop]`: `sl_exec` finds it meeting `k0_t3_loop`,
   fixing `X_· G_·` and `init` against the context; after the loop each written memref holds `writes
   G (st … trips).2` and what it yields is `(st … trips).1`). -/
@[sl_loop] def loopInv_k0_t3 (𝒱 : Variants) (c : Dev nD) (bd : Option 𝒱.V) (E : Set ℕ) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x2x128 .bf16) (harg8 : arg8.IsWhole) (arg9 : Memref sig .tc .vmem S4680x2x128 .bf16) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole) (G_arg10 : BufTy.Contents (Elt F) arg10.view.ty) (G_arg11 : BufTy.Contents (Elt F) arg11.view.ty) (init : FVec F S8x128 .f32 × FVec F S8x128 .f32) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 init where
  inv := inv_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init
  step k acc := by
    iintro ⟨⟨%f_arg10, HW_arg10, %h_arg10⟩, ⟨%f_arg11, HW_arg11, %h_arg11⟩, %h_acc⟩
    subst h_acc
    iapply (wp_wand_r Idealize.ShloMosaic.frame (wpE (defs₀ (F := F)) 𝒱 (c : Thread nD τ) bd) E)
    isplitl [HW_arg10 HW_arg11]
    · iapply ((trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 k).2.2.2 E (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 G_arg10 G_arg11 init k).1 f_arg10 f_arg11)
      isplitl [HW_arg10]; · iexact HW_arg10
      iexact HW_arg11
    · iintro %yld ⟨%h_res, HW_arg10, HW_arg11⟩
      unfold inv_k0_t3
      simp only [st_k0_t3_succ]
      isplitl [HW_arg10]
      · iexists _; isplitl [HW_arg10]; · iexact HW_arg10
        ipureintro; rw [h_arg10, h_arg11, ← View.writes_append]
      isplitl [HW_arg11]
      · iexists _; isplitl [HW_arg11]; · iexact HW_arg11
        ipureintro; rw [h_arg10, h_arg11, ← View.writes_append]
      ipureintro; rw [h_res, h_arg10, h_arg11]

end Cert.KernelIdeal.Gen

end
-- ==== Proof.KernelIdealBody.lean ====
/- The kernel body idealized, run once on arbitrary staging buffers: the body's triple. Nothing is said of what
   the body computes; the inputs' buffers come back as they were, the other buffers come back at some contents. -/
module

public import proofs.«01_k».proof.Proof.Gen.KernelIdeal.Frame
public import proofs.«01_k».proof.Proof.ButterflyIdeal

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, e0]
    word_cmp
   : ∀ t : Fin grid0.N, cond0_0 (grid0.coords t) ↔ t.val % 24 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x8960 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S144x144 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4480x1536 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x8960 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S4680x2x128 .bf16 := Memref.whole cc0_scratch0
abbrev scM0_1 : Memref sig .tc .vmem S4680x2x128 .bf16 := Memref.whole cc0_scratch1
abbrev scM0_2 : Memref sig .tc .vmem S9280x128 .f32 := Memref.whole cc0_scratch2
abbrev scM0_3 : Memref sig .tc .vmem S9280x128 .f32 := Memref.whole cc0_scratch3
abbrev scM0_4 : Memref sig .tc .vmem S256x8960 .bf16 := Memref.whole cc0_scratch4
abbrev scM0_5 : Memref sig .tc .vmem S256x128 .f32 := Memref.whole cc0_scratch5
set_option maxHeartbeats 4000000 in
/-- THE BODY'S TRIPLE: on whole staging memrefs, the inputs' at their contents, the outputs' and the scratch buffers at
    anything, the body runs to the continuation holding the inputs' as they were and every other buffer at some contents —
    at the first point (the branch that zeroes two scratch buffers taken) and at the others. -/
theorem kernelRun0 (c : Dev nD) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x2x128 .bf16) (harg8 : arg8.IsWhole) (arg9 : Memref sig .tc .vmem S4680x2x128 .bf16) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole)
    (x0 : Vec F S256x8960 .bf16) (x1 : Vec F S144x144 .bf16) (x2 : Vec F S4480x1536 .i8) (x3 : Vec F S1x1536 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_hadamard_int4_down_proj i arg1 harg1 arg2 harg2 arg3 harg3 arg4 harg4 arg5 harg5 arg6 harg6 arg7 harg7 arg8 harg8 arg9 harg9 arg10 harg10 arg11 harg11 arg12 harg12 arg13 harg13) K := by
  simp only [cc0_hadamard_int4_down_proj_eq_skeleton]; unfold cc0_hadamard_int4_down_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  by_cases hc0 : cond0_0 i
  all_goals
    · iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
      obtain rfl := harg1.eq_unread hf0; obtain rfl := harg2.eq_unread hf1; obtain rfl := harg3.eq_unread hf2; obtain rfl := harg4.eq_unread hf3
      sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _, _; isplitr; swap; · iexact H4
        ipureintro; rfl
      isplitl [H5]
      · iexists _, _; isplitr; swap; · iexact H5
        ipureintro; rfl
      isplitl [H6]
      · iexists _, _; isplitr; swap; · iexact H6
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      iexists _, _; isplitr; swap; · iexact HS5
      ipureintro; rfl

end Cert.KernelIdeal.Gen

end
-- ==== Proof.KernelIdealFrame.lean ====
/- The frame of the idealized kernel: every run ends, with the argument arrays unchanged and every semaphore counter at
   zero. The three outputs' contents are not named here. -/
module

public import proofs.«01_k».proof.Proof.KernelIdealBody
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v5, main_v6, main_v7, main_v8}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c)⟩) h

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The output windows this certificate FORGETS (4, 5, 6): nothing reads what the kernel leaves in them, so nothing
    of it is named (Lib/Pipeline/Dat.lean `Dat.toRForget`). -/
def forgets0 : Fin 7 → Bool := fun w => w.val == 4 || w.val == 5 || w.val == 6

/-- The proof data of the one pipeline on core `c`: the arrays as the region finds them (`V`); after the body at
    point `t` each input's buffer at its block and the outputs, FORGOTTEN, at `Dat.unnamed`; the invariant
    the scratch buffers and the generator register at some contents;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- The body at any point: the inputs' memrefs hold their blocks, everything else is at some contents before and after
    (`kernelRun0`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.castSucc = Pipeline.ΦA spec0 c from rfl, show (dats m 0 c).Φ t.succ = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply (kernelRun0 c (grid0.coords t) _ _ _ _ _ _ _ _ _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := Idealize.SL.BI.Entails.refl _

/-- The invariant after the last point is what the region gives back. -/
theorem hout (c : Dev nD) : (dats m 0 c).Φ (Fin.last cfg0.N) ⊢ Pipeline.ΦA spec0 c := Idealize.SL.BI.Entails.refl _

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 4, 5, 6) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_forget m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Rotation.lean ====
/- The mathematics of the rotation over the reals: the signs of the Hadamard matrix of order 64, its product with a block of
   64 numbers taken in two passes of eight, and the sums it is applied to. No program is mentioned here. -/
module

public import Mathlib.Algebra.BigOperators.Ring.Finset
public import Mathlib.Data.Real.Basic
public import Mathlib.Data.EReal.Operations
public import Mathlib.Tactic.Ring
public import Mathlib.Algebra.Order.Group.Abs
public import Mathlib.Tactic.NormNum
public import Mathlib.Algebra.BigOperators.Fin

@[expose] public section

noncomputable section

namespace Cert.Rotation

open Finset

/-- The number of ones among the low six binary digits. -/
def ones (n : ℕ) : ℕ := n % 2 + n / 2 % 2 + n / 4 % 2 + n / 8 % 2 + n / 16 % 2 + n / 32 % 2

/-- The sign at `(p, q)` of the Hadamard matrix of order 64: minus one to the number of ones that `p` and `q` share. -/
def sgn (p q : ℕ) : ℤ := if ones (Nat.land p q) % 2 = 0 then 1 else -1

/-- The sign as a real number. -/
def sg (p q : ℕ) : ℝ := (sgn p q : ℝ)

theorem sgn_split_fin : ∀ g g' j j' : Fin 8, sgn (8 * g.val + j.val) (8 * g'.val + j'.val) = sgn g.val g'.val * sgn j.val j'.val := by
  decide +kernel

/-- The matrix of order 64 is the product of two of order 8. -/
theorem sg_split (g g' j j' : ℕ) (h1 : g < 8) (h2 : g' < 8) (h3 : j < 8) (h4 : j' < 8) :
    sg (8 * g + j) (8 * g' + j') = sg g g' * sg j j' := by
  have := sgn_split_fin ⟨g, h1⟩ ⟨g', h2⟩ ⟨j, h3⟩ ⟨j', h4⟩
  simp only at this
  unfold sg
  rw [this]; push_cast; rfl

/-- Row `a` of the left factor against column `q` of a token's entries laid out as 140 rows of 64. -/
def rowsum (H : ℕ → ℕ → ℝ) (x : ℕ → ℝ) (a q : ℕ) : ℝ := ∑ k ∈ range 140, H a k * x (64 * k + q)

/-- The first pass: signs within a group of eight columns. -/
def pass1 (H : ℕ → ℕ → ℝ) (x : ℕ → ℝ) (a q : ℕ) : ℝ := ∑ j ∈ range 8, sg (q % 8) j * rowsum H x a (8 * (q / 8) + j)

/-- The second pass: signs across the eight groups. -/
def rotated (H : ℕ → ℕ → ℝ) (x : ℕ → ℝ) (a q : ℕ) : ℝ := ∑ g ∈ range 8, sg (q / 8) g * pass1 H x a (8 * g + q % 8)

/-- A sum over 64 is a sum over eight groups of eight. -/
theorem sum_64 (f : ℕ → ℝ) : ∑ p ∈ range 64, f p = ∑ g ∈ range 8, ∑ j ∈ range 8, f (8 * g + j) := by
  simp only [Finset.sum_range_succ, Finset.sum_range_zero]
  norm_num
  ring

/-- The two passes give the whole matrix of signs. -/
theorem rotated_eq (H : ℕ → ℕ → ℝ) (x : ℕ → ℝ) (a q : ℕ) (hq : q < 64) :
    rotated H x a q = ∑ p ∈ range 64, sg q p * rowsum H x a p := by
  rw [sum_64]
  unfold rotated pass1
  refine Finset.sum_congr rfl fun g hg => ?_
  rw [Finset.mul_sum]
  refine Finset.sum_congr rfl fun j hj => ?_
  have hg' := Finset.mem_range.mp hg
  have hj' := Finset.mem_range.mp hj
  have e := sg_split (q / 8) g (q % 8) j (by omega) hg' (by omega) hj'
  rw [show 8 * (q / 8) + q % 8 = q by omega] at e
  rw [show (8 * g + q % 8) % 8 = q % 8 by omega, show (8 * g + q % 8) / 8 = g by omega, e]
  ring

/-- A row of the left factor that is zero gives zero. -/
theorem rotated_zero (H : ℕ → ℕ → ℝ) (x : ℕ → ℝ) (a q : ℕ) (h : ∀ k, H a k = 0) : rotated H x a q = 0 := by
  unfold rotated pass1 rowsum
  simp [h]

/-- A sum of finite extended reals indexed by the first `n` numbers is the real sum. -/
theorem sum_coe (n : ℕ) (f : ℕ → ℝ) : (∑ k : Fin n, ((f k.val : ℝ) : EReal)) = ((∑ k ∈ range n, f k : ℝ) : EReal) := by
  rw [Fin.sum_univ_eq_sum_range (fun k => ((f k : ℝ) : EReal)) n]
  induction n with
  | zero => simp
  | succ n ih => rw [Finset.sum_range_succ, Finset.sum_range_succ, ih, EReal.coe_add]

/-- Row 0 of the matrix of order 8. -/
theorem wht_0 (y : ℕ → ℝ) : ∑ j ∈ range 8, sg 0 j * y j = y 0 + y 1 + y 2 + y 3 + y 4 + y 5 + y 6 + y 7 := by
  simp only [Finset.sum_range_succ, Finset.sum_range_zero, sg, show sgn 0 0 = 1 from by decide, show sgn 0 1 = 1 from by decide, show sgn 0 2 = 1 from by decide, show sgn 0 3 = 1 from by decide, show sgn 0 4 = 1 from by decide, show sgn 0 5 = 1 from by decide, show sgn 0 6 = 1 from by decide, show sgn 0 7 = 1 from by decide]
  push_cast; ring

/-- Row 1 of the matrix of order 8. -/
theorem wht_1 (y : ℕ → ℝ) : ∑ j ∈ range 8, sg 1 j * y j = y 0 - y 1 + y 2 - y 3 + y 4 - y 5 + y 6 - y 7 := by
  simp only [Finset.sum_range_succ, Finset.sum_range_zero, sg, show sgn 1 0 = 1 from by decide, show sgn 1 1 = -1 from by decide, show sgn 1 2 = 1 from by decide, show sgn 1 3 = -1 from by decide, show sgn 1 4 = 1 from by decide, show sgn 1 5 = -1 from by decide, show sgn 1 6 = 1 from by decide, show sgn 1 7 = -1 from by decide]
  push_cast; ring

/-- Row 2 of the matrix of order 8. -/
theorem wht_2 (y : ℕ → ℝ) : ∑ j ∈ range 8, sg 2 j * y j = y 0 + y 1 - y 2 - y 3 + y 4 + y 5 - y 6 - y 7 := by
  simp only [Finset.sum_range_succ, Finset.sum_range_zero, sg, show sgn 2 0 = 1 from by decide, show sgn 2 1 = 1 from by decide, show sgn 2 2 = -1 from by decide, show sgn 2 3 = -1 from by decide, show sgn 2 4 = 1 from by decide, show sgn 2 5 = 1 from by decide, show sgn 2 6 = -1 from by decide, show sgn 2 7 = -1 from by decide]
  push_cast; ring

/-- Row 3 of the matrix of order 8. -/
theorem wht_3 (y : ℕ → ℝ) : ∑ j ∈ range 8, sg 3 j * y j = y 0 - y 1 - y 2 + y 3 + y 4 - y 5 - y 6 + y 7 := by
  simp only [Finset.sum_range_succ, Finset.sum_range_zero, sg, show sgn 3 0 = 1 from by decide, show sgn 3 1 = -1 from by decide, show sgn 3 2 = -1 from by decide, show sgn 3 3 = 1 from by decide, show sgn 3 4 = 1 from by decide, show sgn 3 5 = -1 from by decide, show sgn 3 6 = -1 from by decide, show sgn 3 7 = 1 from by decide]
  push_cast; ring

/-- Row 4 of the matrix of order 8. -/
theorem wht_4 (y : ℕ → ℝ) : ∑ j ∈ range 8, sg 4 j * y j = y 0 + y 1 + y 2 + y 3 - y 4 - y 5 - y 6 - y 7 := by
  simp only [Finset.sum_range_succ, Finset.sum_range_zero, sg, show sgn 4 0 = 1 from by decide, show sgn 4 1 = 1 from by decide, show sgn 4 2 = 1 from by decide, show sgn 4 3 = 1 from by decide, show sgn 4 4 = -1 from by decide, show sgn 4 5 = -1 from by decide, show sgn 4 6 = -1 from by decide, show sgn 4 7 = -1 from by decide]
  push_cast; ring

/-- Row 5 of the matrix of order 8. -/
theorem wht_5 (y : ℕ → ℝ) : ∑ j ∈ range 8, sg 5 j * y j = y 0 - y 1 + y 2 - y 3 - y 4 + y 5 - y 6 + y 7 := by
  simp only [Finset.sum_range_succ, Finset.sum_range_zero, sg, show sgn 5 0 = 1 from by decide, show sgn 5 1 = -1 from by decide, show sgn 5 2 = 1 from by decide, show sgn 5 3 = -1 from by decide, show sgn 5 4 = -1 from by decide, show sgn 5 5 = 1 from by decide, show sgn 5 6 = -1 from by decide, show sgn 5 7 = 1 from by decide]
  push_cast; ring

/-- Row 6 of the matrix of order 8. -/
theorem wht_6 (y : ℕ → ℝ) : ∑ j ∈ range 8, sg 6 j * y j = y 0 + y 1 - y 2 - y 3 - y 4 - y 5 + y 6 + y 7 := by
  simp only [Finset.sum_range_succ, Finset.sum_range_zero, sg, show sgn 6 0 = 1 from by decide, show sgn 6 1 = 1 from by decide, show sgn 6 2 = -1 from by decide, show sgn 6 3 = -1 from by decide, show sgn 6 4 = -1 from by decide, show sgn 6 5 = -1 from by decide, show sgn 6 6 = 1 from by decide, show sgn 6 7 = 1 from by decide]
  push_cast; ring

/-- Row 7 of the matrix of order 8. -/
theorem wht_7 (y : ℕ → ℝ) : ∑ j ∈ range 8, sg 7 j * y j = y 0 - y 1 - y 2 + y 3 - y 4 + y 5 + y 6 - y 7 := by
  simp only [Finset.sum_range_succ, Finset.sum_range_zero, sg, show sgn 7 0 = 1 from by decide, show sgn 7 1 = -1 from by decide, show sgn 7 2 = -1 from by decide, show sgn 7 3 = 1 from by decide, show sgn 7 4 = -1 from by decide, show sgn 7 5 = 1 from by decide, show sgn 7 6 = 1 from by decide, show sgn 7 7 = -1 from by decide]
  push_cast; ring

/-- The largest of a number and the magnitudes of eight others. -/
def max8 (A : ℝ) (z : ℕ → ℝ) : ℝ :=
  max (max (max (max (max (max (max (max A |z 0|) |z 1|) |z 2|) |z 3|) |z 4|) |z 5|) |z 6|) |z 7|

theorem le_max8_left (A : ℝ) (z : ℕ → ℝ) : A ≤ max8 A z := by
  simp only [max8, le_max_iff]
  simp

theorem le_max8 (A : ℝ) (z : ℕ → ℝ) (g : ℕ) (hg : g < 8) : |z g| ≤ max8 A z := by
  obtain h | h | h | h | h | h | h | h : g = 0 ∨ g = 1 ∨ g = 2 ∨ g = 3 ∨ g = 4 ∨ g = 5 ∨ g = 6 ∨ g = 7 := by omega
  all_goals
    subst h
    simp only [max8, le_max_iff]
    simp

/-- The largest is one of them. -/
theorem max8_cases (A : ℝ) (z : ℕ → ℝ) : max8 A z = A ∨ ∃ g, g < 8 ∧ max8 A z = |z g| := by
  rcases max_choice (max (max (max (max (max (max (max A |z 0|) |z 1|) |z 2|) |z 3|) |z 4|) |z 5|) |z 6|) |z 7| with h7 | h7
  swap
  · exact Or.inr ⟨7, by decide, by simp only [max8]; exact h7⟩
  rcases max_choice (max (max (max (max (max (max A |z 0|) |z 1|) |z 2|) |z 3|) |z 4|) |z 5|) |z 6| with h6 | h6
  swap
  · exact Or.inr ⟨6, by decide, by simp only [max8]; rw [h7]; exact h6⟩
  rcases max_choice (max (max (max (max (max A |z 0|) |z 1|) |z 2|) |z 3|) |z 4|) |z 5| with h5 | h5
  swap
  · exact Or.inr ⟨5, by decide, by simp only [max8]; rw [h7]; rw [h6]; exact h5⟩
  rcases max_choice (max (max (max (max A |z 0|) |z 1|) |z 2|) |z 3|) |z 4| with h4 | h4
  swap
  · exact Or.inr ⟨4, by decide, by simp only [max8]; rw [h7]; rw [h6]; rw [h5]; exact h4⟩
  rcases max_choice (max (max (max A |z 0|) |z 1|) |z 2|) |z 3| with h3 | h3
  swap
  · exact Or.inr ⟨3, by decide, by simp only [max8]; rw [h7]; rw [h6]; rw [h5]; rw [h4]; exact h3⟩
  rcases max_choice (max (max A |z 0|) |z 1|) |z 2| with h2 | h2
  swap
  · exact Or.inr ⟨2, by decide, by simp only [max8]; rw [h7]; rw [h6]; rw [h5]; rw [h4]; rw [h3]; exact h2⟩
  rcases max_choice (max A |z 0|) |z 1| with h1 | h1
  swap
  · exact Or.inr ⟨1, by decide, by simp only [max8]; rw [h7]; rw [h6]; rw [h5]; rw [h4]; rw [h3]; rw [h2]; exact h1⟩
  rcases max_choice A |z 0| with h0 | h0
  swap
  · exact Or.inr ⟨0, by decide, by simp only [max8]; rw [h7]; rw [h6]; rw [h5]; rw [h4]; rw [h3]; rw [h2]; rw [h1]; exact h0⟩
  exact Or.inl (by simp only [max8]; rw [h7]; rw [h6]; rw [h5]; rw [h4]; rw [h3]; rw [h2]; rw [h1]; exact h0)

/-- The running maximum of magnitudes at sublane `s`: trip `j` sees the rows `8 (j % 18) + s` of the eight columns `8 g + j / 18`. -/
def runMax (H : ℕ → ℕ → ℝ) (x : ℕ → ℝ) (s : ℕ) : ℕ → ℝ
  | 0 => 0
  | j + 1 => max8 (runMax H x s j) (fun g => rotated H x (8 * (j % 18) + s) (8 * g + j / 18))

/-- The second pass at column `8 g + j`. -/
theorem rotated_at (H : ℕ → ℕ → ℝ) (x : ℕ → ℝ) (a g j : ℕ) (hj : j < 8) :
    rotated H x a (8 * g + j) = ∑ g' ∈ range 8, sg g g' * pass1 H x a (8 * g' + j) := by
  unfold rotated
  rw [show (8 * g + j) / 8 = g by omega, show (8 * g + j) % 8 = j by omega]

theorem runMax_nonneg (H : ℕ → ℕ → ℝ) (x : ℕ → ℝ) (s j : ℕ) : 0 ≤ runMax H x s j := by
  induction j with
  | zero => exact le_refl _
  | succ j ih => exact ih.trans (le_max8_left _ _)

theorem runMax_mono (H : ℕ → ℕ → ℝ) (x : ℕ → ℝ) (s j n : ℕ) (h : j ≤ n) : runMax H x s j ≤ runMax H x s n := by
  induction n with
  | zero => rw [show j = 0 by omega]
  | succ n ih =>
    rcases Nat.lt_or_ge n j with hj | hj
    · rw [show j = n + 1 by omega]
    · exact (ih hj).trans (le_max8_left _ _)

/-- The largest magnitude of a token's rotated entries. -/
def tokMax (H : ℕ → ℕ → ℝ) (x : ℕ → ℝ) : ℝ := max8 0 (fun s => runMax H x s 144)

theorem tokMax_nonneg (H : ℕ → ℕ → ℝ) (x : ℕ → ℝ) : 0 ≤ tokMax H x := le_max8_left _ _

/-- No rotated entry exceeds it. -/
theorem le_tokMax (H : ℕ → ℕ → ℝ) (x : ℕ → ℝ) (a q : ℕ) (ha : a < 144) (hq : q < 64) : |rotated H x a q| ≤ tokMax H x := by
  have h1 : |rotated H x a q| ≤ runMax H x (a % 8) (18 * (q % 8) + a / 8 + 1) := by
    have := le_max8 (runMax H x (a % 8) (18 * (q % 8) + a / 8)) (fun g => rotated H x (8 * ((18 * (q % 8) + a / 8) % 18) + a % 8) (8 * g + (18 * (q % 8) + a / 8) / 18)) (q / 8) (by omega)
    have e1 : 8 * ((18 * (q % 8) + a / 8) % 18) + a % 8 = a := by omega
    have e2 : 8 * (q / 8) + (18 * (q % 8) + a / 8) / 18 = q := by omega
    simp only [e1, e2] at this
    simpa only [runMax, e1] using this
  have h2 := runMax_mono H x (a % 8) (18 * (q % 8) + a / 8 + 1) 144 (by omega)
  have h3 := le_max8 0 (fun s => runMax H x s 144) (a % 8) (by omega)
  exact (h1.trans h2).trans ((le_abs_self _).trans h3)

theorem runMax_cases (H : ℕ → ℕ → ℝ) (x : ℕ → ℝ) (s n : ℕ) (hs : s < 8) (hn : n ≤ 144) :
    runMax H x s n = 0 ∨ ∃ a q, a < 144 ∧ q < 64 ∧ runMax H x s n = |rotated H x a q| := by
  induction n with
  | zero => exact Or.inl rfl
  | succ n ih =>
    rcases max8_cases (runMax H x s n) (fun g => rotated H x (8 * (n % 18) + s) (8 * g + n / 18)) with h | ⟨g, hg, h⟩
    · rw [show runMax H x s (n + 1) = runMax H x s n from h]
      exact ih (by omega)
    · exact Or.inr ⟨8 * (n % 18) + s, 8 * g + n / 18, by omega, by omega, h⟩

/-- It is zero or the magnitude of one of them. -/
theorem tokMax_cases (H : ℕ → ℕ → ℝ) (x : ℕ → ℝ) : tokMax H x = 0 ∨ ∃ a q, a < 144 ∧ q < 64 ∧ tokMax H x = |rotated H x a q| := by
  rcases max8_cases 0 (fun s => runMax H x s 144) with h | ⟨g, hg, h⟩
  · exact Or.inl h
  · have h' : tokMax H x = runMax H x g 144 := h.trans (abs_of_nonneg (runMax_nonneg _ _ _ _))
    rcases runMax_cases H x g 144 hg (by omega) with e | ⟨a, q, ha, hq, e⟩
    · exact Or.inl (h'.trans e)
    · exact Or.inr ⟨a, q, ha, hq, h'.trans e⟩

/-- The larger of two real numbers, read among the extended reals. -/
theorem coe_max (a b : ℝ) : ((max a b : ℝ) : EReal) = max (a : EReal) (b : EReal) := EReal.coe_strictMono.monotone.map_max

/-- The magnitude of a real number, read among the extended reals. -/
theorem coe_abs (a : ℝ) : ((|a| : ℝ) : EReal) = max (a : EReal) (-(a : EReal)) := by
  rw [abs_eq_max_neg, coe_max, EReal.coe_neg]

end Cert.Rotation

end
-- ==== Proof.Quantised.lean ====
/- What the fourth counted loop of the idealized kernel leaves: the codes, as bytes and as floats. -/
module

public import proofs.«01_k».proof.Proof.ButterflyIdeal
public import proofs.«01_k».proof.Proof.Rotation
public import Idealize.ShloMosaic.Lib.Pointwise
public import Idealize.ShloMosaic.Lib.WritesUnit
public import Idealize.ShloMosaic.Lib.BitcastPair

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Rotation

/-- The code of a rotated entry: it is multiplied by the token's factor, clipped to seven in magnitude, rounded to an integer, ties to
    even, and converted. -/
def code (z r : EReal) : BitVec 32 :=
  Ideal.fptosi 32 (Ideal.liftRound Ideal.roundHalfEven (min (Ideal.ofBits FTy.f32 0x40E00000#32) (max (Ideal.ofBits FTy.f32 0xC0E00000#32) (z * r))))

theorem code_unfold (z r : EReal) : code z r = Ideal.fptosi 32 (Ideal.liftRound Ideal.roundHalfEven (min (Ideal.ofBits FTy.f32 1088421888#32) (max (Ideal.ofBits FTy.f32 3235905536#32) (z * r)))) := rfl

/-- Half of a word, as a row of 16-bit integers. -/
theorem halves_128 (v : IVec S128x128 32) (r : Fin 256) (l : Fin 128) :
    bitcast S256x128 16 v bitcasts_S128x128_w32_S256x128_w16 (ix2 r l) = (v (ix2 ⟨r.val / 2, by omega⟩ l)).extractLsb' (16 * (r.val % 2)) 16 := by
  rw [bitcast_32_16]
  have e : S256x128.row (ix2 r l) = r.val := by simp [Shape.row]
  have e2 : ∀ hp, bitcasts_S128x128_w32_S256x128_w16.srcIdx (ix2 r l) (S256x128.row (ix2 r l) / 2) hp = ix2 ⟨r.val / 2, by omega⟩ l := by
    intro hp
    funext a; apply Fin.ext
    fin_cases a
    · exact (Shape.Bitcasts.srcIdx_row _ _ _ _ _ rfl).trans (by rw [e]; rfl)
    · exact (Shape.Bitcasts.srcIdx_other _ _ _ _ _ (by decide)).trans (by simp)
  rw [e2, e]

theorem low_half (a b : BitVec 32) : ((a.setWidth 16 ++ b.setWidth 16).extractLsb' (16 * 0) 16).setWidth 8 = b.setWidth 8 := by
  apply BitVec.eq_of_getLsbD_eq
  intro i hi
  have h16 : i < 16 := by omega
  rw [BitVec.getLsbD_setWidth, BitVec.getLsbD_setWidth, BitVec.getLsbD_extractLsb', BitVec.getLsbD_append]
  simp [h16]

theorem high_half (a b : BitVec 32) : ((a.setWidth 16 ++ b.setWidth 16).extractLsb' (16 * 1) 16).setWidth 8 = a.setWidth 8 := by
  apply BitVec.eq_of_getLsbD_eq
  intro i hi
  have h16 : i < 16 := by omega
  rw [BitVec.getLsbD_setWidth, BitVec.getLsbD_setWidth, BitVec.getLsbD_extractLsb', BitVec.getLsbD_append, if_neg (by omega)]
  simp [h16]

/-- The bytes a trip writes: token `t`, column `64 a + q` of the tile. -/
theorem pay137_apply (v19 v31 : FVec Ideal S1x128 .f32) (a0 b0 a1 b1 : FVec Ideal S64x128 .f32) (R : ℕ → EReal) (z : ℕ → ℕ → ℕ → EReal)
    (h19 : ∀ l : Fin 128, v19 (ix2 0 l) = R (2 * l.val)) (h31 : ∀ l : Fin 128, v31 (ix2 0 l) = R (2 * l.val + 1))
    (ha0 : ∀ (q : Fin 64) (l : Fin 128), a0 (ix2 q l) = z (2 * l.val) 0 q.val) (hb0 : ∀ (q : Fin 64) (l : Fin 128), b0 (ix2 q l) = z (2 * l.val + 1) 0 q.val)
    (ha1 : ∀ (q : Fin 64) (l : Fin 128), a1 (ix2 q l) = z (2 * l.val) 1 q.val) (hb1 : ∀ (q : Fin 64) (l : Fin 128), b1 (ix2 q l) = z (2 * l.val + 1) 1 q.val)
    (t : Fin 256) (j : Fin 128) :
    k0_pay137 (k0_pay119 v19 v31 a0 b0) (k0_pay120 v19 a1) (k0_pay121 v31 b1) (ix2 t j) = (code (z t.val (j.val / 64) (j.val % 64)) (R t.val)).setWidth 8 := by
  unfold k0_pay137
  simp only [trunci_apply, halves_128]
  pointwise [k0_pay119, k0_pay120, k0_pay121]
  simp only [h19, h31, ha0, hb0, ha1, hb1, ← code_unfold]
  rcases Nat.mod_two_eq_zero_or_one t.val with ht | ht
  · have et : 2 * (t.val / 2) = t.val := by omega
    split
    · rw [ht, low_half, et, show j.val / 64 = 0 by omega, show j.val % 64 = j.val by omega]; rfl
    · rw [ht, low_half, et, show j.val / 64 = 1 by omega, show j.val % 64 = j.val - 64 by omega]; rfl
  · have et : 2 * (t.val / 2) + 1 = t.val := by omega
    split
    · rw [ht, high_half, et, show j.val / 64 = 0 by omega, show j.val % 64 = j.val by omega]; rfl
    · rw [ht, high_half, et, show j.val / 64 = 1 by omega, show j.val % 64 = j.val - 64 by omega]; rfl
variable (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x2x128 .bf16) (harg8 : arg8.IsWhole) (arg9 : Memref sig .tc .vmem S4680x2x128 .bf16) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole)

/-- The strided load of one row index of the rotated entries. -/
theorem strided_value_10 (X : BufTy.Contents (Elt Ideal) arg10.view.ty) (z : ℕ → ℕ → ℕ → EReal)
    (h : ∀ (r : Fin 9280) (l : Fin 128), r.val % 145 < 144 → arg10.view.read (Elt Ideal) X (ix2 r l) = z (2 * l.val) (r.val % 145) (r.val / 145))
    (k : Fin k0_t4_loop.trips) (b32 : BitVec 32) (a : ℕ) (ha : a < 2) (hb : k0_off6 k b32 = ![2 * k.val + a, 0])
    (ib : ∀ x, (![64, 128] : Fin 2 → ℕ) x = 0 ∨ k0_off6 k b32 x + (![145, 1] : Fin 2 → ℕ) x * ((![64, 128] : Fin 2 → ℕ) x - 1) < S9280x128.size x) (q : Fin 64) (l : Fin 128) :
    View.readAt (Elt Ideal) arg10.view (⟨k0_off6 k b32, ![64, 128], ![145, 1], ib⟩ : LoadRect S9280x128) X (ix2 q l) = z (2 * l.val) (2 * k.val + a) q.val := by
  have hk : k.val < 70 := lt_of_lt_of_eq k.isLt (by decide)
  rw [View.readAt_apply]
  have e1 : (145 * q.val + (2 * k.val + a)) % 145 = 2 * k.val + a := by omega
  have e2 : (145 * q.val + (2 * k.val + a)) / 145 = q.val := by omega
  have e := h ⟨145 * q.val + (2 * k.val + a), by omega⟩ l (by simp only [e1]; omega)
  simp only [e1, e2] at e
  refine Eq.trans ?_ e
  refine congrArg (arg10.view.read (Elt Ideal) X) ?_
  funext x; apply Fin.ext
  fin_cases x <;> simp [hb, LoadRect.idx] <;> omega

/-- The strided load of one row index of the rotated entries. -/
theorem strided_value_11 (X : BufTy.Contents (Elt Ideal) arg11.view.ty) (z : ℕ → ℕ → ℕ → EReal)
    (h : ∀ (r : Fin 9280) (l : Fin 128), r.val % 145 < 144 → arg11.view.read (Elt Ideal) X (ix2 r l) = z (2 * l.val + 1) (r.val % 145) (r.val / 145))
    (k : Fin k0_t4_loop.trips) (b32 : BitVec 32) (a : ℕ) (ha : a < 2) (hb : k0_off6 k b32 = ![2 * k.val + a, 0])
    (ib : ∀ x, (![64, 128] : Fin 2 → ℕ) x = 0 ∨ k0_off6 k b32 x + (![145, 1] : Fin 2 → ℕ) x * ((![64, 128] : Fin 2 → ℕ) x - 1) < S9280x128.size x) (q : Fin 64) (l : Fin 128) :
    View.readAt (Elt Ideal) arg11.view (⟨k0_off6 k b32, ![64, 128], ![145, 1], ib⟩ : LoadRect S9280x128) X (ix2 q l) = z (2 * l.val + 1) (2 * k.val + a) q.val := by
  have hk : k.val < 70 := lt_of_lt_of_eq k.isLt (by decide)
  rw [View.readAt_apply]
  have e1 : (145 * q.val + (2 * k.val + a)) % 145 = 2 * k.val + a := by omega
  have e2 : (145 * q.val + (2 * k.val + a)) / 145 = q.val := by omega
  have e := h ⟨145 * q.val + (2 * k.val + a), by omega⟩ l (by simp only [e1]; omega)
  simp only [e1, e2] at e
  refine Eq.trans ?_ e
  refine congrArg (arg11.view.read (Elt Ideal) X) ?_
  funext x; apply Fin.ext
  fin_cases x <;> simp [hb, LoadRect.idx] <;> omega

/-- The piece that trip `k` of the fourth loop writes into the result of bytes, and its value. -/
theorem trip4_pieces_6 (v17 v19 v29 : FVec Ideal S1x128 .f32) (X10 : BufTy.Contents (Elt Ideal) arg10.view.ty) (X11 : BufTy.Contents (Elt Ideal) arg11.view.ty)
    (R : ℕ → EReal) (z : ℕ → ℕ → ℕ → EReal)
    (h19 : ∀ l : Fin 128, v19 (ix2 0 l) = R (2 * l.val)) (h31 : ∀ l : Fin 128, k0_pay133 v29 (ix2 0 l) = R (2 * l.val + 1))
    (h10 : ∀ (r : Fin 9280) (l : Fin 128), r.val % 145 < 144 → arg10.view.read (Elt Ideal) X10 (ix2 r l) = z (2 * l.val) (r.val % 145) (r.val / 145))
    (h11 : ∀ (r : Fin 9280) (l : Fin 128), r.val % 145 < 144 → arg11.view.read (Elt Ideal) X11 (ix2 r l) = z (2 * l.val + 1) (r.val % 145) (r.val / 145)) (k : Fin k0_t4_loop.trips) :
    ∃ (i0 : ∀ a, k0_off7 k a + (![256, 128] : Fin 2 → ℕ) a ≤ S256x8960.size a) (w : IVec S256x128 8),
      (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v17 v19 v29 X10 X11 k).1 = [⟨Rect.unit (s := S256x8960) (k0_off7 k) ![256, 128] i0, w⟩]
      ∧ ∀ (t : Fin 256) (j : Fin 128), w (ix2 t j) = (code (z t.val (2 * k.val + j.val / 64) (j.val % 64)) (R t.val)).setWidth 8 := by
  have a0 := strided_value_10 arg10 X10 z h10 k 0#32 0 (by decide) (k0_off6_eq k 0)
  have b0 := strided_value_11 arg11 X11 z h11 k 0#32 0 (by decide) (k0_off6_eq k 0)
  have a1 := strided_value_10 arg10 X10 z h10 k 1#32 1 (by decide) (k0_off6_eq k 1)
  have b1 := strided_value_11 arg11 X11 z h11 k 1#32 1 (by decide) (k0_off6_eq k 1)
  have key := fun i0 i1 i2 i3 => pay137_apply v19 (k0_pay133 v29) _ _ _ _ R (fun t a q => z t (2 * k.val + a) q) h19 h31 (a0 i0) (b0 i1) (a1 i2) (b1 i3)
  unfold trip_k0_t4
  refine ⟨_, _, rfl, fun t j => ?_⟩
  sl_unfold_run_names
  exact key _ _ _ _ t j

/-- After `n` trips the columns below `128 n` hold the codes. -/
theorem loop4_read_6 (v17 v19 v29 : FVec Ideal S1x128 .f32) (X10 : BufTy.Contents (Elt Ideal) arg10.view.ty) (X11 : BufTy.Contents (Elt Ideal) arg11.view.ty)
    (R : ℕ → EReal) (z : ℕ → ℕ → ℕ → EReal)
    (h19 : ∀ l : Fin 128, v19 (ix2 0 l) = R (2 * l.val)) (h31 : ∀ l : Fin 128, k0_pay133 v29 (ix2 0 l) = R (2 * l.val + 1))
    (h10 : ∀ (r : Fin 9280) (l : Fin 128), r.val % 145 < 144 → arg10.view.read (Elt Ideal) X10 (ix2 r l) = z (2 * l.val) (r.val % 145) (r.val / 145))
    (h11 : ∀ (r : Fin 9280) (l : Fin 128), r.val % 145 < 144 → arg11.view.read (Elt Ideal) X11 (ix2 r l) = z (2 * l.val + 1) (r.val % 145) (r.val / 145)) (f : BufTy.Contents (Elt Ideal) arg6.view.ty) (n : ℕ) (hn : n ≤ 70) (t : Fin 256) (j : Fin 8960) (hj : j.val / 128 < n) :
    arg6.view.read (Elt Ideal) (arg6.view.writes (Elt Ideal) f
      (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v17 v19 v29 X10 X11 n).1) (ix2 t j) = (code (z t.val (j.val / 64) (j.val % 64)) (R t.val)).setWidth 8 := by
  induction n with
  | zero => omega
  | succ n ih =>
    have htr : n < k0_t4_loop.trips := by rw [show k0_t4_loop.trips = 70 from by decide]; omega
    rw [show n + 1 = (⟨n, htr⟩ : Fin k0_t4_loop.trips).val + 1 from rfl, pb_k0_t4_succ]
    obtain ⟨i0, w, he, hv⟩ := trip4_pieces_6 𝒱 c bd i arg1 harg1 arg2 harg2 arg3 harg3 arg4 harg4 arg5 harg5 arg6 harg6 arg7 harg7 arg8 harg8 arg9 harg9 arg10 harg10 arg11 harg11 arg12 harg12 arg13 harg13 v17 v19 v29 X10 X11 R z h19 h31 h10 h11 ⟨n, htr⟩
    simp only [he, List.cons_append, List.nil_append]
    by_cases hm : j.val / 128 = n
    · rw [View.read_writes_cons_unit_of_mem _ _ _ _ _ _ (ix2 t ⟨j.val % 128, by omega⟩) (k0_off7_eq _)
        (by intro a; fin_cases a <;> simp <;> omega)]
      rw [hv t ⟨j.val % 128, by omega⟩]
      simp only [show 2 * n + j.val % 128 / 64 = j.val / 64 by omega, show j.val % 128 % 64 = j.val % 64 by omega]
    · rw [View.read_writes_cons_unit_of_not_mem _ _ _ _ _ _ (k0_off7_eq _) 1 (by simp; omega)]
      exact ih (by omega) (by omega)

/-- The piece that trip `k` of the fourth loop writes into the buffer of floats, and its value. -/
theorem trip4_pieces_12 (v17 v19 v29 : FVec Ideal S1x128 .f32) (X10 : BufTy.Contents (Elt Ideal) arg10.view.ty) (X11 : BufTy.Contents (Elt Ideal) arg11.view.ty)
    (R : ℕ → EReal) (z : ℕ → ℕ → ℕ → EReal)
    (h19 : ∀ l : Fin 128, v19 (ix2 0 l) = R (2 * l.val)) (h31 : ∀ l : Fin 128, k0_pay133 v29 (ix2 0 l) = R (2 * l.val + 1))
    (h10 : ∀ (r : Fin 9280) (l : Fin 128), r.val % 145 < 144 → arg10.view.read (Elt Ideal) X10 (ix2 r l) = z (2 * l.val) (r.val % 145) (r.val / 145))
    (h11 : ∀ (r : Fin 9280) (l : Fin 128), r.val % 145 < 144 → arg11.view.read (Elt Ideal) X11 (ix2 r l) = z (2 * l.val + 1) (r.val % 145) (r.val / 145)) (k : Fin k0_t4_loop.trips) :
    ∃ (i0 : ∀ a, k0_off7 k a + (![256, 128] : Fin 2 → ℕ) a ≤ S256x8960.size a) (w : FVec Ideal S256x128 .bf16),
      (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v17 v19 v29 X10 X11 k).2.1 = [⟨Rect.unit (s := S256x8960) (k0_off7 k) ![256, 128] i0, w⟩]
      ∧ ∀ (t : Fin 256) (j : Fin 128), w (ix2 t j) = (((((code (z t.val (2 * k.val + j.val / 64) (j.val % 64)) (R t.val)).setWidth 8).toInt : ℤ) : ℝ) : EReal) := by
  have a0 := strided_value_10 arg10 X10 z h10 k 0#32 0 (by decide) (k0_off6_eq k 0)
  have b0 := strided_value_11 arg11 X11 z h11 k 0#32 0 (by decide) (k0_off6_eq k 0)
  have a1 := strided_value_10 arg10 X10 z h10 k 1#32 1 (by decide) (k0_off6_eq k 1)
  have b1 := strided_value_11 arg11 X11 z h11 k 1#32 1 (by decide) (k0_off6_eq k 1)
  have key := fun i0 i1 i2 i3 => pay137_apply v19 (k0_pay133 v29) _ _ _ _ R (fun t a q => z t (2 * k.val + a) q) h19 h31 (a0 i0) (b0 i1) (a1 i2) (b1 i3)
  unfold trip_k0_t4
  refine ⟨_, _, rfl, fun t j => ?_⟩
  sl_unfold_run_names
  unfold k0_pay138
  pointwise
  rw [key]
  rfl

/-- After `n` trips the columns below `128 n` hold the codes as floats. -/
theorem loop4_read_12 (v17 v19 v29 : FVec Ideal S1x128 .f32) (X10 : BufTy.Contents (Elt Ideal) arg10.view.ty) (X11 : BufTy.Contents (Elt Ideal) arg11.view.ty)
    (R : ℕ → EReal) (z : ℕ → ℕ → ℕ → EReal)
    (h19 : ∀ l : Fin 128, v19 (ix2 0 l) = R (2 * l.val)) (h31 : ∀ l : Fin 128, k0_pay133 v29 (ix2 0 l) = R (2 * l.val + 1))
    (h10 : ∀ (r : Fin 9280) (l : Fin 128), r.val % 145 < 144 → arg10.view.read (Elt Ideal) X10 (ix2 r l) = z (2 * l.val) (r.val % 145) (r.val / 145))
    (h11 : ∀ (r : Fin 9280) (l : Fin 128), r.val % 145 < 144 → arg11.view.read (Elt Ideal) X11 (ix2 r l) = z (2 * l.val + 1) (r.val % 145) (r.val / 145)) (f : BufTy.Contents (Elt Ideal) arg12.view.ty) (n : ℕ) (hn : n ≤ 70) (t : Fin 256) (j : Fin 8960) (hj : j.val / 128 < n) :
    arg12.view.read (Elt Ideal) (arg12.view.writes (Elt Ideal) f
      (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v17 v19 v29 X10 X11 n).2) (ix2 t j) = (((((code (z t.val (j.val / 64) (j.val % 64)) (R t.val)).setWidth 8).toInt : ℤ) : ℝ) : EReal) := by
  induction n with
  | zero => omega
  | succ n ih =>
    have htr : n < k0_t4_loop.trips := by rw [show k0_t4_loop.trips = 70 from by decide]; omega
    rw [show n + 1 = (⟨n, htr⟩ : Fin k0_t4_loop.trips).val + 1 from rfl, pb_k0_t4_succ]
    obtain ⟨i0, w, he, hv⟩ := trip4_pieces_12 𝒱 c bd i arg1 harg1 arg2 harg2 arg3 harg3 arg4 harg4 arg5 harg5 arg6 harg6 arg7 harg7 arg8 harg8 arg9 harg9 arg10 harg10 arg11 harg11 arg12 harg12 arg13 harg13 v17 v19 v29 X10 X11 R z h19 h31 h10 h11 ⟨n, htr⟩
    simp only [he, List.cons_append, List.nil_append]
    by_cases hm : j.val / 128 = n
    · rw [View.read_writes_cons_unit_of_mem _ _ _ _ _ _ (ix2 t ⟨j.val % 128, by omega⟩) (k0_off7_eq _)
        (by intro a; fin_cases a <;> simp <;> omega)]
      rw [hv t ⟨j.val % 128, by omega⟩]
      simp only [show 2 * n + j.val % 128 / 64 = j.val / 64 by omega, show j.val % 128 % 64 = j.val % 64 by omega]
    · rw [View.read_writes_cons_unit_of_not_mem _ _ _ _ _ _ (k0_off7_eq _) 1 (by simp; omega)]
      exact ih (by omega) (by omega)

end Cert.KernelIdeal.Gen

end
-- ==== Proof.Extended.lean ====
/- The rotation over the extended reals, its sums taken in the order the kernel takes them. No program is mentioned here. -/
module

public import proofs.«01_k».proof.Proof.Rotation

@[expose] public section

noncomputable section

namespace Cert.Rotation

open Finset

/-- The sum where the digit is zero, the difference elsewhere. -/
def pm (b : ℕ) (u v : EReal) : EReal := if b = 0 then u + v else u - v

/-- Row `r` of the matrix of signs of order 8 against eight extended reals, in three rounds of sums and differences. -/
def wht8 (r : ℕ) (y : ℕ → EReal) : EReal :=
  pm (r / 4) (pm (r / 2 % 2) (pm (r % 2) (y 0) (y 1)) (pm (r % 2) (y 2) (y 3))) (pm (r / 2 % 2) (pm (r % 2) (y 4) (y 5)) (pm (r % 2) (y 6) (y 7)))

/-- Row `a` of the left factor against column `q` of a token's entries laid out as 140 rows of 64. -/
def rowsumE (H : ℕ → ℕ → EReal) (x : ℕ → EReal) (a q : ℕ) : EReal := ∑ k ∈ range 140, H a k * x (64 * k + q)

/-- The first pass: signs within a group of eight columns. -/
def pass1E (H : ℕ → ℕ → EReal) (x : ℕ → EReal) (a q : ℕ) : EReal := wht8 (q % 8) (fun j => rowsumE H x a (8 * (q / 8) + j))

/-- The second pass: signs across the eight groups. -/
def rotatedE (H : ℕ → ℕ → EReal) (x : ℕ → EReal) (a q : ℕ) : EReal := wht8 (q / 8) (fun g => pass1E H x a (8 * g + q % 8))

/-- The magnitude of an extended real. -/
def absE (v : EReal) : EReal := max v (-v)

/-- The largest of an extended real and the magnitudes of eight others. -/
def max8E (A : EReal) (z : ℕ → EReal) : EReal :=
  max (max (max (max (max (max (max (max A (absE (z 0))) (absE (z 1))) (absE (z 2))) (absE (z 3))) (absE (z 4))) (absE (z 5))) (absE (z 6))) (absE (z 7))

/-- The running maximum of magnitudes at sublane `s`: trip `j` sees the rows `8 (j % 18) + s` of the eight columns `8 g + j / 18`. -/
def runMaxE (H : ℕ → ℕ → EReal) (x : ℕ → EReal) (s : ℕ) : ℕ → EReal
  | 0 => 0
  | j + 1 => max8E (runMaxE H x s j) (fun g => rotatedE H x (8 * (j % 18) + s) (8 * g + j / 18))

/-- The largest of eight extended reals. -/
def topE (M : ℕ → EReal) : EReal := Finset.fold max ⊥ (fun s : Fin 8 => M s.val) Finset.univ

/-- The largest magnitude of a token's rotated entries. -/
def tokMaxE (H : ℕ → ℕ → EReal) (x : ℕ → EReal) : EReal := topE (fun s => runMaxE H x s 144)

/-- The second pass at column `8 g + j`. -/
theorem rotatedE_at (H : ℕ → ℕ → EReal) (x : ℕ → EReal) (a g j : ℕ) (hj : j < 8) :
    rotatedE H x a (8 * g + j) = wht8 g (fun g' => pass1E H x a (8 * g' + j)) := by
  unfold rotatedE
  rw [show (8 * g + j) / 8 = g by omega, show (8 * g + j) % 8 = j by omega]

/-- A sum indexed by the first `n` numbers, as a sum over a range. -/
theorem sum_fin (n : ℕ) (f : ℕ → EReal) : (∑ k : Fin n, f k.val) = ∑ k ∈ range n, f k := Fin.sum_univ_eq_sum_range f n

/-- Row 0 of the matrix of order 8, written out. -/
theorem whtE_0 (y : ℕ → EReal) : wht8 0 y = ((y 0 + y 1) + (y 2 + y 3)) + ((y 4 + y 5) + (y 6 + y 7)) := by simp [wht8, pm]
/-- Row 0 against eight real numbers. -/
theorem wht_coe_0 (y : ℕ → EReal) (f : ℕ → ℝ) (h : ∀ j, j < 8 → y j = (f j : EReal)) : wht8 0 y = ((∑ j ∈ range 8, sg 0 j * f j : ℝ) : EReal) := by
  rw [whtE_0, wht_0, h 0 (by omega), h 1 (by omega), h 2 (by omega), h 3 (by omega), h 4 (by omega), h 5 (by omega), h 6 (by omega), h 7 (by omega)]
  simp only [← EReal.coe_add, ← EReal.coe_sub]
  congr 1
  ring
/-- Row 1 of the matrix of order 8, written out. -/
theorem whtE_1 (y : ℕ → EReal) : wht8 1 y = ((y 0 - y 1) + (y 2 - y 3)) + ((y 4 - y 5) + (y 6 - y 7)) := by simp [wht8, pm]
/-- Row 1 against eight real numbers. -/
theorem wht_coe_1 (y : ℕ → EReal) (f : ℕ → ℝ) (h : ∀ j, j < 8 → y j = (f j : EReal)) : wht8 1 y = ((∑ j ∈ range 8, sg 1 j * f j : ℝ) : EReal) := by
  rw [whtE_1, wht_1, h 0 (by omega), h 1 (by omega), h 2 (by omega), h 3 (by omega), h 4 (by omega), h 5 (by omega), h 6 (by omega), h 7 (by omega)]
  simp only [← EReal.coe_add, ← EReal.coe_sub]
  congr 1
  ring
/-- Row 2 of the matrix of order 8, written out. -/
theorem whtE_2 (y : ℕ → EReal) : wht8 2 y = ((y 0 + y 1) - (y 2 + y 3)) + ((y 4 + y 5) - (y 6 + y 7)) := by simp [wht8, pm]
/-- Row 2 against eight real numbers. -/
theorem wht_coe_2 (y : ℕ → EReal) (f : ℕ → ℝ) (h : ∀ j, j < 8 → y j = (f j : EReal)) : wht8 2 y = ((∑ j ∈ range 8, sg 2 j * f j : ℝ) : EReal) := by
  rw [whtE_2, wht_2, h 0 (by omega), h 1 (by omega), h 2 (by omega), h 3 (by omega), h 4 (by omega), h 5 (by omega), h 6 (by omega), h 7 (by omega)]
  simp only [← EReal.coe_add, ← EReal.coe_sub]
  congr 1
  ring
/-- Row 3 of the matrix of order 8, written out. -/
theorem whtE_3 (y : ℕ → EReal) : wht8 3 y = ((y 0 - y 1) - (y 2 - y 3)) + ((y 4 - y 5) - (y 6 - y 7)) := by simp [wht8, pm]
/-- Row 3 against eight real numbers. -/
theorem wht_coe_3 (y : ℕ → EReal) (f : ℕ → ℝ) (h : ∀ j, j < 8 → y j = (f j : EReal)) : wht8 3 y = ((∑ j ∈ range 8, sg 3 j * f j : ℝ) : EReal) := by
  rw [whtE_3, wht_3, h 0 (by omega), h 1 (by omega), h 2 (by omega), h 3 (by omega), h 4 (by omega), h 5 (by omega), h 6 (by omega), h 7 (by omega)]
  simp only [← EReal.coe_add, ← EReal.coe_sub]
  congr 1
  ring
/-- Row 4 of the matrix of order 8, written out. -/
theorem whtE_4 (y : ℕ → EReal) : wht8 4 y = ((y 0 + y 1) + (y 2 + y 3)) - ((y 4 + y 5) + (y 6 + y 7)) := by simp [wht8, pm]
/-- Row 4 against eight real numbers. -/
theorem wht_coe_4 (y : ℕ → EReal) (f : ℕ → ℝ) (h : ∀ j, j < 8 → y j = (f j : EReal)) : wht8 4 y = ((∑ j ∈ range 8, sg 4 j * f j : ℝ) : EReal) := by
  rw [whtE_4, wht_4, h 0 (by omega), h 1 (by omega), h 2 (by omega), h 3 (by omega), h 4 (by omega), h 5 (by omega), h 6 (by omega), h 7 (by omega)]
  simp only [← EReal.coe_add, ← EReal.coe_sub]
  congr 1
  ring
/-- Row 5 of the matrix of order 8, written out. -/
theorem whtE_5 (y : ℕ → EReal) : wht8 5 y = ((y 0 - y 1) + (y 2 - y 3)) - ((y 4 - y 5) + (y 6 - y 7)) := by simp [wht8, pm]
/-- Row 5 against eight real numbers. -/
theorem wht_coe_5 (y : ℕ → EReal) (f : ℕ → ℝ) (h : ∀ j, j < 8 → y j = (f j : EReal)) : wht8 5 y = ((∑ j ∈ range 8, sg 5 j * f j : ℝ) : EReal) := by
  rw [whtE_5, wht_5, h 0 (by omega), h 1 (by omega), h 2 (by omega), h 3 (by omega), h 4 (by omega), h 5 (by omega), h 6 (by omega), h 7 (by omega)]
  simp only [← EReal.coe_add, ← EReal.coe_sub]
  congr 1
  ring
/-- Row 6 of the matrix of order 8, written out. -/
theorem whtE_6 (y : ℕ → EReal) : wht8 6 y = ((y 0 + y 1) - (y 2 + y 3)) - ((y 4 + y 5) - (y 6 + y 7)) := by simp [wht8, pm]
/-- Row 6 against eight real numbers. -/
theorem wht_coe_6 (y : ℕ → EReal) (f : ℕ → ℝ) (h : ∀ j, j < 8 → y j = (f j : EReal)) : wht8 6 y = ((∑ j ∈ range 8, sg 6 j * f j : ℝ) : EReal) := by
  rw [whtE_6, wht_6, h 0 (by omega), h 1 (by omega), h 2 (by omega), h 3 (by omega), h 4 (by omega), h 5 (by omega), h 6 (by omega), h 7 (by omega)]
  simp only [← EReal.coe_add, ← EReal.coe_sub]
  congr 1
  ring
/-- Row 7 of the matrix of order 8, written out. -/
theorem whtE_7 (y : ℕ → EReal) : wht8 7 y = ((y 0 - y 1) - (y 2 - y 3)) - ((y 4 - y 5) - (y 6 - y 7)) := by simp [wht8, pm]
/-- Row 7 against eight real numbers. -/
theorem wht_coe_7 (y : ℕ → EReal) (f : ℕ → ℝ) (h : ∀ j, j < 8 → y j = (f j : EReal)) : wht8 7 y = ((∑ j ∈ range 8, sg 7 j * f j : ℝ) : EReal) := by
  rw [whtE_7, wht_7, h 0 (by omega), h 1 (by omega), h 2 (by omega), h 3 (by omega), h 4 (by omega), h 5 (by omega), h 6 (by omega), h 7 (by omega)]
  simp only [← EReal.coe_add, ← EReal.coe_sub]
  congr 1
  ring
/-- Signs against eight real numbers give the real sum. -/
theorem wht_coe (r : ℕ) (hr : r < 8) (y : ℕ → EReal) (f : ℕ → ℝ) (h : ∀ j, j < 8 → y j = (f j : EReal)) : wht8 r y = ((∑ j ∈ range 8, sg r j * f j : ℝ) : EReal) := by
  obtain e | e | e | e | e | e | e | e : r = 0 ∨ r = 1 ∨ r = 2 ∨ r = 3 ∨ r = 4 ∨ r = 5 ∨ r = 6 ∨ r = 7 := by omega
  all_goals subst e
  · exact wht_coe_0 y f h
  · exact wht_coe_1 y f h
  · exact wht_coe_2 y f h
  · exact wht_coe_3 y f h
  · exact wht_coe_4 y f h
  · exact wht_coe_5 y f h
  · exact wht_coe_6 y f h
  · exact wht_coe_7 y f h
/-- An infinite extended real. -/
def Inf (v : EReal) : Prop := v = ⊤ ∨ v = ⊥

/-- A sum with an infinite left summand is infinite. -/
theorem Inf.add_left {u : EReal} (v : EReal) (h : Inf u) : Inf (u + v) := by
  rcases h with rfl | rfl
  · induction v using EReal.rec with
    | bot => exact Or.inr rfl
    | coe r => exact Or.inl rfl
    | top => exact Or.inl rfl
  · exact Or.inr (EReal.bot_add v)
/-- A sum with an infinite right summand is infinite. -/
theorem Inf.add_right (u : EReal) {v : EReal} (h : Inf v) : Inf (u + v) := by rw [add_comm]; exact h.add_left u
/-- The negative of an infinite extended real is infinite. -/
theorem Inf.neg {u : EReal} (h : Inf u) : Inf (-u) := by
  rcases h with rfl | rfl
  · exact Or.inr rfl
  · exact Or.inl rfl
/-- Sums and differences with an infinite left part are infinite. -/
theorem Inf.pm_left (b : ℕ) {u : EReal} (v : EReal) (h : Inf u) : Inf (pm b u v) := by
  unfold pm
  split
  · exact h.add_left v
  · rw [sub_eq_add_neg]; exact h.add_left _
/-- Sums and differences with an infinite right part are infinite. -/
theorem Inf.pm_right (b : ℕ) (u : EReal) {v : EReal} (h : Inf v) : Inf (pm b u v) := by
  unfold pm
  split
  · exact h.add_right u
  · rw [sub_eq_add_neg]; exact h.neg.add_right _
/-- Signs against eight extended reals, one of them infinite, give an infinite one. -/
theorem Inf.wht8 (r : ℕ) (y : ℕ → EReal) (j : ℕ) (hj : j < 8) (h : Inf (y j)) : Inf (wht8 r y) := by
  unfold Rotation.wht8
  obtain e | e | e | e | e | e | e | e : j = 0 ∨ j = 1 ∨ j = 2 ∨ j = 3 ∨ j = 4 ∨ j = 5 ∨ j = 6 ∨ j = 7 := by omega
  all_goals subst e
  · exact ((h.pm_left _ _).pm_left _ _).pm_left _ _
  · exact ((h.pm_right _ _).pm_left _ _).pm_left _ _
  · exact ((h.pm_left _ _).pm_right _ _).pm_left _ _
  · exact ((h.pm_right _ _).pm_right _ _).pm_left _ _
  · exact ((h.pm_left _ _).pm_left _ _).pm_right _ _
  · exact ((h.pm_right _ _).pm_left _ _).pm_right _ _
  · exact ((h.pm_left _ _).pm_right _ _).pm_right _ _
  · exact ((h.pm_right _ _).pm_right _ _).pm_right _ _
/-- A finite sum with an infinite term is infinite. -/
theorem Inf.sum {ι : Type} [DecidableEq ι] (s : Finset ι) (f : ι → EReal) (i : ι) (hi : i ∈ s) (h : Inf (f i)) : Inf (∑ k ∈ s, f k) := by
  rw [← Finset.add_sum_erase s f hi]
  exact h.add_left _
/-- The magnitude of an infinite extended real is plus infinity. -/
theorem Inf.abs {v : EReal} (h : Inf v) : absE v = ⊤ := by
  rcases h with rfl | rfl
  · exact max_eq_left le_top
  · exact max_eq_right bot_le
/-- An extended real that is not infinite is a real number. -/
theorem real_of_not_inf {v : EReal} (h : ¬ Inf v) : v = ((v.toReal : ℝ) : EReal) :=
  (EReal.coe_toReal (fun e => h (Or.inl e)) (fun e => h (Or.inr e))).symm
/-- A real number is not infinite. -/
theorem not_inf_coe (r : ℝ) : ¬ Inf (r : EReal) := by
  rintro (h | h)
  · exact EReal.coe_ne_top r h
  · exact EReal.coe_ne_bot r h
/-- An infinite extended real times a nonzero one is infinite. -/
theorem Inf.mul {u v : EReal} (h : Inf u) (hv : v ≠ 0) : Inf (u * v) := by
  rcases h with rfl | rfl
  · rcases lt_or_gt_of_ne hv with h' | h'
    · exact Or.inr (EReal.top_mul_of_neg h')
    · exact Or.inl (EReal.top_mul_of_pos h')
  · rcases lt_or_gt_of_ne hv with h' | h'
    · exact Or.inl (EReal.bot_mul_of_neg h')
    · exact Or.inr (EReal.bot_mul_of_pos h')
/-- A product that is infinite has an infinite factor, and both factors are nonzero. -/
theorem Inf.factors {u v : EReal} (h : Inf (u * v)) : (Inf u ∨ Inf v) ∧ u ≠ 0 ∧ v ≠ 0 := by
  refine ⟨?_, ?_, ?_⟩
  · by_contra hc
    rw [not_or] at hc
    rw [real_of_not_inf hc.1, real_of_not_inf hc.2, ← EReal.coe_mul] at h
    exact not_inf_coe _ h
  · rintro rfl
    rw [zero_mul] at h
    exact not_inf_coe 0 h
  · rintro rfl
    rw [mul_zero] at h
    exact not_inf_coe 0 h

end Cert.Rotation

end
-- ==== Proof.Scales.lean ====
/- The scale of a token and the factor its rotated entries are multiplied by, from the running maxima. -/
module

public import proofs.«01_k».proof.Proof.ButterflyIdeal
public import proofs.«01_k».proof.Proof.Rotation
public import proofs.«01_k».proof.Proof.Extended
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Rotation

/-- The constant that stands for the reciprocal of the root of the number of columns. -/
def cR : ℝ := 11343468 / 2 ^ 30

theorem ofBits_c : Ideal.ofBits FTy.f32 0x3C2D166C#32 = ((cR : ℝ) : EReal) := by
  unfold cR
  simp [Ideal.ofBits, Ideal.ieee]; norm_num; rw [← EReal.coe_mul]; norm_num

theorem ofBits_7 : Ideal.ofBits FTy.f32 0x40E00000#32 = ((7 : ℝ) : EReal) := by
  simp [Ideal.ofBits, Ideal.ieee]; norm_num; rw [← EReal.coe_mul]; norm_num

theorem ofBits_m7 : Ideal.ofBits FTy.f32 0xC0E00000#32 = ((-7 : ℝ) : EReal) := by
  simp [Ideal.ofBits, Ideal.ieee]; norm_num; rw [← EReal.coe_mul]; norm_num

theorem ofBits_1 : Ideal.ofBits FTy.f32 0x3F800000#32 = ((1 : ℝ) : EReal) := by
  simp [Ideal.ofBits, Ideal.ieee]; norm_num; rw [← EReal.coe_mul]; norm_num

theorem ofBits_0 : Ideal.ofBits FTy.f32 0x00000000#32 = ((0 : ℝ) : EReal) := by
  simp [Ideal.ofBits, Ideal.ieee]

theorem ofBits_bot : Ideal.ofBits FTy.f32 0xFF800000#32 = ⊥ := by
  simp [Ideal.ofBits, Ideal.ieee]

theorem ofBits_top : Ideal.ofBits FTy.f32 0x7F800000#32 = ⊤ := by
  simp [Ideal.ofBits, Ideal.ieee]

/-- The scale from the largest magnitude: one where it is zero, a seventh of it elsewhere. -/
def scaleR (a : ℝ) : ℝ := if a = 0 then 1 else a / 7

/-- The scale from the largest magnitude, over the extended reals. -/
def scaleE (a : EReal) : EReal := if a = 0 then 1 else Ideal.div a ((7 : ℝ) : EReal)

/-- The maximum over the eight sublanes. -/
theorem fold_max_8 (f : Fin 8 → EReal) (M : ℕ → EReal) (hf : ∀ s : Fin 8, f s = M s.val) :
    Finset.fold max (Ideal.ofBits FTy.f32 0xFF800000#32) f Finset.univ = topE M := by
  rw [ofBits_bot, funext hf]
  rfl

theorem div_real (a : ℝ) {b : ℝ} (h : b ≠ 0) : Ideal.div (a : EReal) (b : EReal) = ((a / b : ℝ) : EReal) := by
  rw [Ideal.div_coe h, ← EReal.coe_mul]
  congr 1
  ring

/-- The scale from a real magnitude. -/
theorem scaleE_coe (a : ℝ) : scaleE (a : EReal) = ((scaleR a : ℝ) : EReal) := by
  unfold scaleE scaleR
  by_cases h : a = 0
  · rw [if_pos h, if_pos (by rw [h]; rfl)]; rfl
  · rw [if_neg h, if_neg (by exact_mod_cast h), div_real _ (by norm_num)]

theorem scaleR_pos (a : ℝ) (h : 0 ≤ a) : 0 < scaleR a := by
  unfold scaleR
  split
  · norm_num
  · have : 0 < a := lt_of_le_of_ne h (Ne.symm ‹_›)
    positivity

theorem cR_pos : 0 < cR := by unfold cR; norm_num

/-- The scale of the even tokens. -/
theorem pay130_apply (v : FVec Ideal S8x128 .f32) (l : Fin 128) (M : ℕ → EReal) (hv : ∀ s : Fin 8, v (ix2 s l) = M s.val) :
    k0_pay130 v (ix2 0 l) = scaleE (topE M * ((cR : ℝ) : EReal)) := by
  unfold k0_pay130
  pointwise
  rw [fold_max_8 _ M hv]
  erw [ofBits_c, ofBits_7]
  rfl

/-- The scale of the odd tokens. -/
theorem pay132_apply (v : FVec Ideal S8x128 .f32) (l : Fin 128) (M : ℕ → EReal) (hv : ∀ s : Fin 8, v (ix2 s l) = M s.val) :
    k0_pay132 v (ix2 0 l) = scaleE (topE M * ((cR : ℝ) : EReal)) := by
  unfold k0_pay132
  pointwise
  rw [fold_max_8 _ M hv]
  erw [ofBits_c, ofBits_7]
  rfl

/-- The factor of the even tokens. -/
theorem pay131_apply (v : FVec Ideal S8x128 .f32) (l : Fin 128) (M : ℕ → EReal) (hv : ∀ s : Fin 8, v (ix2 s l) = M s.val) :
    k0_pay131 v (ix2 0 l) = Ideal.div ((cR : ℝ) : EReal) (scaleE (topE M * ((cR : ℝ) : EReal))) := by
  unfold k0_pay131
  pointwise
  rw [pay130_apply v l M hv]
  erw [ofBits_c]

/-- The factor of the odd tokens. -/
theorem pay133_apply (w : FVec Ideal S1x128 .f32) (l : Fin 128) (s : EReal) (hw : w (ix2 0 l) = s) :
    k0_pay133 w (ix2 0 l) = Ideal.div ((cR : ℝ) : EReal) s := by
  unfold k0_pay133
  pointwise
  rw [hw]
  erw [ofBits_c]

end Cert.KernelIdeal.Gen

end
-- ==== Proof.Product.lean ====
/- The last product of the idealized kernel at an index: the codes of a token against the unpacked weights of a column, times the two scales. -/
module

public import proofs.«01_k».proof.Proof.ButterflyIdeal
public import proofs.«01_k».proof.Proof.Rotation
public import Idealize.ShloMosaic.Lib.Pointwise
public import Idealize.ShloMosaic.Lib.BitcastPair

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Rotation

/-- A packed weight byte spread over a word: the low four bits, sign extended, in the low half and the high four bits in the high half. -/
def nibbles (b : BitVec 8) : BitVec 32 :=
  ((((b.setWidth 32) <<< 28).sshiftRight 28) &&& 65535#32) ||| ((((b.setWidth 32) <<< 24).sshiftRight 28) <<< 16)

/-- The weight in the low (`h = 0`) or high (`h = 1`) four bits of a byte. -/
def weight (b : BitVec 8) (h : ℕ) : ℝ := ((((nibbles b).extractLsb' (16 * h) 16).toInt : ℤ) : ℝ)

/-- Half of a word, as a row of 16-bit integers. -/
theorem halves_256 (v : IVec S4480x256 32) (r : Fin 8960) (l : Fin 256) :
    bitcast S8960x256 16 v bitcasts_S4480x256_w32_S8960x256_w16 (ix2 r l) = (v (ix2 ⟨r.val / 2, by omega⟩ l)).extractLsb' (16 * (r.val % 2)) 16 := by
  rw [bitcast_32_16]
  have e : S8960x256.row (ix2 r l) = r.val := by simp [Shape.row]
  have e2 : ∀ hp, bitcasts_S4480x256_w32_S8960x256_w16.srcIdx (ix2 r l) (S8960x256.row (ix2 r l) / 2) hp = ix2 ⟨r.val / 2, by omega⟩ l := by
    intro hp
    funext a; apply Fin.ext
    fin_cases a
    · exact (Shape.Bitcasts.srcIdx_row _ _ _ _ _ rfl).trans (by rw [e]; rfl)
    · exact (Shape.Bitcasts.srcIdx_other _ _ _ _ _ (by decide)).trans (by simp)
  rw [e2, e]

/-- The unpacked weights at an index. -/
theorem pay139_apply (w : Vec Ideal S4480x256 .i8) (f : Fin 8960) (o : Fin 256) :
    k0_pay139 (F := Ideal) w (ix2 f o) = ((weight (w (ix2 ⟨f.val / 2, by omega⟩ o)) (f.val % 2) : ℝ) : EReal) := by
  unfold k0_pay139
  pointwise
  erw [halves_256]
  pointwise
  rfl

theorem pay143_dot (w : Vec Ideal S4480x256 .i8) (cb : Vec Ideal S256x8960 .bf16) (col : Vec Ideal S256x128 .f32) (ws : Vec Ideal S1x256 .f32) :
    k0_pay143 (F := Ideal) (k0_pay141 w cb col) (k0_pay142 ws) = k0_pay140 (k0_pay139 w) cb col ws := rfl
theorem pay144_dot (w : Vec Ideal S4480x256 .i8) (cb : Vec Ideal S256x8960 .bf16) (col : Vec Ideal S256x128 .f32) (ws : Vec Ideal S1x256 .f32) :
    k0_pay144 (F := Ideal) w cb col ws = k0_pay140 (k0_pay139 w) cb col ws := rfl
theorem pay147_dot (w : Vec Ideal S4480x256 .i8) (cb : Vec Ideal S256x8960 .bf16) (col : Vec Ideal S256x128 .f32) (ws : Vec Ideal S1x256 .f32) :
    k0_pay147 (F := Ideal) (k0_pay145 (F := Ideal) w) (k0_pay146 (F := Ideal) w) cb col ws = k0_pay140 (k0_pay139 w) cb col ws := rfl
theorem pay152_dot (w : Vec Ideal S4480x256 .i8) (cb : Vec Ideal S256x8960 .bf16) (col : Vec Ideal S256x128 .f32) (ws : Vec Ideal S1x256 .f32) :
    k0_pay152 (F := Ideal) (k0_pay149 (F := Ideal) w) (k0_pay150 (F := Ideal) w) k0_pay151 cb col ws = k0_pay140 (k0_pay139 w) cb col ws := rfl
theorem pay1_dot (w : Vec Ideal S4480x256 .i8) (cb : Vec Ideal S256x8960 .bf16) (col : Vec Ideal S256x128 .f32) (ws : Vec Ideal S1x256 .f32) :
    k0_pay1 (F := Ideal) (k0_pay153 w cb col) ws = k0_pay140 (k0_pay139 w) cb col ws := rfl

/-- The product block at an index. -/
theorem pay140_apply (w : Vec Ideal S4480x256 .i8) (cb : Vec Ideal S256x8960 .bf16) (col : Vec Ideal S256x128 .f32) (ws : Vec Ideal S1x256 .f32)
    (t : Fin 256) (o : Fin 256) (C : ℕ → ℝ) (W : ℕ → ℝ) (S : EReal)
    (hcb : ∀ f : Fin 8960, cb (ix2 t f) = ((C f.val : ℝ) : EReal)) (hcol : ∀ j : Fin 128, col (ix2 t j) = S)
    (hw : ∀ f : Fin 8960, weight (w (ix2 ⟨f.val / 2, by omega⟩ o)) (f.val % 2) = W f.val) :
    k0_pay140 (F := Ideal) (k0_pay139 w) cb col ws (ix2 t o)
      = ((∑ f ∈ Finset.range 8960, C f * W f : ℝ) : EReal) * S * ws (ix2 0 o) := by
  unfold k0_pay140
  pointwise
  have e : ∀ f : Fin 8960, cb (ix2 t f) * k0_pay139 (F := Ideal) w (ix2 f o) = ((C f.val * W f.val : ℝ) : EReal) := by
    intro f
    rw [hcb, pay139_apply, hw, EReal.coe_mul]
  rw [Finset.sum_congr rfl fun f _ => e f, sum_coe 8960 (fun f => C f * W f)]
  simp only [hcol, dite_eq_ite, ite_self]

end Cert.KernelIdeal.Gen

end
-- ==== Proof.Outputs.lean ====
/- What the idealized kernel leaves in one token block: the functions of the input blocks its three outputs are. -/
module

public import proofs.«01_k».proof.Proof.Quantised
public import proofs.«01_k».proof.Proof.Scales
public import proofs.«01_k».proof.Proof.Product

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Rotation

/-- The activation block as a matrix over the naturals, zero outside. -/
def xOf (x0 : Vec Ideal S256x8960 .bf16) (t j : ℕ) : EReal := if h : t < 256 ∧ j < 8960 then x0 (ix2 ⟨t, h.1⟩ ⟨j, h.2⟩) else 0
/-- The Hadamard block as a matrix over the naturals, zero outside. -/
def hOf (x1 : Vec Ideal S144x144 .bf16) (a k : ℕ) : EReal := if h : a < 144 ∧ k < 144 then x1 (ix2 ⟨a, h.1⟩ ⟨k, h.2⟩) else 0
/-- The unpacked weight of input feature `f` and output column `o`. -/
def weightOf (x2 : Vec Ideal S4480x1536 .i8) (f o : ℕ) : ℝ := if h : f < 8960 ∧ o < 1536 then weight (x2 (ix2 ⟨f / 2, by omega⟩ ⟨o, h.2⟩)) (f % 2) else 0

/-- The scale of a token whose activations are `x`. -/
def scaleOf (H : ℕ → ℕ → EReal) (x : ℕ → EReal) : EReal := scaleE (tokMaxE H x * ((cR : ℝ) : EReal))
/-- The code of feature `j` of a token whose activations are `x`. -/
def codeOf (H : ℕ → ℕ → EReal) (x : ℕ → EReal) (j : ℕ) : BitVec 8 :=
  (code (rotatedE H x (j / 64) (j % 64)) (Ideal.div ((cR : ℝ) : EReal) (scaleOf H x))).setWidth 8
/-- The product of a token's codes with a column of weights, times the token's scale. -/
def prodOf (H : ℕ → ℕ → EReal) (x : ℕ → EReal) (w : ℕ → ℝ) : EReal :=
  ((∑ f ∈ Finset.range 8960, (((codeOf H x f).toInt : ℤ) : ℝ) * w f : ℝ) : EReal) * scaleOf H x

/-- The codes of a block. -/
def outCodes (x0 : Vec Ideal S256x8960 .bf16) (x1 : Vec Ideal S144x144 .bf16) : Vec Ideal S256x8960 .i8 :=
  fun k => codeOf (hOf x1) (xOf x0 (k 0).val) (k 1).val
/-- The scales of a block: lane `l` of row `p` holds token `2 l + p`. -/
def outScales (x0 : Vec Ideal S256x8960 .bf16) (x1 : Vec Ideal S144x144 .bf16) : Vec Ideal S1x2x128 .f32 :=
  fun k => (scaleOf (hOf x1) (xOf x0 (2 * (k 2).val + (k 1).val)))
/-- The products of a block. -/
def outMain (x0 : Vec Ideal S256x8960 .bf16) (x1 : Vec Ideal S144x144 .bf16) (x2 : Vec Ideal S4480x1536 .i8) (x3 : Vec Ideal S1x1536 .f32) : Vec Ideal S256x1536 .bf16 :=
  fun k => (prodOf (hOf x1) (xOf x0 (k 0).val) (fun f => weightOf x2 f (k 1).val)) * x3 (ix2 0 (k 1))

/-- The Hadamard block is zero beyond its 140 rows and columns. -/
structure Good (x1 : Vec Ideal S144x144 .bf16) : Prop where
  h_row : ∀ a k : Fin 144, 140 ≤ a.val → x1 (ix2 a k) = (0 : EReal)
  h_col : ∀ a k : Fin 144, 140 ≤ k.val → x1 (ix2 a k) = (0 : EReal)

variable {x1 : Vec Ideal S144x144 .bf16}

/-- The activation block at an index. -/
theorem xOf_at (x0 : Vec Ideal S256x8960 .bf16) (t : Fin 256) (j : Fin 8960) : x0 (ix2 t j) = xOf x0 t.val j.val := by
  rw [xOf, dif_pos ⟨t.isLt, j.isLt⟩]
/-- The Hadamard block at an index. -/
theorem hOf_at (x1 : Vec Ideal S144x144 .bf16) (a k : Fin 144) : x1 (ix2 a k) = hOf x1 a.val k.val := by
  rw [hOf, dif_pos ⟨a.isLt, k.isLt⟩]
/-- The Hadamard block is zero in its last columns. -/
theorem Good.hOf_col (g : Good x1) (a k : ℕ) (hk : 140 ≤ k) : hOf x1 a k = 0 := by
  unfold hOf
  split
  · rename_i h; exact g.h_col ⟨a, h.1⟩ ⟨k, h.2⟩ hk
  · rfl
/-- The Hadamard block is zero in its last rows. -/
theorem Good.hOf_row (g : Good x1) (a k : ℕ) (ha : 140 ≤ a) : hOf x1 a k = 0 := by
  unfold hOf
  split
  · rename_i h; exact g.h_row ⟨a, h.1⟩ ⟨k, h.2⟩ ha
  · rfl

end Cert.KernelIdeal.Gen

end
-- ==== Proof.Combined.lean ====
/- What the third counted loop of the idealized kernel leaves in its two scratch buffers, and the maxima it carries: the signs
   across the groups of eight columns, in place, and the running maximum of the magnitudes. -/
module

public import proofs.«01_k».proof.Proof.Extended
public import proofs.«01_k».proof.Proof.ButterflyIdeal
public import proofs.«01_k».proof.Proof.Rotation
public import Idealize.ShloMosaic.Lib.Pointwise
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Rotation

variable (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x2x128 .bf16) (harg8 : arg8.IsWhole) (arg9 : Memref sig .tc .vmem S4680x2x128 .bf16) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole)

/-- The load of group `g` of a trip. -/
theorem group_value_10 (f : BufTy.Contents (Elt Ideal) arg10.view.ty) (k : Fin k0_t3_loop.trips) (y : ℕ → ℕ → ℕ → EReal)
    (hy : ∀ (g : ℕ) (hg : g < 8) (s : Fin 8) (l : Fin 128) (h : 1160 * g + 145 * (k.val / 18) + 8 * (k.val % 18) + s.val < 9280),
      arg10.view.read (Elt Ideal) f (ix2 ⟨1160 * g + 145 * (k.val / 18) + 8 * (k.val % 18) + s.val, h⟩ l) = (y g s.val l.val))
    (b32 : BitVec 32) (g : ℕ) (hg : g < 8) (hb : k0_off5 k b32 = ![1160 * g + 145 * (k.val / 18) + 8 * (k.val % 18), 0])
    (ib : ∀ a, k0_off5 k b32 a + (![8, 128] : Fin 2 → ℕ) a ≤ S9280x128.size a) (s : Fin 8) (l : Fin 128) :
    View.readAt (Elt Ideal) arg10.view (Rect.unit (s := S9280x128) (k0_off5 k b32) ![8, 128] ib).toLoadRect f (ix2 s l) = (y g s.val l.val) := by
  have hk : k.val < 144 := lt_of_lt_of_eq k.isLt (by decide)
  have h18 : k.val / 18 < 8 := by omega
  rw [View.readAt_apply]
  have e := hy g hg s l (by omega)
  refine Eq.trans ?_ e
  refine congrArg (arg10.view.read (Elt Ideal) f) ?_
  funext a; apply Fin.ext
  fin_cases a <;> simp [hb, Rect.unit, LoadRect.idx] <;> omega

/-- The pieces that trip `k` of the third loop writes, and their values, and the maximum it carries on. -/
theorem trip3_pieces_10 (f10 : BufTy.Contents (Elt Ideal) arg10.view.ty) (f11 : BufTy.Contents (Elt Ideal) arg11.view.ty) (acc : FVec Ideal S8x128 .f32 × FVec Ideal S8x128 .f32)
    (k : Fin k0_t3_loop.trips) (y : ℕ → ℕ → ℕ → EReal)
    (hy : ∀ (g : ℕ) (hg : g < 8) (s : Fin 8) (l : Fin 128) (h : 1160 * g + 145 * (k.val / 18) + 8 * (k.val % 18) + s.val < 9280),
      arg10.view.read (Elt Ideal) f10 (ix2 ⟨1160 * g + 145 * (k.val / 18) + 8 * (k.val % 18) + s.val, h⟩ l) = (y g s.val l.val))
    (A : ℕ → ℕ → EReal) (hA : ∀ (s : Fin 8) (l : Fin 128), acc.1 (ix2 s l) = (A s.val l.val)) :
    ∃ (i7 : ∀ a, k0_off5 k 56#32 a + (![8, 128] : Fin 2 → ℕ) a ≤ S9280x128.size a) (i6 : ∀ a, k0_off5 k 48#32 a + (![8, 128] : Fin 2 → ℕ) a ≤ S9280x128.size a) (i5 : ∀ a, k0_off5 k 40#32 a + (![8, 128] : Fin 2 → ℕ) a ≤ S9280x128.size a) (i4 : ∀ a, k0_off5 k 32#32 a + (![8, 128] : Fin 2 → ℕ) a ≤ S9280x128.size a) (i3 : ∀ a, k0_off5 k 24#32 a + (![8, 128] : Fin 2 → ℕ) a ≤ S9280x128.size a) (i2 : ∀ a, k0_off5 k 16#32 a + (![8, 128] : Fin 2 → ℕ) a ≤ S9280x128.size a) (i1 : ∀ a, k0_off5 k 8#32 a + (![8, 128] : Fin 2 → ℕ) a ≤ S9280x128.size a) (i0 : ∀ a, k0_off5 k 0#32 a + (![8, 128] : Fin 2 → ℕ) a ≤ S9280x128.size a) (w7 w6 w5 w4 w3 w2 w1 w0 : FVec Ideal S8x128 .f32),
      (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 k).2.1 acc f10 f11 = [⟨Rect.unit (s := S9280x128) (k0_off5 k 56#32) ![8, 128] i7, w7⟩, ⟨Rect.unit (s := S9280x128) (k0_off5 k 48#32) ![8, 128] i6, w6⟩, ⟨Rect.unit (s := S9280x128) (k0_off5 k 40#32) ![8, 128] i5, w5⟩, ⟨Rect.unit (s := S9280x128) (k0_off5 k 32#32) ![8, 128] i4, w4⟩, ⟨Rect.unit (s := S9280x128) (k0_off5 k 24#32) ![8, 128] i3, w3⟩, ⟨Rect.unit (s := S9280x128) (k0_off5 k 16#32) ![8, 128] i2, w2⟩, ⟨Rect.unit (s := S9280x128) (k0_off5 k 8#32) ![8, 128] i1, w1⟩, ⟨Rect.unit (s := S9280x128) (k0_off5 k 0#32) ![8, 128] i0, w0⟩]
      ∧ (∀ (s : Fin 8) (l : Fin 128), w7 (ix2 s l) = (wht8 7 (fun g => y g s.val l.val)) ∧ w6 (ix2 s l) = (wht8 6 (fun g => y g s.val l.val)) ∧ w5 (ix2 s l) = (wht8 5 (fun g => y g s.val l.val)) ∧ w4 (ix2 s l) = (wht8 4 (fun g => y g s.val l.val)) ∧ w3 (ix2 s l) = (wht8 3 (fun g => y g s.val l.val)) ∧ w2 (ix2 s l) = (wht8 2 (fun g => y g s.val l.val)) ∧ w1 (ix2 s l) = (wht8 1 (fun g => y g s.val l.val)) ∧ w0 (ix2 s l) = (wht8 0 (fun g => y g s.val l.val)))
      ∧ (∀ (s : Fin 8) (l : Fin 128), ((trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 k).1 acc f10 f11).1 (ix2 s l)
          = (max8E (A s.val l.val) (fun r => wht8 r (fun g => y g s.val l.val)))) := by
  have d0 := group_value_10 arg10 f10 k y hy 0#32 0 (by decide) (k0_off5_eq k 0)
  have d1 := group_value_10 arg10 f10 k y hy 8#32 1 (by decide) (k0_off5_eq k 1)
  have d2 := group_value_10 arg10 f10 k y hy 16#32 2 (by decide) (k0_off5_eq k 2)
  have d3 := group_value_10 arg10 f10 k y hy 24#32 3 (by decide) (k0_off5_eq k 3)
  have d4 := group_value_10 arg10 f10 k y hy 32#32 4 (by decide) (k0_off5_eq k 4)
  have d5 := group_value_10 arg10 f10 k y hy 40#32 5 (by decide) (k0_off5_eq k 5)
  have d6 := group_value_10 arg10 f10 k y hy 48#32 6 (by decide) (k0_off5_eq k 6)
  have d7 := group_value_10 arg10 f10 k y hy 56#32 7 (by decide) (k0_off5_eq k 7)
  unfold trip_k0_t3
  refine ⟨_, _, _, _, _, _, _, _, _, _, _, _, _, _, _, _, rfl, fun s l => ?_, fun s l => ?_⟩
  · sl_unfold_run_names
    simp only [k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay126, k0_pay127, k0_pay128, k0_pay129]
    pointwise
    simp only [d0, d1, d2, d3, d4, d5, d6, d7]
    refine ⟨?_, ?_, ?_, ?_, ?_, ?_, ?_, ?_⟩
    · rw [whtE_7]
    · rw [whtE_6]
    · rw [whtE_5]
    · rw [whtE_4]
    · rw [whtE_3]
    · rw [whtE_2]
    · rw [whtE_1]
    · rw [whtE_0]
  · sl_unfold_run_names
    dsimp only
    simp only [k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay126, k0_pay127, k0_pay128, k0_pay129]
    pointwise
    simp only [d0, d1, d2, d3, d4, d5, d6, d7, hA]
    unfold max8E
    simp only [whtE_0, whtE_1, whtE_2, whtE_3, whtE_4, whtE_5, whtE_6, whtE_7]
    rfl

/-- The load of group `g` of a trip. -/
theorem group_value_11 (f : BufTy.Contents (Elt Ideal) arg11.view.ty) (k : Fin k0_t3_loop.trips) (y : ℕ → ℕ → ℕ → EReal)
    (hy : ∀ (g : ℕ) (hg : g < 8) (s : Fin 8) (l : Fin 128) (h : 1160 * g + 145 * (k.val / 18) + 8 * (k.val % 18) + s.val < 9280),
      arg11.view.read (Elt Ideal) f (ix2 ⟨1160 * g + 145 * (k.val / 18) + 8 * (k.val % 18) + s.val, h⟩ l) = (y g s.val l.val))
    (b32 : BitVec 32) (g : ℕ) (hg : g < 8) (hb : k0_off5 k b32 = ![1160 * g + 145 * (k.val / 18) + 8 * (k.val % 18), 0])
    (ib : ∀ a, k0_off5 k b32 a + (![8, 128] : Fin 2 → ℕ) a ≤ S9280x128.size a) (s : Fin 8) (l : Fin 128) :
    View.readAt (Elt Ideal) arg11.view (Rect.unit (s := S9280x128) (k0_off5 k b32) ![8, 128] ib).toLoadRect f (ix2 s l) = (y g s.val l.val) := by
  have hk : k.val < 144 := lt_of_lt_of_eq k.isLt (by decide)
  have h18 : k.val / 18 < 8 := by omega
  rw [View.readAt_apply]
  have e := hy g hg s l (by omega)
  refine Eq.trans ?_ e
  refine congrArg (arg11.view.read (Elt Ideal) f) ?_
  funext a; apply Fin.ext
  fin_cases a <;> simp [hb, Rect.unit, LoadRect.idx] <;> omega

/-- The pieces that trip `k` of the third loop writes, and their values, and the maximum it carries on. -/
theorem trip3_pieces_11 (f10 : BufTy.Contents (Elt Ideal) arg10.view.ty) (f11 : BufTy.Contents (Elt Ideal) arg11.view.ty) (acc : FVec Ideal S8x128 .f32 × FVec Ideal S8x128 .f32)
    (k : Fin k0_t3_loop.trips) (y : ℕ → ℕ → ℕ → EReal)
    (hy : ∀ (g : ℕ) (hg : g < 8) (s : Fin 8) (l : Fin 128) (h : 1160 * g + 145 * (k.val / 18) + 8 * (k.val % 18) + s.val < 9280),
      arg11.view.read (Elt Ideal) f11 (ix2 ⟨1160 * g + 145 * (k.val / 18) + 8 * (k.val % 18) + s.val, h⟩ l) = (y g s.val l.val))
    (A : ℕ → ℕ → EReal) (hA : ∀ (s : Fin 8) (l : Fin 128), acc.2 (ix2 s l) = (A s.val l.val)) :
    ∃ (i7 : ∀ a, k0_off5 k 56#32 a + (![8, 128] : Fin 2 → ℕ) a ≤ S9280x128.size a) (i6 : ∀ a, k0_off5 k 48#32 a + (![8, 128] : Fin 2 → ℕ) a ≤ S9280x128.size a) (i5 : ∀ a, k0_off5 k 40#32 a + (![8, 128] : Fin 2 → ℕ) a ≤ S9280x128.size a) (i4 : ∀ a, k0_off5 k 32#32 a + (![8, 128] : Fin 2 → ℕ) a ≤ S9280x128.size a) (i3 : ∀ a, k0_off5 k 24#32 a + (![8, 128] : Fin 2 → ℕ) a ≤ S9280x128.size a) (i2 : ∀ a, k0_off5 k 16#32 a + (![8, 128] : Fin 2 → ℕ) a ≤ S9280x128.size a) (i1 : ∀ a, k0_off5 k 8#32 a + (![8, 128] : Fin 2 → ℕ) a ≤ S9280x128.size a) (i0 : ∀ a, k0_off5 k 0#32 a + (![8, 128] : Fin 2 → ℕ) a ≤ S9280x128.size a) (w7 w6 w5 w4 w3 w2 w1 w0 : FVec Ideal S8x128 .f32),
      (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 k).2.2.1 acc f10 f11 = [⟨Rect.unit (s := S9280x128) (k0_off5 k 56#32) ![8, 128] i7, w7⟩, ⟨Rect.unit (s := S9280x128) (k0_off5 k 48#32) ![8, 128] i6, w6⟩, ⟨Rect.unit (s := S9280x128) (k0_off5 k 40#32) ![8, 128] i5, w5⟩, ⟨Rect.unit (s := S9280x128) (k0_off5 k 32#32) ![8, 128] i4, w4⟩, ⟨Rect.unit (s := S9280x128) (k0_off5 k 24#32) ![8, 128] i3, w3⟩, ⟨Rect.unit (s := S9280x128) (k0_off5 k 16#32) ![8, 128] i2, w2⟩, ⟨Rect.unit (s := S9280x128) (k0_off5 k 8#32) ![8, 128] i1, w1⟩, ⟨Rect.unit (s := S9280x128) (k0_off5 k 0#32) ![8, 128] i0, w0⟩]
      ∧ (∀ (s : Fin 8) (l : Fin 128), w7 (ix2 s l) = (wht8 7 (fun g => y g s.val l.val)) ∧ w6 (ix2 s l) = (wht8 6 (fun g => y g s.val l.val)) ∧ w5 (ix2 s l) = (wht8 5 (fun g => y g s.val l.val)) ∧ w4 (ix2 s l) = (wht8 4 (fun g => y g s.val l.val)) ∧ w3 (ix2 s l) = (wht8 3 (fun g => y g s.val l.val)) ∧ w2 (ix2 s l) = (wht8 2 (fun g => y g s.val l.val)) ∧ w1 (ix2 s l) = (wht8 1 (fun g => y g s.val l.val)) ∧ w0 (ix2 s l) = (wht8 0 (fun g => y g s.val l.val)))
      ∧ (∀ (s : Fin 8) (l : Fin 128), ((trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 k).1 acc f10 f11).2 (ix2 s l)
          = (max8E (A s.val l.val) (fun r => wht8 r (fun g => y g s.val l.val)))) := by
  have d0 := group_value_11 arg11 f11 k y hy 0#32 0 (by decide) (k0_off5_eq k 0)
  have d1 := group_value_11 arg11 f11 k y hy 8#32 1 (by decide) (k0_off5_eq k 1)
  have d2 := group_value_11 arg11 f11 k y hy 16#32 2 (by decide) (k0_off5_eq k 2)
  have d3 := group_value_11 arg11 f11 k y hy 24#32 3 (by decide) (k0_off5_eq k 3)
  have d4 := group_value_11 arg11 f11 k y hy 32#32 4 (by decide) (k0_off5_eq k 4)
  have d5 := group_value_11 arg11 f11 k y hy 40#32 5 (by decide) (k0_off5_eq k 5)
  have d6 := group_value_11 arg11 f11 k y hy 48#32 6 (by decide) (k0_off5_eq k 6)
  have d7 := group_value_11 arg11 f11 k y hy 56#32 7 (by decide) (k0_off5_eq k 7)
  unfold trip_k0_t3
  refine ⟨_, _, _, _, _, _, _, _, _, _, _, _, _, _, _, _, rfl, fun s l => ?_, fun s l => ?_⟩
  · sl_unfold_run_names
    simp only [k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay126, k0_pay127, k0_pay128, k0_pay129]
    pointwise
    simp only [d0, d1, d2, d3, d4, d5, d6, d7]
    refine ⟨?_, ?_, ?_, ?_, ?_, ?_, ?_, ?_⟩
    · rw [whtE_7]
    · rw [whtE_6]
    · rw [whtE_5]
    · rw [whtE_4]
    · rw [whtE_3]
    · rw [whtE_2]
    · rw [whtE_1]
    · rw [whtE_0]
  · sl_unfold_run_names
    dsimp only
    simp only [k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay126, k0_pay127, k0_pay128, k0_pay129]
    pointwise
    simp only [d0, d1, d2, d3, d4, d5, d6, d7, hA]
    unfold max8E
    simp only [whtE_0, whtE_1, whtE_2, whtE_3, whtE_4, whtE_5, whtE_6, whtE_7]
    rfl

/-- Before trip `n`, the rows the earlier trips have combined hold the rotatedE entries and the others still the first pass, for the even
    tokens; and the carried maximum is that of the rows combined. -/
theorem loop3_read_10 (G10 : BufTy.Contents (Elt Ideal) arg10.view.ty) (G11 : BufTy.Contents (Elt Ideal) arg11.view.ty)
    (init : FVec Ideal S8x128 .f32 × FVec Ideal S8x128 .f32) (hinit : ∀ (s : Fin 8) (l : Fin 128), init.1 (ix2 s l) = (0))
    (H X : ℕ → ℕ → EReal)
    (hG : ∀ (r : Fin 9280) (l : Fin 128), r.val % 145 < 144 → arg10.view.read (Elt Ideal) G10 (ix2 r l) = (pass1E H (X (2 * l.val)) (r.val % 145) (r.val / 145))) (n : ℕ) (hn : n ≤ 144) :
    (∀ (r : Fin 9280) (l : Fin 128), r.val % 145 < 144 →
      arg10.view.read (Elt Ideal) (arg10.view.writes (Elt Ideal) G10 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 G10 G11 init n).2.1) (ix2 r l)
        = (if r.val / 145 % 8 * 18 + r.val % 145 / 8 < n then rotatedE H (X (2 * l.val)) (r.val % 145) (r.val / 145)
            else pass1E H (X (2 * l.val)) (r.val % 145) (r.val / 145)))
    ∧ ∀ (s : Fin 8) (l : Fin 128), (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 G10 G11 init n).1.1 (ix2 s l)
        = (runMaxE H (X (2 * l.val)) s.val n) := by
  induction n with
  | zero =>
    refine ⟨fun r l hr => ?_, fun s l => ?_⟩
    · rw [if_neg (by omega)]
      exact hG r l hr
    · exact hinit s l
  | succ n ih =>
    obtain ⟨ihr, iha⟩ := ih (by omega)
    have htr : n < k0_t3_loop.trips := by rw [show k0_t3_loop.trips = 144 from by decide]; omega
    rw [show n + 1 = (⟨n, htr⟩ : Fin k0_t3_loop.trips).val + 1 from rfl, st_k0_t3_succ]
    obtain ⟨i7, i6, i5, i4, i3, i2, i1, i0, w7, w6, w5, w4, w3, w2, w1, w0, he, hv, hm⟩ := trip3_pieces_10 𝒱 c bd i arg1 harg1 arg2 harg2 arg3 harg3 arg4 harg4 arg5 harg5 arg6 harg6 arg7 harg7 arg8 harg8 arg9 harg9 arg10 harg10 arg11 harg11 arg12 harg12 arg13 harg13
      (arg10.view.writes (Elt Ideal) G10 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 G10 G11 init n).2.1)
      (arg11.view.writes (Elt Ideal) G11 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 G10 G11 init n).2.2)
      (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 G10 G11 init n).1 ⟨n, htr⟩
      (fun g s l => pass1E H (X (2 * l)) (8 * (n % 18) + s) (8 * g + n / 18))
      (by
        intro g hg s l h
        have e1 : (1160 * g + 145 * (n / 18) + 8 * (n % 18) + s.val) / 145 = 8 * g + n / 18 := by omega
        have e2 : (1160 * g + 145 * (n / 18) + 8 * (n % 18) + s.val) % 145 = 8 * (n % 18) + s.val := by omega
        have e := ihr ⟨1160 * g + 145 * (n / 18) + 8 * (n % 18) + s.val, h⟩ l (by simp only [e2]; omega)
        rw [e, if_neg (by simp only [e1, e2]; omega)]
        simp only [e1, e2])
      (fun s l => runMaxE H (X (2 * l)) s n) iha
    refine ⟨fun r l hr => ?_, fun s l => ?_⟩
    · simp only [he, List.cons_append, List.nil_append]
      by_cases h7 : r.val / 145 = 8 * 7 + n / 18 ∧ r.val % 145 / 8 = n % 18
      · rw [View.read_writes_cons_unit_of_mem _ _ _ _ _ _ (ix2 ⟨r.val % 145 % 8, by omega⟩ l) (k0_off5_eq _ 7) (by intro a; fin_cases a <;> simp <;> omega)]
        rw [(hv ⟨r.val % 145 % 8, by omega⟩ l).1]
        have ha : 8 * (n % 18) + r.val % 145 % 8 = r.val % 145 := by omega
        rw [if_pos (by omega)]
        unfold rotatedE
        simp only [ha, show r.val / 145 / 8 = 7 by omega, show r.val / 145 % 8 = n / 18 by omega]
      rw [View.read_writes_cons_unit_of_not_mem _ _ _ _ _ _ (k0_off5_eq _ 7) 0 (by simp; omega)]
      by_cases h6 : r.val / 145 = 8 * 6 + n / 18 ∧ r.val % 145 / 8 = n % 18
      · rw [View.read_writes_cons_unit_of_mem _ _ _ _ _ _ (ix2 ⟨r.val % 145 % 8, by omega⟩ l) (k0_off5_eq _ 6) (by intro a; fin_cases a <;> simp <;> omega)]
        rw [(hv ⟨r.val % 145 % 8, by omega⟩ l).2.1]
        have ha : 8 * (n % 18) + r.val % 145 % 8 = r.val % 145 := by omega
        rw [if_pos (by omega)]
        unfold rotatedE
        simp only [ha, show r.val / 145 / 8 = 6 by omega, show r.val / 145 % 8 = n / 18 by omega]
      rw [View.read_writes_cons_unit_of_not_mem _ _ _ _ _ _ (k0_off5_eq _ 6) 0 (by simp; omega)]
      by_cases h5 : r.val / 145 = 8 * 5 + n / 18 ∧ r.val % 145 / 8 = n % 18
      · rw [View.read_writes_cons_unit_of_mem _ _ _ _ _ _ (ix2 ⟨r.val % 145 % 8, by omega⟩ l) (k0_off5_eq _ 5) (by intro a; fin_cases a <;> simp <;> omega)]
        rw [(hv ⟨r.val % 145 % 8, by omega⟩ l).2.2.1]
        have ha : 8 * (n % 18) + r.val % 145 % 8 = r.val % 145 := by omega
        rw [if_pos (by omega)]
        unfold rotatedE
        simp only [ha, show r.val / 145 / 8 = 5 by omega, show r.val / 145 % 8 = n / 18 by omega]
      rw [View.read_writes_cons_unit_of_not_mem _ _ _ _ _ _ (k0_off5_eq _ 5) 0 (by simp; omega)]
      by_cases h4 : r.val / 145 = 8 * 4 + n / 18 ∧ r.val % 145 / 8 = n % 18
      · rw [View.read_writes_cons_unit_of_mem _ _ _ _ _ _ (ix2 ⟨r.val % 145 % 8, by omega⟩ l) (k0_off5_eq _ 4) (by intro a; fin_cases a <;> simp <;> omega)]
        rw [(hv ⟨r.val % 145 % 8, by omega⟩ l).2.2.2.1]
        have ha : 8 * (n % 18) + r.val % 145 % 8 = r.val % 145 := by omega
        rw [if_pos (by omega)]
        unfold rotatedE
        simp only [ha, show r.val / 145 / 8 = 4 by omega, show r.val / 145 % 8 = n / 18 by omega]
      rw [View.read_writes_cons_unit_of_not_mem _ _ _ _ _ _ (k0_off5_eq _ 4) 0 (by simp; omega)]
      by_cases h3 : r.val / 145 = 8 * 3 + n / 18 ∧ r.val % 145 / 8 = n % 18
      · rw [View.read_writes_cons_unit_of_mem _ _ _ _ _ _ (ix2 ⟨r.val % 145 % 8, by omega⟩ l) (k0_off5_eq _ 3) (by intro a; fin_cases a <;> simp <;> omega)]
        rw [(hv ⟨r.val % 145 % 8, by omega⟩ l).2.2.2.2.1]
        have ha : 8 * (n % 18) + r.val % 145 % 8 = r.val % 145 := by omega
        rw [if_pos (by omega)]
        unfold rotatedE
        simp only [ha, show r.val / 145 / 8 = 3 by omega, show r.val / 145 % 8 = n / 18 by omega]
      rw [View.read_writes_cons_unit_of_not_mem _ _ _ _ _ _ (k0_off5_eq _ 3) 0 (by simp; omega)]
      by_cases h2 : r.val / 145 = 8 * 2 + n / 18 ∧ r.val % 145 / 8 = n % 18
      · rw [View.read_writes_cons_unit_of_mem _ _ _ _ _ _ (ix2 ⟨r.val % 145 % 8, by omega⟩ l) (k0_off5_eq _ 2) (by intro a; fin_cases a <;> simp <;> omega)]
        rw [(hv ⟨r.val % 145 % 8, by omega⟩ l).2.2.2.2.2.1]
        have ha : 8 * (n % 18) + r.val % 145 % 8 = r.val % 145 := by omega
        rw [if_pos (by omega)]
        unfold rotatedE
        simp only [ha, show r.val / 145 / 8 = 2 by omega, show r.val / 145 % 8 = n / 18 by omega]
      rw [View.read_writes_cons_unit_of_not_mem _ _ _ _ _ _ (k0_off5_eq _ 2) 0 (by simp; omega)]
      by_cases h1 : r.val / 145 = 8 * 1 + n / 18 ∧ r.val % 145 / 8 = n % 18
      · rw [View.read_writes_cons_unit_of_mem _ _ _ _ _ _ (ix2 ⟨r.val % 145 % 8, by omega⟩ l) (k0_off5_eq _ 1) (by intro a; fin_cases a <;> simp <;> omega)]
        rw [(hv ⟨r.val % 145 % 8, by omega⟩ l).2.2.2.2.2.2.1]
        have ha : 8 * (n % 18) + r.val % 145 % 8 = r.val % 145 := by omega
        rw [if_pos (by omega)]
        unfold rotatedE
        simp only [ha, show r.val / 145 / 8 = 1 by omega, show r.val / 145 % 8 = n / 18 by omega]
      rw [View.read_writes_cons_unit_of_not_mem _ _ _ _ _ _ (k0_off5_eq _ 1) 0 (by simp; omega)]
      by_cases h0 : r.val / 145 = 8 * 0 + n / 18 ∧ r.val % 145 / 8 = n % 18
      · rw [View.read_writes_cons_unit_of_mem _ _ _ _ _ _ (ix2 ⟨r.val % 145 % 8, by omega⟩ l) (k0_off5_eq _ 0) (by intro a; fin_cases a <;> simp <;> omega)]
        rw [(hv ⟨r.val % 145 % 8, by omega⟩ l).2.2.2.2.2.2.2]
        have ha : 8 * (n % 18) + r.val % 145 % 8 = r.val % 145 := by omega
        rw [if_pos (by omega)]
        unfold rotatedE
        simp only [ha, show r.val / 145 / 8 = 0 by omega, show r.val / 145 % 8 = n / 18 by omega]
      rw [View.read_writes_cons_unit_of_not_mem _ _ _ _ _ _ (k0_off5_eq _ 0) 0 (by simp; omega)]
      rw [ihr r l hr]
      have hne : r.val / 145 % 8 * 18 + r.val % 145 / 8 ≠ n := by
        intro heq
        have e1 : n / 18 = r.val / 145 % 8 := by omega
        have e2 : n % 18 = r.val % 145 / 8 := by omega
        have e3 : r.val / 145 = 8 * (r.val / 145 / 8) + r.val / 145 % 8 := by omega
        obtain h | h | h | h | h | h | h | h : r.val / 145 / 8 = 0 ∨ r.val / 145 / 8 = 1 ∨ r.val / 145 / 8 = 2 ∨ r.val / 145 / 8 = 3
            ∨ r.val / 145 / 8 = 4 ∨ r.val / 145 / 8 = 5 ∨ r.val / 145 / 8 = 6 ∨ r.val / 145 / 8 = 7 := by omega
        · exact h0 ⟨by omega, e2.symm⟩
        · exact h1 ⟨by omega, e2.symm⟩
        · exact h2 ⟨by omega, e2.symm⟩
        · exact h3 ⟨by omega, e2.symm⟩
        · exact h4 ⟨by omega, e2.symm⟩
        · exact h5 ⟨by omega, e2.symm⟩
        · exact h6 ⟨by omega, e2.symm⟩
        · exact h7 ⟨by omega, e2.symm⟩
      by_cases hlt : r.val / 145 % 8 * 18 + r.val % 145 / 8 < n
      · rw [if_pos hlt, if_pos (by omega)]
      · rw [if_neg hlt, if_neg (by omega)]
    · refine (hm s l).trans ?_
      simp only [runMaxE]
      have e := fun g => rotatedE_at H (X (2 * l.val)) (8 * (n % 18) + s.val) g (n / 18) (by omega)
      simp only [e]

/-- Before trip `n`, the rows the earlier trips have combined hold the rotatedE entries and the others still the first pass, for the odd
    tokens; and the carried maximum is that of the rows combined. -/
theorem loop3_read_11 (G10 : BufTy.Contents (Elt Ideal) arg10.view.ty) (G11 : BufTy.Contents (Elt Ideal) arg11.view.ty)
    (init : FVec Ideal S8x128 .f32 × FVec Ideal S8x128 .f32) (hinit : ∀ (s : Fin 8) (l : Fin 128), init.2 (ix2 s l) = (0))
    (H X : ℕ → ℕ → EReal)
    (hG : ∀ (r : Fin 9280) (l : Fin 128), r.val % 145 < 144 → arg11.view.read (Elt Ideal) G11 (ix2 r l) = (pass1E H (X (2 * l.val + 1)) (r.val % 145) (r.val / 145))) (n : ℕ) (hn : n ≤ 144) :
    (∀ (r : Fin 9280) (l : Fin 128), r.val % 145 < 144 →
      arg11.view.read (Elt Ideal) (arg11.view.writes (Elt Ideal) G11 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 G10 G11 init n).2.2) (ix2 r l)
        = (if r.val / 145 % 8 * 18 + r.val % 145 / 8 < n then rotatedE H (X (2 * l.val + 1)) (r.val % 145) (r.val / 145)
            else pass1E H (X (2 * l.val + 1)) (r.val % 145) (r.val / 145)))
    ∧ ∀ (s : Fin 8) (l : Fin 128), (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 G10 G11 init n).1.2 (ix2 s l)
        = (runMaxE H (X (2 * l.val + 1)) s.val n) := by
  induction n with
  | zero =>
    refine ⟨fun r l hr => ?_, fun s l => ?_⟩
    · rw [if_neg (by omega)]
      exact hG r l hr
    · exact hinit s l
  | succ n ih =>
    obtain ⟨ihr, iha⟩ := ih (by omega)
    have htr : n < k0_t3_loop.trips := by rw [show k0_t3_loop.trips = 144 from by decide]; omega
    rw [show n + 1 = (⟨n, htr⟩ : Fin k0_t3_loop.trips).val + 1 from rfl, st_k0_t3_succ]
    obtain ⟨i7, i6, i5, i4, i3, i2, i1, i0, w7, w6, w5, w4, w3, w2, w1, w0, he, hv, hm⟩ := trip3_pieces_11 𝒱 c bd i arg1 harg1 arg2 harg2 arg3 harg3 arg4 harg4 arg5 harg5 arg6 harg6 arg7 harg7 arg8 harg8 arg9 harg9 arg10 harg10 arg11 harg11 arg12 harg12 arg13 harg13
      (arg10.view.writes (Elt Ideal) G10 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 G10 G11 init n).2.1)
      (arg11.view.writes (Elt Ideal) G11 (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 G10 G11 init n).2.2)
      (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 G10 G11 init n).1 ⟨n, htr⟩
      (fun g s l => pass1E H (X (2 * l + 1)) (8 * (n % 18) + s) (8 * g + n / 18))
      (by
        intro g hg s l h
        have e1 : (1160 * g + 145 * (n / 18) + 8 * (n % 18) + s.val) / 145 = 8 * g + n / 18 := by omega
        have e2 : (1160 * g + 145 * (n / 18) + 8 * (n % 18) + s.val) % 145 = 8 * (n % 18) + s.val := by omega
        have e := ihr ⟨1160 * g + 145 * (n / 18) + 8 * (n % 18) + s.val, h⟩ l (by simp only [e2]; omega)
        rw [e, if_neg (by simp only [e1, e2]; omega)]
        simp only [e1, e2])
      (fun s l => runMaxE H (X (2 * l + 1)) s n) iha
    refine ⟨fun r l hr => ?_, fun s l => ?_⟩
    · simp only [he, List.cons_append, List.nil_append]
      by_cases h7 : r.val / 145 = 8 * 7 + n / 18 ∧ r.val % 145 / 8 = n % 18
      · rw [View.read_writes_cons_unit_of_mem _ _ _ _ _ _ (ix2 ⟨r.val % 145 % 8, by omega⟩ l) (k0_off5_eq _ 7) (by intro a; fin_cases a <;> simp <;> omega)]
        rw [(hv ⟨r.val % 145 % 8, by omega⟩ l).1]
        have ha : 8 * (n % 18) + r.val % 145 % 8 = r.val % 145 := by omega
        rw [if_pos (by omega)]
        unfold rotatedE
        simp only [ha, show r.val / 145 / 8 = 7 by omega, show r.val / 145 % 8 = n / 18 by omega]
      rw [View.read_writes_cons_unit_of_not_mem _ _ _ _ _ _ (k0_off5_eq _ 7) 0 (by simp; omega)]
      by_cases h6 : r.val / 145 = 8 * 6 + n / 18 ∧ r.val % 145 / 8 = n % 18
      · rw [View.read_writes_cons_unit_of_mem _ _ _ _ _ _ (ix2 ⟨r.val % 145 % 8, by omega⟩ l) (k0_off5_eq _ 6) (by intro a; fin_cases a <;> simp <;> omega)]
        rw [(hv ⟨r.val % 145 % 8, by omega⟩ l).2.1]
        have ha : 8 * (n % 18) + r.val % 145 % 8 = r.val % 145 := by omega
        rw [if_pos (by omega)]
        unfold rotatedE
        simp only [ha, show r.val / 145 / 8 = 6 by omega, show r.val / 145 % 8 = n / 18 by omega]
      rw [View.read_writes_cons_unit_of_not_mem _ _ _ _ _ _ (k0_off5_eq _ 6) 0 (by simp; omega)]
      by_cases h5 : r.val / 145 = 8 * 5 + n / 18 ∧ r.val % 145 / 8 = n % 18
      · rw [View.read_writes_cons_unit_of_mem _ _ _ _ _ _ (ix2 ⟨r.val % 145 % 8, by omega⟩ l) (k0_off5_eq _ 5) (by intro a; fin_cases a <;> simp <;> omega)]
        rw [(hv ⟨r.val % 145 % 8, by omega⟩ l).2.2.1]
        have ha : 8 * (n % 18) + r.val % 145 % 8 = r.val % 145 := by omega
        rw [if_pos (by omega)]
        unfold rotatedE
        simp only [ha, show r.val / 145 / 8 = 5 by omega, show r.val / 145 % 8 = n / 18 by omega]
      rw [View.read_writes_cons_unit_of_not_mem _ _ _ _ _ _ (k0_off5_eq _ 5) 0 (by simp; omega)]
      by_cases h4 : r.val / 145 = 8 * 4 + n / 18 ∧ r.val % 145 / 8 = n % 18
      · rw [View.read_writes_cons_unit_of_mem _ _ _ _ _ _ (ix2 ⟨r.val % 145 % 8, by omega⟩ l) (k0_off5_eq _ 4) (by intro a; fin_cases a <;> simp <;> omega)]
        rw [(hv ⟨r.val % 145 % 8, by omega⟩ l).2.2.2.1]
        have ha : 8 * (n % 18) + r.val % 145 % 8 = r.val % 145 := by omega
        rw [if_pos (by omega)]
        unfold rotatedE
        simp only [ha, show r.val / 145 / 8 = 4 by omega, show r.val / 145 % 8 = n / 18 by omega]
      rw [View.read_writes_cons_unit_of_not_mem _ _ _ _ _ _ (k0_off5_eq _ 4) 0 (by simp; omega)]
      by_cases h3 : r.val / 145 = 8 * 3 + n / 18 ∧ r.val % 145 / 8 = n % 18
      · rw [View.read_writes_cons_unit_of_mem _ _ _ _ _ _ (ix2 ⟨r.val % 145 % 8, by omega⟩ l) (k0_off5_eq _ 3) (by intro a; fin_cases a <;> simp <;> omega)]
        rw [(hv ⟨r.val % 145 % 8, by omega⟩ l).2.2.2.2.1]
        have ha : 8 * (n % 18) + r.val % 145 % 8 = r.val % 145 := by omega
        rw [if_pos (by omega)]
        unfold rotatedE
        simp only [ha, show r.val / 145 / 8 = 3 by omega, show r.val / 145 % 8 = n / 18 by omega]
      rw [View.read_writes_cons_unit_of_not_mem _ _ _ _ _ _ (k0_off5_eq _ 3) 0 (by simp; omega)]
      by_cases h2 : r.val / 145 = 8 * 2 + n / 18 ∧ r.val % 145 / 8 = n % 18
      · rw [View.read_writes_cons_unit_of_mem _ _ _ _ _ _ (ix2 ⟨r.val % 145 % 8, by omega⟩ l) (k0_off5_eq _ 2) (by intro a; fin_cases a <;> simp <;> omega)]
        rw [(hv ⟨r.val % 145 % 8, by omega⟩ l).2.2.2.2.2.1]
        have ha : 8 * (n % 18) + r.val % 145 % 8 = r.val % 145 := by omega
        rw [if_pos (by omega)]
        unfold rotatedE
        simp only [ha, show r.val / 145 / 8 = 2 by omega, show r.val / 145 % 8 = n / 18 by omega]
      rw [View.read_writes_cons_unit_of_not_mem _ _ _ _ _ _ (k0_off5_eq _ 2) 0 (by simp; omega)]
      by_cases h1 : r.val / 145 = 8 * 1 + n / 18 ∧ r.val % 145 / 8 = n % 18
      · rw [View.read_writes_cons_unit_of_mem _ _ _ _ _ _ (ix2 ⟨r.val % 145 % 8, by omega⟩ l) (k0_off5_eq _ 1) (by intro a; fin_cases a <;> simp <;> omega)]
        rw [(hv ⟨r.val % 145 % 8, by omega⟩ l).2.2.2.2.2.2.1]
        have ha : 8 * (n % 18) + r.val % 145 % 8 = r.val % 145 := by omega
        rw [if_pos (by omega)]
        unfold rotatedE
        simp only [ha, show r.val / 145 / 8 = 1 by omega, show r.val / 145 % 8 = n / 18 by omega]
      rw [View.read_writes_cons_unit_of_not_mem _ _ _ _ _ _ (k0_off5_eq _ 1) 0 (by simp; omega)]
      by_cases h0 : r.val / 145 = 8 * 0 + n / 18 ∧ r.val % 145 / 8 = n % 18
      · rw [View.read_writes_cons_unit_of_mem _ _ _ _ _ _ (ix2 ⟨r.val % 145 % 8, by omega⟩ l) (k0_off5_eq _ 0) (by intro a; fin_cases a <;> simp <;> omega)]
        rw [(hv ⟨r.val % 145 % 8, by omega⟩ l).2.2.2.2.2.2.2]
        have ha : 8 * (n % 18) + r.val % 145 % 8 = r.val % 145 := by omega
        rw [if_pos (by omega)]
        unfold rotatedE
        simp only [ha, show r.val / 145 / 8 = 0 by omega, show r.val / 145 % 8 = n / 18 by omega]
      rw [View.read_writes_cons_unit_of_not_mem _ _ _ _ _ _ (k0_off5_eq _ 0) 0 (by simp; omega)]
      rw [ihr r l hr]
      have hne : r.val / 145 % 8 * 18 + r.val % 145 / 8 ≠ n := by
        intro heq
        have e1 : n / 18 = r.val / 145 % 8 := by omega
        have e2 : n % 18 = r.val % 145 / 8 := by omega
        have e3 : r.val / 145 = 8 * (r.val / 145 / 8) + r.val / 145 % 8 := by omega
        obtain h | h | h | h | h | h | h | h : r.val / 145 / 8 = 0 ∨ r.val / 145 / 8 = 1 ∨ r.val / 145 / 8 = 2 ∨ r.val / 145 / 8 = 3
            ∨ r.val / 145 / 8 = 4 ∨ r.val / 145 / 8 = 5 ∨ r.val / 145 / 8 = 6 ∨ r.val / 145 / 8 = 7 := by omega
        · exact h0 ⟨by omega, e2.symm⟩
        · exact h1 ⟨by omega, e2.symm⟩
        · exact h2 ⟨by omega, e2.symm⟩
        · exact h3 ⟨by omega, e2.symm⟩
        · exact h4 ⟨by omega, e2.symm⟩
        · exact h5 ⟨by omega, e2.symm⟩
        · exact h6 ⟨by omega, e2.symm⟩
        · exact h7 ⟨by omega, e2.symm⟩
      by_cases hlt : r.val / 145 % 8 * 18 + r.val % 145 / 8 < n
      · rw [if_pos hlt, if_pos (by omega)]
      · rw [if_neg hlt, if_neg (by omega)]
    · refine (hm s l).trans ?_
      simp only [runMaxE]
      have e := fun g => rotatedE_at H (X (2 * l.val + 1)) (8 * (n % 18) + s.val) g (n / 18) (by omega)
      simp only [e]

end Cert.KernelIdeal.Gen

end
-- ==== Proof.Rotated.lean ====
/- What the second counted loop of the idealized kernel leaves in its two scratch buffers: the product of the padded left factor
   with every column of the transposed tokens, after the signs within a group of eight columns. -/
module

public import proofs.«01_k».proof.Proof.ButterflyIdeal
public import proofs.«01_k».proof.Proof.Rotation
public import proofs.«01_k».proof.Proof.Extended
public import Idealize.ShloMosaic.Lib.Pointwise
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Rotation

theorem k0_pay3_dot (a b : Vec Ideal S72x2x128 .bf16) (h : Vec Ideal S144x144 .bf16) : k0_pay3 (F := Ideal) a b h = k0_pay2 a b h := rfl
theorem k0_pay6_dot (a b : Vec Ideal S72x2x128 .bf16) (h : Vec Ideal S144x144 .bf16) : k0_pay6 (F := Ideal) a b h = k0_pay2 a b h := rfl
theorem k0_pay7_dot (a b : Vec Ideal S72x2x128 .bf16) (h : Vec Ideal S144x144 .bf16) : k0_pay7 (F := Ideal) a b h = k0_pay2 a b h := rfl
theorem k0_pay8_dot (a b : Vec Ideal S72x2x128 .bf16) (h : Vec Ideal S144x144 .bf16) : k0_pay8 (F := Ideal) a b h = k0_pay2 a b h := rfl
theorem k0_pay9_dot (a b : Vec Ideal S72x2x128 .bf16) (h : Vec Ideal S144x144 .bf16) : k0_pay9 (F := Ideal) a b h = k0_pay2 a b h := rfl
theorem k0_pay5_dot (a b : Vec Ideal S72x2x128 .bf16) (h : Vec Ideal S144x144 .bf16) : k0_pay5 (F := Ideal) (k0_pay4 a) b h = k0_pay2 a b h := rfl
theorem k0_pay11_dot (a b : Vec Ideal S72x2x128 .bf16) (h : Vec Ideal S144x144 .bf16) : k0_pay11 (F := Ideal) (k0_pay10 a b) h = k0_pay2 a b h := rfl

/-- The token at column `l` of the 256 columns: the even tokens first, then the odd ones. -/
def tokOf (l : ℕ) : ℕ := if l < 128 then 2 * l else 2 * (l - 128) + 1

theorem tokOf_lo {l : ℕ} (h : l < 128) : tokOf l = 2 * l := if_pos h
theorem tokOf_hi (l : ℕ) : tokOf (128 + l) = 2 * l + 1 := by
  unfold tokOf
  rw [if_neg (by omega)]
  omega

/-- The product of the padded left factor with one column group, at an index: the sum over the 140 rows that hold data. -/
theorem k0_pay2_apply (v8 v9 : Vec Ideal S72x2x128 .bf16) (h : Vec Ideal S144x144 .bf16) (H X : ℕ → ℕ → EReal) (q : ℕ)
    (hh : ∀ a k : Fin 144, h (ix2 a k) = (H a.val k.val)) (hH : ∀ a k, 140 ≤ k → H a k = 0)
    (h8 : ∀ (m : Fin 72) (p : Fin 2) (l : Fin 128), m.val < 70 → v8 (ix3 m p l) = (X (2 * l.val) (128 * m.val + 64 * p.val + q)))
    (h9 : ∀ (m : Fin 72) (p : Fin 2) (l : Fin 128), m.val < 70 → v9 (ix3 m p l) = (X (2 * l.val + 1) (128 * m.val + 64 * p.val + q)))
    (a : Fin 144) (l : Fin 256) :
    k0_pay2 v8 v9 h (ix2 a l) = (rowsumE H (X (tokOf l.val)) a.val q) := by
  unfold k0_pay2
  pointwise
  have key : ∀ k : Fin 144, h (ix2 a k) * (if h : l.val < 128 then if k.val % 2 = 0 then v8 (ix3 ⟨k.val / 2, by omega⟩ 0 ⟨l.val, h⟩) else v8 (ix3 ⟨k.val / 2, by omega⟩ 1 ⟨l.val, h⟩)
        else if k.val % 2 = 0 then v9 (ix3 ⟨k.val / 2, by omega⟩ 0 ⟨l.val - 128, by omega⟩) else v9 (ix3 ⟨k.val / 2, by omega⟩ 1 ⟨l.val - 128, by omega⟩)) = (H a.val k.val * X (tokOf l.val) (64 * k.val + q)) := by
    intro k
    rw [hh]
    by_cases hk : k.val < 140
    · unfold tokOf
      split <;> split
      · rw [h8 _ _ _ (by simp only; omega)]
        congr 2; simp; omega
      · rw [h8 _ _ _ (by simp only; omega)]
        congr 2; simp; omega
      · rw [h9 _ _ _ (by simp only; omega)]
        congr 2; simp; omega
      · rw [h9 _ _ _ (by simp only; omega)]
        congr 2; simp; omega
    · rw [hH _ _ (by omega)]
      simp
  refine (Finset.sum_congr rfl fun k _ => key k).trans ?_
  rw [sum_fin 144 (fun k => H a.val k * X (tokOf l.val) (64 * k + q))]
  unfold rowsumE
  simp [Finset.sum_range_succ _ 143, Finset.sum_range_succ _ 142, Finset.sum_range_succ _ 141, Finset.sum_range_succ _ 140, hH]

/-- The product with column group `8 k + j`, from the transposed tokens. -/
theorem dot_value {arg2 : Memref sig .tc .vmem S144x144 .bf16} {arg8 : Memref sig .tc .vmem S4680x2x128 .bf16} {arg9 : Memref sig .tc .vmem S4680x2x128 .bf16}
    (X2 : BufTy.Contents (Elt Ideal) arg2.view.ty) (X8 : BufTy.Contents (Elt Ideal) arg8.view.ty) (X9 : BufTy.Contents (Elt Ideal) arg9.view.ty)
    (H X : ℕ → ℕ → EReal)
    (hh : ∀ a k : Fin 144, arg2.view.read (Elt Ideal) X2 (ix2 a k) = (H a.val k.val)) (hH : ∀ a k, 140 ≤ k → H a k = 0)
    (h8 : ∀ (r : Fin 4680) (p : Fin 2) (l : Fin 128), r.val / 65 < 70 → r.val % 65 < 64 → arg8.view.read (Elt Ideal) X8 (ix3 r p l) = (X (2 * l.val) (128 * (r.val / 65) + 64 * p.val + r.val % 65)))
    (h9 : ∀ (r : Fin 4680) (p : Fin 2) (l : Fin 128), r.val / 65 < 70 → r.val % 65 < 64 → arg9.view.read (Elt Ideal) X9 (ix3 r p l) = (X (2 * l.val + 1) (128 * (r.val / 65) + 64 * p.val + r.val % 65)))
    (k : Fin k0_t2_loop.trips) (b32 : BitVec 32) (j : ℕ) (hj : j < 8) (hb : k0_off3 k b32 = ![8 * k.val + j, 0, 0]) (i8 i9 : ∀ a, (![72, 2, 128] : Fin 3 → ℕ) a = 0 ∨ k0_off3 k b32 a + (![65, 1, 1] : Fin 3 → ℕ) a * ((![72, 2, 128] : Fin 3 → ℕ) a - 1) < S4680x2x128.size a)
    (i2 : ∀ a, (![0, 0] : Fin 2 → ℕ) a + (![144, 144] : Fin 2 → ℕ) a ≤ S144x144.size a) (a : Fin 144) (l : Fin 256) :
    k0_pay2 (View.readAt (Elt Ideal) arg8.view (⟨k0_off3 k b32, ![72, 2, 128], ![65, 1, 1], i8⟩ : LoadRect S4680x2x128) X8)
        (View.readAt (Elt Ideal) arg9.view (⟨k0_off3 k b32, ![72, 2, 128], ![65, 1, 1], i9⟩ : LoadRect S4680x2x128) X9)
        (View.readAt (Elt Ideal) arg2.view (Rect.unit (s := S144x144) ![0, 0] ![144, 144] i2).toLoadRect X2) (ix2 a l)
      = (rowsumE H (X (tokOf l.val)) a.val (8 * k.val + j)) := by
  have hk : k.val < 8 := lt_of_lt_of_eq k.isLt (by decide)
  refine k0_pay2_apply _ _ _ H X _ ?_ hH ?_ ?_ a l
  · intro a k'
    rw [View.readAt_apply, ← hh]
    refine congrArg (arg2.view.read (Elt Ideal) X2) ?_
    funext b; apply Fin.ext
    fin_cases b <;> simp [Rect.unit, LoadRect.idx]
  · intro m p l hm
    rw [View.readAt_apply]
    have e1 : (65 * m.val + 8 * k.val + j) / 65 = m.val := by omega
    have e2 : (65 * m.val + 8 * k.val + j) % 65 = 8 * k.val + j := by omega
    have e := h8 ⟨65 * m.val + 8 * k.val + j, by omega⟩ p l (by simp only [e1]; exact hm) (by simp only [e2]; omega)
    simp only [e1, e2] at e
    refine Eq.trans ?_ e
    refine congrArg (arg8.view.read (Elt Ideal) X8) ?_
    funext b; apply Fin.ext
    fin_cases b <;> simp [hb, LoadRect.idx] <;> omega
  · intro m p l hm
    rw [View.readAt_apply]
    have e1 : (65 * m.val + 8 * k.val + j) / 65 = m.val := by omega
    have e2 : (65 * m.val + 8 * k.val + j) % 65 = 8 * k.val + j := by omega
    have e := h9 ⟨65 * m.val + 8 * k.val + j, by omega⟩ p l (by simp only [e1]; exact hm) (by simp only [e2]; omega)
    simp only [e1, e2] at e
    refine Eq.trans ?_ e
    refine congrArg (arg9.view.read (Elt Ideal) X9) ?_
    funext b; apply Fin.ext
    fin_cases b <;> simp [hb, LoadRect.idx] <;> omega
variable (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x2x128 .bf16) (harg8 : arg8.IsWhole) (arg9 : Memref sig .tc .vmem S4680x2x128 .bf16) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole)

/-- The pieces that trip `k` of the second loop writes, and their values: row `r` of the signs against the eight products of the group. -/
theorem trip2_pieces_10 (X2 : BufTy.Contents (Elt Ideal) arg2.view.ty) (X8 : BufTy.Contents (Elt Ideal) arg8.view.ty) (X9 : BufTy.Contents (Elt Ideal) arg9.view.ty)
    (H X : ℕ → ℕ → EReal)
    (hh : ∀ a k : Fin 144, arg2.view.read (Elt Ideal) X2 (ix2 a k) = (H a.val k.val)) (hH : ∀ a k, 140 ≤ k → H a k = 0)
    (h8 : ∀ (r : Fin 4680) (p : Fin 2) (l : Fin 128), r.val / 65 < 70 → r.val % 65 < 64 → arg8.view.read (Elt Ideal) X8 (ix3 r p l) = (X (2 * l.val) (128 * (r.val / 65) + 64 * p.val + r.val % 65)))
    (h9 : ∀ (r : Fin 4680) (p : Fin 2) (l : Fin 128), r.val / 65 < 70 → r.val % 65 < 64 → arg9.view.read (Elt Ideal) X9 (ix3 r p l) = (X (2 * l.val + 1) (128 * (r.val / 65) + 64 * p.val + r.val % 65))) (k : Fin k0_t2_loop.trips) :
    ∃ (i7 : ∀ a, k0_off4 k 7#32 a + (![144, 128] : Fin 2 → ℕ) a ≤ S9280x128.size a) (i6 : ∀ a, k0_off4 k 6#32 a + (![144, 128] : Fin 2 → ℕ) a ≤ S9280x128.size a) (i5 : ∀ a, k0_off4 k 5#32 a + (![144, 128] : Fin 2 → ℕ) a ≤ S9280x128.size a) (i4 : ∀ a, k0_off4 k 4#32 a + (![144, 128] : Fin 2 → ℕ) a ≤ S9280x128.size a) (i3 : ∀ a, k0_off4 k 3#32 a + (![144, 128] : Fin 2 → ℕ) a ≤ S9280x128.size a) (i2 : ∀ a, k0_off4 k 2#32 a + (![144, 128] : Fin 2 → ℕ) a ≤ S9280x128.size a) (i1 : ∀ a, k0_off4 k 1#32 a + (![144, 128] : Fin 2 → ℕ) a ≤ S9280x128.size a) (i0 : ∀ a, k0_off4 k 0#32 a + (![144, 128] : Fin 2 → ℕ) a ≤ S9280x128.size a) (w7 w6 w5 w4 w3 w2 w1 w0 : FVec Ideal S144x128 .f32),
      (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X2 X8 X9 k).1 = [⟨Rect.unit (s := S9280x128) (k0_off4 k 7#32) ![144, 128] i7, w7⟩, ⟨Rect.unit (s := S9280x128) (k0_off4 k 6#32) ![144, 128] i6, w6⟩, ⟨Rect.unit (s := S9280x128) (k0_off4 k 5#32) ![144, 128] i5, w5⟩, ⟨Rect.unit (s := S9280x128) (k0_off4 k 4#32) ![144, 128] i4, w4⟩, ⟨Rect.unit (s := S9280x128) (k0_off4 k 3#32) ![144, 128] i3, w3⟩, ⟨Rect.unit (s := S9280x128) (k0_off4 k 2#32) ![144, 128] i2, w2⟩, ⟨Rect.unit (s := S9280x128) (k0_off4 k 1#32) ![144, 128] i1, w1⟩, ⟨Rect.unit (s := S9280x128) (k0_off4 k 0#32) ![144, 128] i0, w0⟩]
      ∧ ∀ (a : Fin 144) (l : Fin 128), w7 (ix2 a l) = (wht8 7 (fun j => rowsumE H (X (2 * l.val)) a.val (8 * k.val + j))) ∧ w6 (ix2 a l) = (wht8 6 (fun j => rowsumE H (X (2 * l.val)) a.val (8 * k.val + j))) ∧ w5 (ix2 a l) = (wht8 5 (fun j => rowsumE H (X (2 * l.val)) a.val (8 * k.val + j))) ∧ w4 (ix2 a l) = (wht8 4 (fun j => rowsumE H (X (2 * l.val)) a.val (8 * k.val + j))) ∧ w3 (ix2 a l) = (wht8 3 (fun j => rowsumE H (X (2 * l.val)) a.val (8 * k.val + j))) ∧ w2 (ix2 a l) = (wht8 2 (fun j => rowsumE H (X (2 * l.val)) a.val (8 * k.val + j))) ∧ w1 (ix2 a l) = (wht8 1 (fun j => rowsumE H (X (2 * l.val)) a.val (8 * k.val + j))) ∧ w0 (ix2 a l) = (wht8 0 (fun j => rowsumE H (X (2 * l.val)) a.val (8 * k.val + j))) := by
  have d0 := dot_value X2 X8 X9 H X hh hH h8 h9 k 0#32 0 (by decide) (k0_off3_eq k 0)
  have d1 := dot_value X2 X8 X9 H X hh hH h8 h9 k 1#32 1 (by decide) (k0_off3_eq k 1)
  have d2 := dot_value X2 X8 X9 H X hh hH h8 h9 k 2#32 2 (by decide) (k0_off3_eq k 2)
  have d3 := dot_value X2 X8 X9 H X hh hH h8 h9 k 3#32 3 (by decide) (k0_off3_eq k 3)
  have d4 := dot_value X2 X8 X9 H X hh hH h8 h9 k 4#32 4 (by decide) (k0_off3_eq k 4)
  have d5 := dot_value X2 X8 X9 H X hh hH h8 h9 k 5#32 5 (by decide) (k0_off3_eq k 5)
  have d6 := dot_value X2 X8 X9 H X hh hH h8 h9 k 6#32 6 (by decide) (k0_off3_eq k 6)
  have d7 := dot_value X2 X8 X9 H X hh hH h8 h9 k 7#32 7 (by decide) (k0_off3_eq k 7)
  unfold trip_k0_t2
  refine ⟨_, _, _, _, _, _, _, _, _, _, _, _, _, _, _, _, rfl, fun a l => ?_⟩
  sl_unfold_run_names
  simp only [k0_pay3_dot, k0_pay6_dot, k0_pay7_dot, k0_pay8_dot, k0_pay9_dot, k0_pay5_dot, k0_pay11_dot]
  simp only [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay124, k0_pay125]
  simp only [k0_pay11_dot]
  pointwise
  simp only [d0, d1, d2, d3, d4, d5, d6, d7, tokOf_lo l.isLt]
  refine ⟨?_, ?_, ?_, ?_, ?_, ?_, ?_, ?_⟩
  · rw [whtE_7]
  · rw [whtE_6]
  · rw [whtE_5]
  · rw [whtE_4]
  · rw [whtE_3]
  · rw [whtE_2]
  · rw [whtE_1]
  · rw [whtE_0]

/-- The pieces that trip `k` of the second loop writes, and their values: row `r` of the signs against the eight products of the group. -/
theorem trip2_pieces_11 (X2 : BufTy.Contents (Elt Ideal) arg2.view.ty) (X8 : BufTy.Contents (Elt Ideal) arg8.view.ty) (X9 : BufTy.Contents (Elt Ideal) arg9.view.ty)
    (H X : ℕ → ℕ → EReal)
    (hh : ∀ a k : Fin 144, arg2.view.read (Elt Ideal) X2 (ix2 a k) = (H a.val k.val)) (hH : ∀ a k, 140 ≤ k → H a k = 0)
    (h8 : ∀ (r : Fin 4680) (p : Fin 2) (l : Fin 128), r.val / 65 < 70 → r.val % 65 < 64 → arg8.view.read (Elt Ideal) X8 (ix3 r p l) = (X (2 * l.val) (128 * (r.val / 65) + 64 * p.val + r.val % 65)))
    (h9 : ∀ (r : Fin 4680) (p : Fin 2) (l : Fin 128), r.val / 65 < 70 → r.val % 65 < 64 → arg9.view.read (Elt Ideal) X9 (ix3 r p l) = (X (2 * l.val + 1) (128 * (r.val / 65) + 64 * p.val + r.val % 65))) (k : Fin k0_t2_loop.trips) :
    ∃ (i7 : ∀ a, k0_off4 k 7#32 a + (![144, 128] : Fin 2 → ℕ) a ≤ S9280x128.size a) (i6 : ∀ a, k0_off4 k 6#32 a + (![144, 128] : Fin 2 → ℕ) a ≤ S9280x128.size a) (i5 : ∀ a, k0_off4 k 5#32 a + (![144, 128] : Fin 2 → ℕ) a ≤ S9280x128.size a) (i4 : ∀ a, k0_off4 k 4#32 a + (![144, 128] : Fin 2 → ℕ) a ≤ S9280x128.size a) (i3 : ∀ a, k0_off4 k 3#32 a + (![144, 128] : Fin 2 → ℕ) a ≤ S9280x128.size a) (i2 : ∀ a, k0_off4 k 2#32 a + (![144, 128] : Fin 2 → ℕ) a ≤ S9280x128.size a) (i1 : ∀ a, k0_off4 k 1#32 a + (![144, 128] : Fin 2 → ℕ) a ≤ S9280x128.size a) (i0 : ∀ a, k0_off4 k 0#32 a + (![144, 128] : Fin 2 → ℕ) a ≤ S9280x128.size a) (w7 w6 w5 w4 w3 w2 w1 w0 : FVec Ideal S144x128 .f32),
      (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X2 X8 X9 k).2.1 = [⟨Rect.unit (s := S9280x128) (k0_off4 k 7#32) ![144, 128] i7, w7⟩, ⟨Rect.unit (s := S9280x128) (k0_off4 k 6#32) ![144, 128] i6, w6⟩, ⟨Rect.unit (s := S9280x128) (k0_off4 k 5#32) ![144, 128] i5, w5⟩, ⟨Rect.unit (s := S9280x128) (k0_off4 k 4#32) ![144, 128] i4, w4⟩, ⟨Rect.unit (s := S9280x128) (k0_off4 k 3#32) ![144, 128] i3, w3⟩, ⟨Rect.unit (s := S9280x128) (k0_off4 k 2#32) ![144, 128] i2, w2⟩, ⟨Rect.unit (s := S9280x128) (k0_off4 k 1#32) ![144, 128] i1, w1⟩, ⟨Rect.unit (s := S9280x128) (k0_off4 k 0#32) ![144, 128] i0, w0⟩]
      ∧ ∀ (a : Fin 144) (l : Fin 128), w7 (ix2 a l) = (wht8 7 (fun j => rowsumE H (X (2 * l.val + 1)) a.val (8 * k.val + j))) ∧ w6 (ix2 a l) = (wht8 6 (fun j => rowsumE H (X (2 * l.val + 1)) a.val (8 * k.val + j))) ∧ w5 (ix2 a l) = (wht8 5 (fun j => rowsumE H (X (2 * l.val + 1)) a.val (8 * k.val + j))) ∧ w4 (ix2 a l) = (wht8 4 (fun j => rowsumE H (X (2 * l.val + 1)) a.val (8 * k.val + j))) ∧ w3 (ix2 a l) = (wht8 3 (fun j => rowsumE H (X (2 * l.val + 1)) a.val (8 * k.val + j))) ∧ w2 (ix2 a l) = (wht8 2 (fun j => rowsumE H (X (2 * l.val + 1)) a.val (8 * k.val + j))) ∧ w1 (ix2 a l) = (wht8 1 (fun j => rowsumE H (X (2 * l.val + 1)) a.val (8 * k.val + j))) ∧ w0 (ix2 a l) = (wht8 0 (fun j => rowsumE H (X (2 * l.val + 1)) a.val (8 * k.val + j))) := by
  have d0 := dot_value X2 X8 X9 H X hh hH h8 h9 k 0#32 0 (by decide) (k0_off3_eq k 0)
  have d1 := dot_value X2 X8 X9 H X hh hH h8 h9 k 1#32 1 (by decide) (k0_off3_eq k 1)
  have d2 := dot_value X2 X8 X9 H X hh hH h8 h9 k 2#32 2 (by decide) (k0_off3_eq k 2)
  have d3 := dot_value X2 X8 X9 H X hh hH h8 h9 k 3#32 3 (by decide) (k0_off3_eq k 3)
  have d4 := dot_value X2 X8 X9 H X hh hH h8 h9 k 4#32 4 (by decide) (k0_off3_eq k 4)
  have d5 := dot_value X2 X8 X9 H X hh hH h8 h9 k 5#32 5 (by decide) (k0_off3_eq k 5)
  have d6 := dot_value X2 X8 X9 H X hh hH h8 h9 k 6#32 6 (by decide) (k0_off3_eq k 6)
  have d7 := dot_value X2 X8 X9 H X hh hH h8 h9 k 7#32 7 (by decide) (k0_off3_eq k 7)
  unfold trip_k0_t2
  refine ⟨_, _, _, _, _, _, _, _, _, _, _, _, _, _, _, _, rfl, fun a l => ?_⟩
  sl_unfold_run_names
  simp only [k0_pay3_dot, k0_pay6_dot, k0_pay7_dot, k0_pay8_dot, k0_pay9_dot, k0_pay5_dot, k0_pay11_dot]
  simp only [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay124, k0_pay125]
  simp only [k0_pay11_dot]
  pointwise
  simp only [d0, d1, d2, d3, d4, d5, d6, d7, tokOf_hi]
  refine ⟨?_, ?_, ?_, ?_, ?_, ?_, ?_, ?_⟩
  · rw [whtE_7]
  · rw [whtE_6]
  · rw [whtE_5]
  · rw [whtE_4]
  · rw [whtE_3]
  · rw [whtE_2]
  · rw [whtE_1]
  · rw [whtE_0]

/-- After `n` trips row `145 q + a` of the buffer (`q < 8 n`, `a < 144`) holds entry `(a, q)` of the first pass for the even tokens. -/
theorem loop2_read_10 (X2 : BufTy.Contents (Elt Ideal) arg2.view.ty) (X8 : BufTy.Contents (Elt Ideal) arg8.view.ty) (X9 : BufTy.Contents (Elt Ideal) arg9.view.ty)
    (H X : ℕ → ℕ → EReal)
    (hh : ∀ a k : Fin 144, arg2.view.read (Elt Ideal) X2 (ix2 a k) = (H a.val k.val)) (hH : ∀ a k, 140 ≤ k → H a k = 0)
    (h8 : ∀ (r : Fin 4680) (p : Fin 2) (l : Fin 128), r.val / 65 < 70 → r.val % 65 < 64 → arg8.view.read (Elt Ideal) X8 (ix3 r p l) = (X (2 * l.val) (128 * (r.val / 65) + 64 * p.val + r.val % 65)))
    (h9 : ∀ (r : Fin 4680) (p : Fin 2) (l : Fin 128), r.val / 65 < 70 → r.val % 65 < 64 → arg9.view.read (Elt Ideal) X9 (ix3 r p l) = (X (2 * l.val + 1) (128 * (r.val / 65) + 64 * p.val + r.val % 65))) (f : BufTy.Contents (Elt Ideal) arg10.view.ty) (n : ℕ) (hn : n ≤ 8) (r : Fin 9280) (l : Fin 128)
    (hr : r.val / 145 < 8 * n) (hq : r.val % 145 < 144) :
    arg10.view.read (Elt Ideal) (arg10.view.writes (Elt Ideal) f
      (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X2 X8 X9 n).1) (ix2 r l)
      = (pass1E H (X (2 * l.val)) (r.val % 145) (r.val / 145)) := by
  induction n with
  | zero => omega
  | succ n ih =>
    have htr : n < k0_t2_loop.trips := by rw [show k0_t2_loop.trips = 8 from by decide]; omega
    rw [show n + 1 = (⟨n, htr⟩ : Fin k0_t2_loop.trips).val + 1 from rfl, pb_k0_t2_succ]
    obtain ⟨i7, i6, i5, i4, i3, i2, i1, i0, w7, w6, w5, w4, w3, w2, w1, w0, he, hv⟩ := trip2_pieces_10 𝒱 c bd i arg1 harg1 arg2 harg2 arg3 harg3 arg4 harg4 arg5 harg5 arg6 harg6 arg7 harg7 arg8 harg8 arg9 harg9 arg10 harg10 arg11 harg11 arg12 harg12 arg13 harg13 X2 X8 X9 H X hh hH h8 h9 ⟨n, htr⟩
    simp only [he, List.cons_append, List.nil_append]
    by_cases h7 : r.val / 145 = 8 * n + 7
    · rw [View.read_writes_cons_unit_of_mem _ _ _ _ _ _ (ix2 ⟨r.val % 145, hq⟩ l) (k0_off4_eq _ 7) (by intro a; fin_cases a <;> simp <;> omega)]
      rw [(hv ⟨r.val % 145, hq⟩ l).1]
      unfold pass1E
      rw [show r.val / 145 % 8 = 7 by omega, show r.val / 145 / 8 = n by omega]
    rw [View.read_writes_cons_unit_of_not_mem _ _ _ _ _ _ (k0_off4_eq _ 7) 0 (by simp; omega)]
    by_cases h6 : r.val / 145 = 8 * n + 6
    · rw [View.read_writes_cons_unit_of_mem _ _ _ _ _ _ (ix2 ⟨r.val % 145, hq⟩ l) (k0_off4_eq _ 6) (by intro a; fin_cases a <;> simp <;> omega)]
      rw [(hv ⟨r.val % 145, hq⟩ l).2.1]
      unfold pass1E
      rw [show r.val / 145 % 8 = 6 by omega, show r.val / 145 / 8 = n by omega]
    rw [View.read_writes_cons_unit_of_not_mem _ _ _ _ _ _ (k0_off4_eq _ 6) 0 (by simp; omega)]
    by_cases h5 : r.val / 145 = 8 * n + 5
    · rw [View.read_writes_cons_unit_of_mem _ _ _ _ _ _ (ix2 ⟨r.val % 145, hq⟩ l) (k0_off4_eq _ 5) (by intro a; fin_cases a <;> simp <;> omega)]
      rw [(hv ⟨r.val % 145, hq⟩ l).2.2.1]
      unfold pass1E
      rw [show r.val / 145 % 8 = 5 by omega, show r.val / 145 / 8 = n by omega]
    rw [View.read_writes_cons_unit_of_not_mem _ _ _ _ _ _ (k0_off4_eq _ 5) 0 (by simp; omega)]
    by_cases h4 : r.val / 145 = 8 * n + 4
    · rw [View.read_writes_cons_unit_of_mem _ _ _ _ _ _ (ix2 ⟨r.val % 145, hq⟩ l) (k0_off4_eq _ 4) (by intro a; fin_cases a <;> simp <;> omega)]
      rw [(hv ⟨r.val % 145, hq⟩ l).2.2.2.1]
      unfold pass1E
      rw [show r.val / 145 % 8 = 4 by omega, show r.val / 145 / 8 = n by omega]
    rw [View.read_writes_cons_unit_of_not_mem _ _ _ _ _ _ (k0_off4_eq _ 4) 0 (by simp; omega)]
    by_cases h3 : r.val / 145 = 8 * n + 3
    · rw [View.read_writes_cons_unit_of_mem _ _ _ _ _ _ (ix2 ⟨r.val % 145, hq⟩ l) (k0_off4_eq _ 3) (by intro a; fin_cases a <;> simp <;> omega)]
      rw [(hv ⟨r.val % 145, hq⟩ l).2.2.2.2.1]
      unfold pass1E
      rw [show r.val / 145 % 8 = 3 by omega, show r.val / 145 / 8 = n by omega]
    rw [View.read_writes_cons_unit_of_not_mem _ _ _ _ _ _ (k0_off4_eq _ 3) 0 (by simp; omega)]
    by_cases h2 : r.val / 145 = 8 * n + 2
    · rw [View.read_writes_cons_unit_of_mem _ _ _ _ _ _ (ix2 ⟨r.val % 145, hq⟩ l) (k0_off4_eq _ 2) (by intro a; fin_cases a <;> simp <;> omega)]
      rw [(hv ⟨r.val % 145, hq⟩ l).2.2.2.2.2.1]
      unfold pass1E
      rw [show r.val / 145 % 8 = 2 by omega, show r.val / 145 / 8 = n by omega]
    rw [View.read_writes_cons_unit_of_not_mem _ _ _ _ _ _ (k0_off4_eq _ 2) 0 (by simp; omega)]
    by_cases h1 : r.val / 145 = 8 * n + 1
    · rw [View.read_writes_cons_unit_of_mem _ _ _ _ _ _ (ix2 ⟨r.val % 145, hq⟩ l) (k0_off4_eq _ 1) (by intro a; fin_cases a <;> simp <;> omega)]
      rw [(hv ⟨r.val % 145, hq⟩ l).2.2.2.2.2.2.1]
      unfold pass1E
      rw [show r.val / 145 % 8 = 1 by omega, show r.val / 145 / 8 = n by omega]
    rw [View.read_writes_cons_unit_of_not_mem _ _ _ _ _ _ (k0_off4_eq _ 1) 0 (by simp; omega)]
    by_cases h0 : r.val / 145 = 8 * n + 0
    · rw [View.read_writes_cons_unit_of_mem _ _ _ _ _ _ (ix2 ⟨r.val % 145, hq⟩ l) (k0_off4_eq _ 0) (by intro a; fin_cases a <;> simp <;> omega)]
      rw [(hv ⟨r.val % 145, hq⟩ l).2.2.2.2.2.2.2]
      unfold pass1E
      rw [show r.val / 145 % 8 = 0 by omega, show r.val / 145 / 8 = n by omega]
    rw [View.read_writes_cons_unit_of_not_mem _ _ _ _ _ _ (k0_off4_eq _ 0) 0 (by simp; omega)]
    exact ih (by omega) (by omega)

/-- After `n` trips row `145 q + a` of the buffer (`q < 8 n`, `a < 144`) holds entry `(a, q)` of the first pass for the odd tokens. -/
theorem loop2_read_11 (X2 : BufTy.Contents (Elt Ideal) arg2.view.ty) (X8 : BufTy.Contents (Elt Ideal) arg8.view.ty) (X9 : BufTy.Contents (Elt Ideal) arg9.view.ty)
    (H X : ℕ → ℕ → EReal)
    (hh : ∀ a k : Fin 144, arg2.view.read (Elt Ideal) X2 (ix2 a k) = (H a.val k.val)) (hH : ∀ a k, 140 ≤ k → H a k = 0)
    (h8 : ∀ (r : Fin 4680) (p : Fin 2) (l : Fin 128), r.val / 65 < 70 → r.val % 65 < 64 → arg8.view.read (Elt Ideal) X8 (ix3 r p l) = (X (2 * l.val) (128 * (r.val / 65) + 64 * p.val + r.val % 65)))
    (h9 : ∀ (r : Fin 4680) (p : Fin 2) (l : Fin 128), r.val / 65 < 70 → r.val % 65 < 64 → arg9.view.read (Elt Ideal) X9 (ix3 r p l) = (X (2 * l.val + 1) (128 * (r.val / 65) + 64 * p.val + r.val % 65))) (f : BufTy.Contents (Elt Ideal) arg11.view.ty) (n : ℕ) (hn : n ≤ 8) (r : Fin 9280) (l : Fin 128)
    (hr : r.val / 145 < 8 * n) (hq : r.val % 145 < 144) :
    arg11.view.read (Elt Ideal) (arg11.view.writes (Elt Ideal) f
      (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X2 X8 X9 n).2) (ix2 r l)
      = (pass1E H (X (2 * l.val + 1)) (r.val % 145) (r.val / 145)) := by
  induction n with
  | zero => omega
  | succ n ih =>
    have htr : n < k0_t2_loop.trips := by rw [show k0_t2_loop.trips = 8 from by decide]; omega
    rw [show n + 1 = (⟨n, htr⟩ : Fin k0_t2_loop.trips).val + 1 from rfl, pb_k0_t2_succ]
    obtain ⟨i7, i6, i5, i4, i3, i2, i1, i0, w7, w6, w5, w4, w3, w2, w1, w0, he, hv⟩ := trip2_pieces_11 𝒱 c bd i arg1 harg1 arg2 harg2 arg3 harg3 arg4 harg4 arg5 harg5 arg6 harg6 arg7 harg7 arg8 harg8 arg9 harg9 arg10 harg10 arg11 harg11 arg12 harg12 arg13 harg13 X2 X8 X9 H X hh hH h8 h9 ⟨n, htr⟩
    simp only [he, List.cons_append, List.nil_append]
    by_cases h7 : r.val / 145 = 8 * n + 7
    · rw [View.read_writes_cons_unit_of_mem _ _ _ _ _ _ (ix2 ⟨r.val % 145, hq⟩ l) (k0_off4_eq _ 7) (by intro a; fin_cases a <;> simp <;> omega)]
      rw [(hv ⟨r.val % 145, hq⟩ l).1]
      unfold pass1E
      rw [show r.val / 145 % 8 = 7 by omega, show r.val / 145 / 8 = n by omega]
    rw [View.read_writes_cons_unit_of_not_mem _ _ _ _ _ _ (k0_off4_eq _ 7) 0 (by simp; omega)]
    by_cases h6 : r.val / 145 = 8 * n + 6
    · rw [View.read_writes_cons_unit_of_mem _ _ _ _ _ _ (ix2 ⟨r.val % 145, hq⟩ l) (k0_off4_eq _ 6) (by intro a; fin_cases a <;> simp <;> omega)]
      rw [(hv ⟨r.val % 145, hq⟩ l).2.1]
      unfold pass1E
      rw [show r.val / 145 % 8 = 6 by omega, show r.val / 145 / 8 = n by omega]
    rw [View.read_writes_cons_unit_of_not_mem _ _ _ _ _ _ (k0_off4_eq _ 6) 0 (by simp; omega)]
    by_cases h5 : r.val / 145 = 8 * n + 5
    · rw [View.read_writes_cons_unit_of_mem _ _ _ _ _ _ (ix2 ⟨r.val % 145, hq⟩ l) (k0_off4_eq _ 5) (by intro a; fin_cases a <;> simp <;> omega)]
      rw [(hv ⟨r.val % 145, hq⟩ l).2.2.1]
      unfold pass1E
      rw [show r.val / 145 % 8 = 5 by omega, show r.val / 145 / 8 = n by omega]
    rw [View.read_writes_cons_unit_of_not_mem _ _ _ _ _ _ (k0_off4_eq _ 5) 0 (by simp; omega)]
    by_cases h4 : r.val / 145 = 8 * n + 4
    · rw [View.read_writes_cons_unit_of_mem _ _ _ _ _ _ (ix2 ⟨r.val % 145, hq⟩ l) (k0_off4_eq _ 4) (by intro a; fin_cases a <;> simp <;> omega)]
      rw [(hv ⟨r.val % 145, hq⟩ l).2.2.2.1]
      unfold pass1E
      rw [show r.val / 145 % 8 = 4 by omega, show r.val / 145 / 8 = n by omega]
    rw [View.read_writes_cons_unit_of_not_mem _ _ _ _ _ _ (k0_off4_eq _ 4) 0 (by simp; omega)]
    by_cases h3 : r.val / 145 = 8 * n + 3
    · rw [View.read_writes_cons_unit_of_mem _ _ _ _ _ _ (ix2 ⟨r.val % 145, hq⟩ l) (k0_off4_eq _ 3) (by intro a; fin_cases a <;> simp <;> omega)]
      rw [(hv ⟨r.val % 145, hq⟩ l).2.2.2.2.1]
      unfold pass1E
      rw [show r.val / 145 % 8 = 3 by omega, show r.val / 145 / 8 = n by omega]
    rw [View.read_writes_cons_unit_of_not_mem _ _ _ _ _ _ (k0_off4_eq _ 3) 0 (by simp; omega)]
    by_cases h2 : r.val / 145 = 8 * n + 2
    · rw [View.read_writes_cons_unit_of_mem _ _ _ _ _ _ (ix2 ⟨r.val % 145, hq⟩ l) (k0_off4_eq _ 2) (by intro a; fin_cases a <;> simp <;> omega)]
      rw [(hv ⟨r.val % 145, hq⟩ l).2.2.2.2.2.1]
      unfold pass1E
      rw [show r.val / 145 % 8 = 2 by omega, show r.val / 145 / 8 = n by omega]
    rw [View.read_writes_cons_unit_of_not_mem _ _ _ _ _ _ (k0_off4_eq _ 2) 0 (by simp; omega)]
    by_cases h1 : r.val / 145 = 8 * n + 1
    · rw [View.read_writes_cons_unit_of_mem _ _ _ _ _ _ (ix2 ⟨r.val % 145, hq⟩ l) (k0_off4_eq _ 1) (by intro a; fin_cases a <;> simp <;> omega)]
      rw [(hv ⟨r.val % 145, hq⟩ l).2.2.2.2.2.2.1]
      unfold pass1E
      rw [show r.val / 145 % 8 = 1 by omega, show r.val / 145 / 8 = n by omega]
    rw [View.read_writes_cons_unit_of_not_mem _ _ _ _ _ _ (k0_off4_eq _ 1) 0 (by simp; omega)]
    by_cases h0 : r.val / 145 = 8 * n + 0
    · rw [View.read_writes_cons_unit_of_mem _ _ _ _ _ _ (ix2 ⟨r.val % 145, hq⟩ l) (k0_off4_eq _ 0) (by intro a; fin_cases a <;> simp <;> omega)]
      rw [(hv ⟨r.val % 145, hq⟩ l).2.2.2.2.2.2.2]
      unfold pass1E
      rw [show r.val / 145 % 8 = 0 by omega, show r.val / 145 / 8 = n by omega]
    rw [View.read_writes_cons_unit_of_not_mem _ _ _ _ _ _ (k0_off4_eq _ 0) 0 (by simp; omega)]
    exact ih (by omega) (by omega)

end Cert.KernelIdeal.Gen

end
-- ==== Proof.Transposed.lean ====
/- What the first counted loop of the idealized kernel leaves in its two scratch buffers: the block of tokens transposed,
   the even tokens in one buffer and the odd ones in the other, two rows of columns to a word row. -/
module

public import proofs.«01_k».proof.Proof.ButterflyIdeal
public import Idealize.ShloMosaic.Lib.Pointwise
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x2x128 .bf16) (harg8 : arg8.IsWhole) (arg9 : Memref sig .tc .vmem S4680x2x128 .bf16) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole)

/-- The piece that trip `k` of the first loop writes into the scratch buffer of the even tokens. -/
theorem trip1_pieces_8 (X1 : BufTy.Contents (Elt Ideal) arg1.view.ty) (k : Fin k0_t1_loop.trips) :
    ∃ (h8 : ∀ a, k0_off2 k a + (![64, 2, 128] : Fin 3 → ℕ) a ≤ S4680x2x128.size a) (h1 : ∀ a, k0_off1 k a + (![256, 128] : Fin 2 → ℕ) a ≤ S256x8960.size a), (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 k).1
      = [⟨Rect.unit (k0_off2 k) ![64, 2, 128] h8,
          k0_pay122 (View.readAt (Elt Ideal) arg1.view (Rect.unit (s := S256x8960) (k0_off1 k) ![256, 128] h1).toLoadRect X1)⟩] := by
  unfold trip_k0_t1
  exact ⟨_, _, rfl⟩

/-- Entry `(r, p, l)` of the payload is column `64 p + r` of the even token `l` of the tile of 128 columns. -/
theorem pay_t1_8 (v : Vec Ideal S256x128 .bf16) (r : Fin 64) (p : Fin 2) (l : Fin 128) :
    k0_pay122 v (ix3 r p l) = v (ix2 ⟨2 * l.val + 0, by omega⟩ ⟨64 * p.val + r.val, by omega⟩) := by
  unfold k0_pay122
  pointwise
  fin_vals p with hp
  all_goals simp [Shape.row, hp]

/-- After `n` trips row `65 m + q` of the buffer (`m < n`, `q < 64`) holds columns `128 m + q` and `128 m + 64 + q` of the even tokens. -/
theorem loop1_read_8 (X1 : BufTy.Contents (Elt Ideal) arg1.view.ty) (X : ℕ → ℕ → EReal)
    (hX : ∀ (r : Fin 256) (l : Fin 8960), arg1.view.read (Elt Ideal) X1 (ix2 r l) = X r.val l.val)
    (f : BufTy.Contents (Elt Ideal) arg8.view.ty) (n : ℕ) (hn : n ≤ 70) (r : Fin 4680) (p : Fin 2) (l : Fin 128)
    (hr : r.val / 65 < n) (hq : r.val % 65 < 64) :
    arg8.view.read (Elt Ideal) (arg8.view.writes (Elt Ideal) f
      (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 n).1) (ix3 r p l)
      = X (2 * l.val + 0) (128 * (r.val / 65) + 64 * p.val + r.val % 65) := by
  induction n with
  | zero => omega
  | succ n ih =>
    have htr : n < k0_t1_loop.trips := by rw [show k0_t1_loop.trips = 70 from by decide]; omega
    rw [show n + 1 = (⟨n, htr⟩ : Fin k0_t1_loop.trips).val + 1 from rfl, pb_k0_t1_succ]
    obtain ⟨h8, h1, he⟩ := trip1_pieces_8 𝒱 c bd i arg1 harg1 arg2 harg2 arg3 harg3 arg4 harg4 arg5 harg5 arg6 harg6 arg7 harg7 arg8 harg8 arg9 harg9 arg10 harg10 arg11 harg11 arg12 harg12 arg13 harg13 X1 ⟨n, htr⟩
    simp only [he, List.singleton_append]
    by_cases hm : r.val / 65 = n
    · rw [View.read_writes_cons_unit_of_mem _ _ _ _ _ _ (ix3 ⟨r.val % 65, hq⟩ p l) (k0_off2_eq _)
        (by intro a; fin_cases a <;> simp <;> omega)]
      rw [pay_t1_8, View.readAt_apply]
      have e := hX ⟨2 * l.val + 0, by omega⟩ ⟨128 * n + 64 * p.val + r.val % 65, by omega⟩
      rw [hm]
      refine Eq.trans ?_ e
      refine congrArg (arg1.view.read (Elt Ideal) X1) ?_
      funext a; apply Fin.ext
      fin_cases a <;> simp [k0_off1_eq, Rect.unit, LoadRect.idx] <;> omega
    · rw [View.read_writes_cons_unit_of_not_mem _ _ _ _ _ _ (k0_off2_eq _) 0 (by simp; omega)]
      exact ih (by omega) (by omega)

/-- The piece that trip `k` of the first loop writes into the scratch buffer of the odd tokens. -/
theorem trip1_pieces_9 (X1 : BufTy.Contents (Elt Ideal) arg1.view.ty) (k : Fin k0_t1_loop.trips) :
    ∃ (h8 : ∀ a, k0_off2 k a + (![64, 2, 128] : Fin 3 → ℕ) a ≤ S4680x2x128.size a) (h1 : ∀ a, k0_off1 k a + (![256, 128] : Fin 2 → ℕ) a ≤ S256x8960.size a), (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 k).2.1
      = [⟨Rect.unit (k0_off2 k) ![64, 2, 128] h8,
          k0_pay123 (View.readAt (Elt Ideal) arg1.view (Rect.unit (s := S256x8960) (k0_off1 k) ![256, 128] h1).toLoadRect X1)⟩] := by
  unfold trip_k0_t1
  exact ⟨_, _, rfl⟩

/-- Entry `(r, p, l)` of the payload is column `64 p + r` of the odd token `l` of the tile of 128 columns. -/
theorem pay_t1_9 (v : Vec Ideal S256x128 .bf16) (r : Fin 64) (p : Fin 2) (l : Fin 128) :
    k0_pay123 v (ix3 r p l) = v (ix2 ⟨2 * l.val + 1, by omega⟩ ⟨64 * p.val + r.val, by omega⟩) := by
  unfold k0_pay123
  pointwise
  fin_vals p with hp
  all_goals simp [Shape.row, hp]

/-- After `n` trips row `65 m + q` of the buffer (`m < n`, `q < 64`) holds columns `128 m + q` and `128 m + 64 + q` of the odd tokens. -/
theorem loop1_read_9 (X1 : BufTy.Contents (Elt Ideal) arg1.view.ty) (X : ℕ → ℕ → EReal)
    (hX : ∀ (r : Fin 256) (l : Fin 8960), arg1.view.read (Elt Ideal) X1 (ix2 r l) = X r.val l.val)
    (f : BufTy.Contents (Elt Ideal) arg9.view.ty) (n : ℕ) (hn : n ≤ 70) (r : Fin 4680) (p : Fin 2) (l : Fin 128)
    (hr : r.val / 65 < n) (hq : r.val % 65 < 64) :
    arg9.view.read (Elt Ideal) (arg9.view.writes (Elt Ideal) f
      (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 n).2) (ix3 r p l)
      = X (2 * l.val + 1) (128 * (r.val / 65) + 64 * p.val + r.val % 65) := by
  induction n with
  | zero => omega
  | succ n ih =>
    have htr : n < k0_t1_loop.trips := by rw [show k0_t1_loop.trips = 70 from by decide]; omega
    rw [show n + 1 = (⟨n, htr⟩ : Fin k0_t1_loop.trips).val + 1 from rfl, pb_k0_t1_succ]
    obtain ⟨h8, h1, he⟩ := trip1_pieces_9 𝒱 c bd i arg1 harg1 arg2 harg2 arg3 harg3 arg4 harg4 arg5 harg5 arg6 harg6 arg7 harg7 arg8 harg8 arg9 harg9 arg10 harg10 arg11 harg11 arg12 harg12 arg13 harg13 X1 ⟨n, htr⟩
    simp only [he, List.singleton_append]
    by_cases hm : r.val / 65 = n
    · rw [View.read_writes_cons_unit_of_mem _ _ _ _ _ _ (ix3 ⟨r.val % 65, hq⟩ p l) (k0_off2_eq _)
        (by intro a; fin_cases a <;> simp <;> omega)]
      rw [pay_t1_9, View.readAt_apply]
      have e := hX ⟨2 * l.val + 1, by omega⟩ ⟨128 * n + 64 * p.val + r.val % 65, by omega⟩
      rw [hm]
      refine Eq.trans ?_ e
      refine congrArg (arg1.view.read (Elt Ideal) X1) ?_
      funext a; apply Fin.ext
      fin_cases a <;> simp [k0_off1_eq, Rect.unit, LoadRect.idx] <;> omega
    · rw [View.read_writes_cons_unit_of_not_mem _ _ _ _ _ _ (k0_off2_eq _) 0 (by simp; omega)]
      exact ih (by omega) (by omega)

end Cert.KernelIdeal.Gen

end
-- ==== Proof.Contents.lean ====
/- The contents the idealized kernel's buffers hold after its loops, as functions of the two real input blocks. -/
module

public import proofs.«01_k».proof.Proof.Outputs
public import proofs.«01_k».proof.Proof.Combined
public import proofs.«01_k».proof.Proof.Rotated
public import proofs.«01_k».proof.Proof.Transposed

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Rotation

/-- The result of scales, from the two rows. -/
theorem pay134_apply (v17 v29 : FVec Ideal S1x128 .f32) (S : ℕ → EReal) (h17 : ∀ l : Fin 128, v17 (ix2 0 l) = S (2 * l.val))
    (h29 : ∀ l : Fin 128, v29 (ix2 0 l) = S (2 * l.val + 1)) (p : Fin 2) (l : Fin 128) :
    k0_pay134 v17 v29 (ix3 (0 : Fin 1) p l) = S (2 * l.val + p.val) := by
  unfold k0_pay134
  pointwise
  fin_cases p
  · simp [h17]
  · simp [h29]

/-- The scales of the even tokens, spread over lanes. -/
theorem pay135_apply (v17 : FVec Ideal S1x128 .f32) (t j : Fin 128) : k0_pay135 v17 (ix2 t j) = v17 (ix2 0 t) := by
  unfold k0_pay135
  pointwise

/-- The scales of the odd tokens, spread over lanes. -/
theorem pay136_apply (v29 : FVec Ideal S1x128 .f32) (t j : Fin 128) : k0_pay136 v29 (ix2 t j) = v29 (ix2 0 t) := by
  unfold k0_pay136
  pointwise

/-- The column buffer after its two strided stores, read whole. -/
theorem col_read (arg13 : Memref sig .tc .vmem S256x128 .f32) (v17 v29 : FVec Ideal S1x128 .f32) (S : ℕ → EReal)
    (h17 : ∀ l : Fin 128, v17 (ix2 0 l) = S (2 * l.val)) (h29 : ∀ l : Fin 128, v29 (ix2 0 l) = S (2 * l.val + 1))
    (f : BufTy.Contents (Elt Ideal) arg13.view.ty) (i0 i1 ib s0 s1) (t : Fin 256) (j : Fin 128) :
    View.readAt (Elt Ideal) arg13.view (Rect.unit (s := S256x128) ![0, 0] S256x128.size ib).toLoadRect
      (arg13.view.writes (Elt Ideal) f [⟨⟨(⟨![1, 0], S128x128.size, ![2, 1], i1⟩ : LoadRect S256x128), s1⟩, k0_pay136 v29⟩,
        ⟨⟨(⟨![0, 0], S128x128.size, ![2, 1], i0⟩ : LoadRect S256x128), s0⟩, k0_pay135 v17⟩]) (ix2 t j) = S t.val := by
  rw [View.readAt_apply]
  have e : (Rect.unit (s := S256x128) ![0, 0] S256x128.size ib).toLoadRect.idx (ix2 t j) = ix2 t j := by
    funext x; apply Fin.ext
    fin_cases x <;> simp [LoadRect.idx]
  rw [e]
  rcases Nat.mod_two_eq_zero_or_one t.val with ht | ht
  · rw [View.read_writes_cons_miss]
    · refine (View.read_writes_cons_hit_of_coords arg13.view f _ _ [] (ix2 (⟨t.val / 2, by omega⟩ : Fin 128) j) (ix2 t j) ?_).trans ?_
      · intro a
        fin_cases a <;> simp <;> omega
      · refine (pay135_apply _ _ _).trans ?_
        rw [h17]
        exact congrArg S (by simp; omega)
    · intro hm
      obtain ⟨x, hx⟩ := LoadRect.exists_idx_of_mem _ hm
      have := congrArg (fun z => (z 0).val) hx
      simp [LoadRect.idx] at this
      omega
  · refine (View.read_writes_cons_hit_of_coords arg13.view f _ _ _ (ix2 (⟨t.val / 2, by omega⟩ : Fin 128) j) (ix2 t j) ?_).trans ?_
    · intro a
      fin_cases a <;> simp <;> omega
    · refine (pay136_apply _ _ _).trans ?_
      rw [h29]
      exact congrArg S (by simp; omega)

variable (𝒱 : Variants) (c : Dev nD) (bd : Option 𝒱.V) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x2x128 .bf16) (harg8 : arg8.IsWhole) (arg9 : Memref sig .tc .vmem S4680x2x128 .bf16) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole)

variable (x0 : Vec Ideal S256x8960 .bf16) (x1 : Vec Ideal S144x144 .bf16)
  (f8 : BufTy.Contents (Elt Ideal) arg8.view.ty) (f9 : BufTy.Contents (Elt Ideal) arg9.view.ty)
  (f10 : BufTy.Contents (Elt Ideal) arg10.view.ty) (f11 : BufTy.Contents (Elt Ideal) arg11.view.ty)

/-- The transposed even tokens, after the first loop. -/
abbrev W8 : BufTy.Contents (Elt Ideal) arg8.view.ty := arg8.view.writes (Elt Ideal) f8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x0) 70).1
/-- The transposed odd tokens, after the first loop. -/
abbrev W9 : BufTy.Contents (Elt Ideal) arg9.view.ty := arg9.view.writes (Elt Ideal) f9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x0) 70).2
/-- The even tokens combined along the first axis, after the second loop. -/
abbrev W10 : BufTy.Contents (Elt Ideal) arg10.view.ty := arg10.view.writes (Elt Ideal) f10 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread x1) (W8 𝒱 c bd i arg1 harg1 arg2 harg2 arg3 harg3 arg4 harg4 arg5 harg5 arg6 harg6 arg7 harg7 arg8 harg8 arg9 harg9 arg10 harg10 arg11 harg11 arg12 harg12 arg13 harg13 x0 f8) (W9 𝒱 c bd i arg1 harg1 arg2 harg2 arg3 harg3 arg4 harg4 arg5 harg5 arg6 harg6 arg7 harg7 arg8 harg8 arg9 harg9 arg10 harg10 arg11 harg11 arg12 harg12 arg13 harg13 x0 f9) 8).1
/-- The odd tokens combined along the first axis, after the second loop. -/
abbrev W11 : BufTy.Contents (Elt Ideal) arg11.view.ty := arg11.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread x1) (W8 𝒱 c bd i arg1 harg1 arg2 harg2 arg3 harg3 arg4 harg4 arg5 harg5 arg6 harg6 arg7 harg7 arg8 harg8 arg9 harg9 arg10 harg10 arg11 harg11 arg12 harg12 arg13 harg13 x0 f8) (W9 𝒱 c bd i arg1 harg1 arg2 harg2 arg3 harg3 arg4 harg4 arg5 harg5 arg6 harg6 arg7 harg7 arg8 harg8 arg9 harg9 arg10 harg10 arg11 harg11 arg12 harg12 arg13 harg13 x0 f9) 8).2
/-- The state of the third loop at its end. -/
abbrev St := st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 (W10 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10) (W11 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f11) (k0_pay126, k0_pay126) 144
/-- The rotatedE even tokens, after the third loop. -/
abbrev Z10 : BufTy.Contents (Elt Ideal) arg10.view.ty := arg10.view.writes (Elt Ideal) (W10 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10) (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).2.1
/-- The rotatedE odd tokens, after the third loop. -/
abbrev Z11 : BufTy.Contents (Elt Ideal) arg11.view.ty := arg11.view.writes (Elt Ideal) (W11 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f11) (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).2.2

variable (g : Good x1)
include g

theorem w8_at (r : Fin 4680) (p : Fin 2) (l : Fin 128) (hr : r.val / 65 < 70) (hq : r.val % 65 < 64) :
    arg8.view.read (Elt Ideal) (W8 𝒱 c bd i arg1 harg1 arg2 harg2 arg3 harg3 arg4 harg4 arg5 harg5 arg6 harg6 arg7 harg7 arg8 harg8 arg9 harg9 arg10 harg10 arg11 harg11 arg12 harg12 arg13 harg13 x0 f8) (ix3 r p l) = (xOf x0 (2 * l.val) (128 * (r.val / 65) + 64 * p.val + r.val % 65)) :=
  loop1_read_8 𝒱 c bd i arg1 harg1 arg2 harg2 arg3 harg3 arg4 harg4 arg5 harg5 arg6 harg6 arg7 harg7 arg8 harg8 arg9 harg9 arg10 harg10 arg11 harg11 arg12 harg12 arg13 harg13 (harg1.unread x0) (xOf x0)
    (fun r l => by rw [harg1.read_unread]; exact xOf_at x0 r l) f8 70 le_rfl r p l hr hq
theorem w9_at (r : Fin 4680) (p : Fin 2) (l : Fin 128) (hr : r.val / 65 < 70) (hq : r.val % 65 < 64) :
    arg9.view.read (Elt Ideal) (W9 𝒱 c bd i arg1 harg1 arg2 harg2 arg3 harg3 arg4 harg4 arg5 harg5 arg6 harg6 arg7 harg7 arg8 harg8 arg9 harg9 arg10 harg10 arg11 harg11 arg12 harg12 arg13 harg13 x0 f9) (ix3 r p l) = (xOf x0 (2 * l.val + 1) (128 * (r.val / 65) + 64 * p.val + r.val % 65)) :=
  loop1_read_9 𝒱 c bd i arg1 harg1 arg2 harg2 arg3 harg3 arg4 harg4 arg5 harg5 arg6 harg6 arg7 harg7 arg8 harg8 arg9 harg9 arg10 harg10 arg11 harg11 arg12 harg12 arg13 harg13 (harg1.unread x0) (xOf x0)
    (fun r l => by rw [harg1.read_unread]; exact xOf_at x0 r l) f9 70 le_rfl r p l hr hq
theorem w10_at (r : Fin 9280) (l : Fin 128) (hq : r.val % 145 < 144) :
    arg10.view.read (Elt Ideal) (W10 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10) (ix2 r l) = (pass1E (hOf x1) (xOf x0 (2 * l.val)) (r.val % 145) (r.val / 145)) :=
  loop2_read_10 𝒱 c bd i arg1 harg1 arg2 harg2 arg3 harg3 arg4 harg4 arg5 harg5 arg6 harg6 arg7 harg7 arg8 harg8 arg9 harg9 arg10 harg10 arg11 harg11 arg12 harg12 arg13 harg13 (harg2.unread x1) (W8 𝒱 c bd i arg1 harg1 arg2 harg2 arg3 harg3 arg4 harg4 arg5 harg5 arg6 harg6 arg7 harg7 arg8 harg8 arg9 harg9 arg10 harg10 arg11 harg11 arg12 harg12 arg13 harg13 x0 f8) (W9 𝒱 c bd i arg1 harg1 arg2 harg2 arg3 harg3 arg4 harg4 arg5 harg5 arg6 harg6 arg7 harg7 arg8 harg8 arg9 harg9 arg10 harg10 arg11 harg11 arg12 harg12 arg13 harg13 x0 f9) (hOf x1) (xOf x0)
    (fun a k => by rw [harg2.read_unread]; exact hOf_at x1 a k) (fun a k hk => g.hOf_col a k hk)
    (w8_at 𝒱 c bd i arg1 harg1 arg2 harg2 arg3 harg3 arg4 harg4 arg5 harg5 arg6 harg6 arg7 harg7 arg8 harg8 arg9 harg9 arg10 harg10 arg11 harg11 arg12 harg12 arg13 harg13 x0 x1 f8 g) (w9_at 𝒱 c bd i arg1 harg1 arg2 harg2 arg3 harg3 arg4 harg4 arg5 harg5 arg6 harg6 arg7 harg7 arg8 harg8 arg9 harg9 arg10 harg10 arg11 harg11 arg12 harg12 arg13 harg13 x0 x1 f9 g) f10 8 le_rfl r l (by omega) hq
theorem w11_at (r : Fin 9280) (l : Fin 128) (hq : r.val % 145 < 144) :
    arg11.view.read (Elt Ideal) (W11 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f11) (ix2 r l) = (pass1E (hOf x1) (xOf x0 (2 * l.val + 1)) (r.val % 145) (r.val / 145)) :=
  loop2_read_11 𝒱 c bd i arg1 harg1 arg2 harg2 arg3 harg3 arg4 harg4 arg5 harg5 arg6 harg6 arg7 harg7 arg8 harg8 arg9 harg9 arg10 harg10 arg11 harg11 arg12 harg12 arg13 harg13 (harg2.unread x1) (W8 𝒱 c bd i arg1 harg1 arg2 harg2 arg3 harg3 arg4 harg4 arg5 harg5 arg6 harg6 arg7 harg7 arg8 harg8 arg9 harg9 arg10 harg10 arg11 harg11 arg12 harg12 arg13 harg13 x0 f8) (W9 𝒱 c bd i arg1 harg1 arg2 harg2 arg3 harg3 arg4 harg4 arg5 harg5 arg6 harg6 arg7 harg7 arg8 harg8 arg9 harg9 arg10 harg10 arg11 harg11 arg12 harg12 arg13 harg13 x0 f9) (hOf x1) (xOf x0)
    (fun a k => by rw [harg2.read_unread]; exact hOf_at x1 a k) (fun a k hk => g.hOf_col a k hk)
    (w8_at 𝒱 c bd i arg1 harg1 arg2 harg2 arg3 harg3 arg4 harg4 arg5 harg5 arg6 harg6 arg7 harg7 arg8 harg8 arg9 harg9 arg10 harg10 arg11 harg11 arg12 harg12 arg13 harg13 x0 x1 f8 g) (w9_at 𝒱 c bd i arg1 harg1 arg2 harg2 arg3 harg3 arg4 harg4 arg5 harg5 arg6 harg6 arg7 harg7 arg8 harg8 arg9 harg9 arg10 harg10 arg11 harg11 arg12 harg12 arg13 harg13 x0 x1 f9 g) f11 8 le_rfl r l (by omega) hq
omit g in
/-- The third loop starts from zero. -/
theorem pay126_apply (s : Fin 8) (l : Fin 128) : k0_pay126 (F := Ideal) (ix2 s l) = (0) := by
  unfold k0_pay126
  pointwise
theorem z10_at (r : Fin 9280) (l : Fin 128) (hq : r.val % 145 < 144) :
    arg10.view.read (Elt Ideal) (Z10 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11) (ix2 r l) = (rotatedE (hOf x1) (xOf x0 (2 * l.val)) (r.val % 145) (r.val / 145)) := by
  have h := (loop3_read_10 𝒱 c bd i arg1 harg1 arg2 harg2 arg3 harg3 arg4 harg4 arg5 harg5 arg6 harg6 arg7 harg7 arg8 harg8 arg9 harg9 arg10 harg10 arg11 harg11 arg12 harg12 arg13 harg13 (W10 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10) (W11 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f11) (k0_pay126, k0_pay126) pay126_apply (hOf x1) (xOf x0) (w10_at 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 g) 144 le_rfl).1 r l hq
  rw [if_pos (by omega)] at h
  exact h

theorem max_even (s : Fin 8) (l : Fin 128) : (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1 (ix2 s l) = (runMaxE (hOf x1) (xOf x0 (2 * l.val)) s.val 144) :=
  (loop3_read_10 𝒱 c bd i arg1 harg1 arg2 harg2 arg3 harg3 arg4 harg4 arg5 harg5 arg6 harg6 arg7 harg7 arg8 harg8 arg9 harg9 arg10 harg10 arg11 harg11 arg12 harg12 arg13 harg13 (W10 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10) (W11 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f11) (k0_pay126, k0_pay126) pay126_apply (hOf x1) (xOf x0) (w10_at 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 g) 144 le_rfl).2 s l
theorem z11_at (r : Fin 9280) (l : Fin 128) (hq : r.val % 145 < 144) :
    arg11.view.read (Elt Ideal) (Z11 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11) (ix2 r l) = (rotatedE (hOf x1) (xOf x0 (2 * l.val + 1)) (r.val % 145) (r.val / 145)) := by
  have h := (loop3_read_11 𝒱 c bd i arg1 harg1 arg2 harg2 arg3 harg3 arg4 harg4 arg5 harg5 arg6 harg6 arg7 harg7 arg8 harg8 arg9 harg9 arg10 harg10 arg11 harg11 arg12 harg12 arg13 harg13 (W10 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10) (W11 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f11) (k0_pay126, k0_pay126) pay126_apply (hOf x1) (xOf x0) (w11_at 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f11 g) 144 le_rfl).1 r l hq
  rw [if_pos (by omega)] at h
  exact h

theorem max_odd (s : Fin 8) (l : Fin 128) : (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.2 (ix2 s l) = (runMaxE (hOf x1) (xOf x0 (2 * l.val + 1)) s.val 144) :=
  (loop3_read_11 𝒱 c bd i arg1 harg1 arg2 harg2 arg3 harg3 arg4 harg4 arg5 harg5 arg6 harg6 arg7 harg7 arg8 harg8 arg9 harg9 arg10 harg10 arg11 harg11 arg12 harg12 arg13 harg13 (W10 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10) (W11 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f11) (k0_pay126, k0_pay126) pay126_apply (hOf x1) (xOf x0) (w11_at 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f11 g) 144 le_rfl).2 s l
theorem scale_even (l : Fin 128) : k0_pay130 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1 (ix2 0 l) = (scaleOf (hOf x1) (xOf x0 (2 * l.val))) :=
  pay130_apply _ l (fun s => runMaxE (hOf x1) (xOf x0 (2 * l.val)) s 144) (fun s => max_even 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g s l)

theorem scale_odd (l : Fin 128) : k0_pay132 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.2 (ix2 0 l) = (scaleOf (hOf x1) (xOf x0 (2 * l.val + 1))) :=
  pay132_apply _ l (fun s => runMaxE (hOf x1) (xOf x0 (2 * l.val + 1)) s 144) (fun s => max_odd 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g s l)

theorem factor_even (l : Fin 128) : k0_pay131 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1 (ix2 0 l) = Ideal.div ((cR : ℝ) : EReal) (scaleOf (hOf x1) (xOf x0 (2 * l.val))) :=
  pay131_apply _ l (fun s => runMaxE (hOf x1) (xOf x0 (2 * l.val)) s 144) (fun s => max_even 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g s l)

theorem factor_odd (l : Fin 128) : k0_pay133 (k0_pay132 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.2) (ix2 0 l) = Ideal.div ((cR : ℝ) : EReal) (scaleOf (hOf x1) (xOf x0 (2 * l.val + 1))) :=
  pay133_apply _ l _ (scale_odd 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g l)

theorem codes_6 (f : BufTy.Contents (Elt Ideal) arg6.view.ty) (t : Fin 256) (j : Fin 8960) :
    arg6.view.read (Elt Ideal) (arg6.view.writes (Elt Ideal) f
      (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 (k0_pay130 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1) (k0_pay131 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1) (k0_pay132 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.2) (Z10 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11) (Z11 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11) 70).1) (ix2 t j) = codeOf (hOf x1) (xOf x0 t.val) j.val :=
  loop4_read_6 𝒱 c bd i arg1 harg1 arg2 harg2 arg3 harg3 arg4 harg4 arg5 harg5 arg6 harg6 arg7 harg7 arg8 harg8 arg9 harg9 arg10 harg10 arg11 harg11 arg12 harg12 arg13 harg13 (k0_pay130 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1) (k0_pay131 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1) (k0_pay132 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.2) (Z10 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11) (Z11 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11) (fun t => Ideal.div ((cR : ℝ) : EReal) (scaleOf (hOf x1) (xOf x0 t)))
    (fun t a q => (rotatedE (hOf x1) (xOf x0 t) a q)) (factor_even 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g) (factor_odd 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g) (z10_at 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g) (z11_at 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g) f 70 le_rfl t j (by omega)
theorem codes_12 (f : BufTy.Contents (Elt Ideal) arg12.view.ty) (t : Fin 256) (j : Fin 8960) :
    arg12.view.read (Elt Ideal) (arg12.view.writes (Elt Ideal) f
      (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 (k0_pay130 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1) (k0_pay131 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1) (k0_pay132 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.2) (Z10 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11) (Z11 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11) 70).2) (ix2 t j) = ((((codeOf (hOf x1) (xOf x0 t.val) j.val).toInt : ℤ) : ℝ) : EReal) :=
  loop4_read_12 𝒱 c bd i arg1 harg1 arg2 harg2 arg3 harg3 arg4 harg4 arg5 harg5 arg6 harg6 arg7 harg7 arg8 harg8 arg9 harg9 arg10 harg10 arg11 harg11 arg12 harg12 arg13 harg13 (k0_pay130 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1) (k0_pay131 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1) (k0_pay132 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.2) (Z10 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11) (Z11 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11) (fun t => Ideal.div ((cR : ℝ) : EReal) (scaleOf (hOf x1) (xOf x0 t)))
    (fun t a q => (rotatedE (hOf x1) (xOf x0 t) a q)) (factor_even 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g) (factor_odd 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g) (z10_at 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g) (z11_at 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g) f 70 le_rfl t j (by omega)

/-- The result of codes, whole. -/
theorem codes_whole (f : BufTy.Contents (Elt Ideal) arg6.view.ty) :
    arg6.view.read (Elt Ideal) (arg6.view.writes (Elt Ideal) f
      (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 (k0_pay130 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1) (k0_pay131 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1) (k0_pay132 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.2) (Z10 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11) (Z11 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11) 70).1) = outCodes x0 x1 := by
  funext k
  obtain ⟨t, j, rfl⟩ : ∃ (t : Fin 256) (j : Fin 8960), k = ix2 t j := ⟨k 0, k 1, by funext a; fin_cases a <;> rfl⟩
  exact codes_6 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g f t j

/-- The result of scales, whole. -/
theorem scales_whole (f : BufTy.Contents (Elt Ideal) arg7.view.ty) (ib) :
    arg7.view.read (Elt Ideal) (arg7.view.writes (Elt Ideal) f [⟨Rect.unit (s := S1x2x128) ![0, 0, 0] S1x2x128.size ib, k0_pay134 (k0_pay130 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1) (k0_pay132 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.2)⟩]) = outScales x0 x1 := by
  funext k
  obtain ⟨o, p, l, rfl⟩ : ∃ (o : Fin 1) (p : Fin 2) (l : Fin 128), k = ix3 o p l := ⟨k 0, k 1, k 2, by funext a; fin_cases a <;> rfl⟩
  obtain rfl : o = 0 := Fin.ext (by omega)
  refine (View.read_writes_cons_unit_of_mem arg7.view f ib _ [] (ix3 (0 : Fin 1) p l) (ix3 (0 : Fin 1) p l) rfl (by intro a; fin_cases a <;> simp)).trans ?_
  exact pay134_apply _ _ (fun t => (scaleOf (hOf x1) (xOf x0 t))) (scale_even 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g) (scale_odd 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g) p l

/-- The column buffer of scales, read whole. -/
theorem col_at (f : BufTy.Contents (Elt Ideal) arg13.view.ty) (i0 i1 ib s0 s1) (t : Fin 256) (j : Fin 128) :
    View.readAt (Elt Ideal) arg13.view (Rect.unit (s := S256x128) ![0, 0] S256x128.size ib).toLoadRect
      (arg13.view.writes (Elt Ideal) f [⟨⟨(⟨![1, 0], S128x128.size, ![2, 1], i1⟩ : LoadRect S256x128), s1⟩, k0_pay136 (k0_pay132 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.2)⟩,
        ⟨⟨(⟨![0, 0], S128x128.size, ![2, 1], i0⟩ : LoadRect S256x128), s0⟩, k0_pay135 (k0_pay130 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1)⟩]) (ix2 t j)
      = (scaleOf (hOf x1) (xOf x0 t.val)) :=
  col_read arg13 (k0_pay130 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1) (k0_pay132 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.2) (fun t => (scaleOf (hOf x1) (xOf x0 t))) (scale_even 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g) (scale_odd 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g) f i0 i1 ib s0 s1 t j

/-- The buffer of codes, read whole. -/
theorem cb_at (f : BufTy.Contents (Elt Ideal) arg12.view.ty) (ib) (t : Fin 256) (j : Fin 8960) :
    View.readAt (Elt Ideal) arg12.view (Rect.unit (s := S256x8960) ![0, 0] S256x8960.size ib).toLoadRect
      (arg12.view.writes (Elt Ideal) f (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 (k0_pay130 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1) (k0_pay131 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.1) (k0_pay132 (St 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11).1.2) (Z10 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11) (Z11 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11) 70).2) (ix2 t j)
      = ((((codeOf (hOf x1) (xOf x0 t.val) j.val).toInt : ℤ) : ℝ) : EReal) := by
  rw [View.readAt_apply]
  refine Eq.trans ?_ (codes_12 𝒱 c bd i arg1 harg1 arg2 harg2 arg3 harg3 arg4 harg4 arg5 harg5 arg6 harg6 arg7 harg7 arg8 harg8 arg9 harg9 arg10 harg10 arg11 harg11 arg12 harg12 arg13 harg13 x0 x1 f8 f9 f10 f11 g f t j)
  refine congrArg (arg12.view.read (Elt Ideal) _) ?_
  funext x; apply Fin.ext
  fin_cases x <;> simp [LoadRect.idx]

end Cert.KernelIdeal.Gen

end
-- ==== Proof.Blocks.lean ====
/- The kernel's first output, assembled from its six column blocks. -/
module

public import proofs.«01_k».proof.Proof.Outputs
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Rotation

/-- One column block of the product, from the packed weights and the weight scales of its columns. -/
theorem block_at (arg3 : Memref sig .tc .vmem S4480x1536 .i8) (harg3 : arg3.IsWhole) (arg4 : Memref sig .tc .vmem S1x1536 .f32) (harg4 : arg4.IsWhole)
    (x0 : Vec Ideal S256x8960 .bf16) (x1 : Vec Ideal S144x144 .bf16) (x2 : Vec Ideal S4480x1536 .i8) (x3 : Vec Ideal S1x1536 .f32)
    (cb : Vec Ideal S256x8960 .bf16) (col : Vec Ideal S256x128 .f32)
    (hcb : ∀ (t : Fin 256) (j : Fin 8960), cb (ix2 t j) = ((((codeOf (hOf x1) (xOf x0 t.val) j.val).toInt : ℤ) : ℝ) : EReal))
    (hcol : ∀ (t : Fin 256) (j : Fin 128), col (ix2 t j) = (scaleOf (hOf x1) (xOf x0 t.val)))
    (base : ℕ) (hb : base + 256 ≤ 1536) (i3 i4) (t : Fin 256) (o : Fin 256) :
    k0_pay140 (F := Ideal) (k0_pay139 (View.readAt (Elt Ideal) arg3.view (Rect.unit (s := S4480x1536) ![0, base] S4480x256.size i3).toLoadRect (harg3.unread x2)))
        cb col (View.readAt (Elt Ideal) arg4.view (Rect.unit (s := S1x1536) ![0, base] S1x256.size i4).toLoadRect (harg4.unread x3)) (ix2 t o)
      = outMain x0 x1 x2 x3 (ix2 t (⟨base + o.val, by omega⟩ : Fin 1536)) := by
  have hw : ∀ (f : Fin 4480), View.readAt (Elt Ideal) arg3.view (Rect.unit (s := S4480x1536) ![0, base] S4480x256.size i3).toLoadRect (harg3.unread x2) (ix2 f o)
      = x2 (ix2 f (⟨base + o.val, by omega⟩ : Fin 1536)) := by
    intro f
    rw [harg3.readAt_unread]
    refine congrArg x2 ?_
    funext x; apply Fin.ext
    fin_cases x <;> simp [LoadRect.idx]
  have hs : View.readAt (Elt Ideal) arg4.view (Rect.unit (s := S1x1536) ![0, base] S1x256.size i4).toLoadRect (harg4.unread x3) (ix2 0 o)
      = x3 (ix2 0 (⟨base + o.val, by omega⟩ : Fin 1536)) := by
    rw [harg4.readAt_unread]
    refine congrArg x3 ?_
    funext x; apply Fin.ext
    fin_cases x <;> simp [LoadRect.idx]
  rw [pay140_apply _ cb col _ t o (fun f => (((codeOf (hOf x1) (xOf x0 t.val) f).toInt : ℤ) : ℝ)) (fun f => weightOf x2 f (base + o.val)) (scaleOf (hOf x1) (xOf x0 t.val))
    (hcb t) (hcol t) (fun f => by rw [hw, weightOf, dif_pos ⟨f.isLt, by omega⟩]), hs]
  rfl

/-- Six column blocks that each hold their part of `G` hold `G`. -/
theorem six_blocks (arg5 : Memref sig .tc .vmem S256x1536 .bf16) (f : BufTy.Contents (Elt Ideal) arg5.view.ty) (G : Vec Ideal S256x1536 .bf16)
    (p0 p1 p2 p3 p4 p5 : Vec Ideal S256x256 .bf16)
    (h0 : ∀ t o : Fin 256, p0 (ix2 t o) = G (ix2 t (⟨0 + o.val, by omega⟩ : Fin 1536)))
    (h1 : ∀ t o : Fin 256, p1 (ix2 t o) = G (ix2 t (⟨256 + o.val, by omega⟩ : Fin 1536)))
    (h2 : ∀ t o : Fin 256, p2 (ix2 t o) = G (ix2 t (⟨512 + o.val, by omega⟩ : Fin 1536)))
    (h3 : ∀ t o : Fin 256, p3 (ix2 t o) = G (ix2 t (⟨768 + o.val, by omega⟩ : Fin 1536)))
    (h4 : ∀ t o : Fin 256, p4 (ix2 t o) = G (ix2 t (⟨1024 + o.val, by omega⟩ : Fin 1536)))
    (h5 : ∀ t o : Fin 256, p5 (ix2 t o) = G (ix2 t (⟨1280 + o.val, by omega⟩ : Fin 1536)))
    (i0 i1 i2 i3 i4 i5) :
    arg5.view.read (Elt Ideal) (arg5.view.writes (Elt Ideal) f [⟨Rect.unit (s := S256x1536) ![0, 1280] S256x256.size i5, p5⟩,
      ⟨Rect.unit (s := S256x1536) ![0, 1024] S256x256.size i4, p4⟩,
      ⟨Rect.unit (s := S256x1536) ![0, 768] S256x256.size i3, p3⟩,
      ⟨Rect.unit (s := S256x1536) ![0, 512] S256x256.size i2, p2⟩,
      ⟨Rect.unit (s := S256x1536) ![0, 256] S256x256.size i1, p1⟩,
      ⟨Rect.unit (s := S256x1536) ![0, 0] S256x256.size i0, p0⟩]) = G := by
  funext k
  obtain ⟨t, j, rfl⟩ : ∃ (t : Fin 256) (j : Fin 1536), k = ix2 t j := ⟨k 0, k 1, by funext a; fin_cases a <;> rfl⟩
  by_cases c5 : 1280 ≤ j.val
  · refine (View.read_writes_cons_unit_of_mem arg5.view f i5 p5 _ (ix2 t j) (ix2 t (⟨j.val - 1280, by omega⟩ : Fin 256)) rfl (by intro a; fin_cases a <;> simp <;> omega)).trans ?_
    refine (h5 t _).trans (congrArg G ?_)
    funext a; apply Fin.ext
    fin_cases a <;> simp <;> omega
  refine (View.read_writes_cons_unit_of_not_mem arg5.view f i5 p5 _ (ix2 t j) rfl 1 (Or.inl (by simp; omega))).trans ?_
  by_cases c4 : 1024 ≤ j.val
  · refine (View.read_writes_cons_unit_of_mem arg5.view f i4 p4 _ (ix2 t j) (ix2 t (⟨j.val - 1024, by omega⟩ : Fin 256)) rfl (by intro a; fin_cases a <;> simp <;> omega)).trans ?_
    refine (h4 t _).trans (congrArg G ?_)
    funext a; apply Fin.ext
    fin_cases a <;> simp <;> omega
  refine (View.read_writes_cons_unit_of_not_mem arg5.view f i4 p4 _ (ix2 t j) rfl 1 (Or.inl (by simp; omega))).trans ?_
  by_cases c3 : 768 ≤ j.val
  · refine (View.read_writes_cons_unit_of_mem arg5.view f i3 p3 _ (ix2 t j) (ix2 t (⟨j.val - 768, by omega⟩ : Fin 256)) rfl (by intro a; fin_cases a <;> simp <;> omega)).trans ?_
    refine (h3 t _).trans (congrArg G ?_)
    funext a; apply Fin.ext
    fin_cases a <;> simp <;> omega
  refine (View.read_writes_cons_unit_of_not_mem arg5.view f i3 p3 _ (ix2 t j) rfl 1 (Or.inl (by simp; omega))).trans ?_
  by_cases c2 : 512 ≤ j.val
  · refine (View.read_writes_cons_unit_of_mem arg5.view f i2 p2 _ (ix2 t j) (ix2 t (⟨j.val - 512, by omega⟩ : Fin 256)) rfl (by intro a; fin_cases a <;> simp <;> omega)).trans ?_
    refine (h2 t _).trans (congrArg G ?_)
    funext a; apply Fin.ext
    fin_cases a <;> simp <;> omega
  refine (View.read_writes_cons_unit_of_not_mem arg5.view f i2 p2 _ (ix2 t j) rfl 1 (Or.inl (by simp; omega))).trans ?_
  by_cases c1 : 256 ≤ j.val
  · refine (View.read_writes_cons_unit_of_mem arg5.view f i1 p1 _ (ix2 t j) (ix2 t (⟨j.val - 256, by omega⟩ : Fin 256)) rfl (by intro a; fin_cases a <;> simp <;> omega)).trans ?_
    refine (h1 t _).trans (congrArg G ?_)
    funext a; apply Fin.ext
    fin_cases a <;> simp <;> omega
  refine (View.read_writes_cons_unit_of_not_mem arg5.view f i1 p1 _ (ix2 t j) rfl 1 (Or.inl (by simp; omega))).trans ?_
  refine (View.read_writes_cons_unit_of_mem arg5.view f i0 p0 _ (ix2 t j) (ix2 t (⟨j.val, by omega⟩ : Fin 256)) rfl (by intro a; fin_cases a <;> simp)).trans ?_
  refine (h0 t _).trans (congrArg G ?_)
  funext a; apply Fin.ext
  fin_cases a <;> simp

end Cert.KernelIdeal.Gen

end
-- ==== Proof.ValueRun.lean ====
/- The idealized kernel's body, run once on real input blocks: what it leaves in its three outputs. -/
module

public import proofs.«01_k».proof.Proof.KernelIdealBody
public import proofs.«01_k».proof.Proof.Contents
public import proofs.«01_k».proof.Proof.Blocks

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Rotation
open Idealize.ShloMosaic.Rounds
local notation "𝕄" => MT nD τ sig Unit (Elt Ideal) ℕ (UR sig nD τ) ℕ

theorem trips_70 : Scf.trips (0#32) (Scalar.addi 0#32 70#32) 1#32 = 70 := by decide
theorem trips_8 : Scf.trips (0#32) (Scalar.addi 0#32 8#32) 1#32 = 8 := by decide
theorem trips_144 : Scf.trips (0#32) (Scalar.addi 0#32 144#32) 1#32 = 144 := by decide

set_option maxHeartbeats 8000000 in
/-- THE BODY'S TRIPLE WITH VALUES: on blocks of real numbers the body leaves the products, the codes and the scales of the block, at the first point
    and at the others. -/
theorem valueRun (c : Dev nD) (i : grid0.Coords) (arg1 : Memref sig .tc .vmem S256x8960 .bf16) (harg1 : arg1.IsWhole) (arg2 : Memref sig .tc .vmem S144x144 .bf16) (harg2 : arg2.IsWhole) (arg3 : Memref sig .tc .vmem S4480x1536 .i8) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S256x8960 .i8) (harg6 : arg6.IsWhole) (arg7 : Memref sig .tc .vmem S1x2x128 .f32) (harg7 : arg7.IsWhole) (arg8 : Memref sig .tc .vmem S4680x2x128 .bf16) (harg8 : arg8.IsWhole) (arg9 : Memref sig .tc .vmem S4680x2x128 .bf16) (harg9 : arg9.IsWhole) (arg10 : Memref sig .tc .vmem S9280x128 .f32) (harg10 : arg10.IsWhole) (arg11 : Memref sig .tc .vmem S9280x128 .f32) (harg11 : arg11.IsWhole) (arg12 : Memref sig .tc .vmem S256x8960 .bf16) (harg12 : arg12.IsWhole) (arg13 : Memref sig .tc .vmem S256x128 .f32) (harg13 : arg13.IsWhole)
    (x0 : Vec Ideal S256x8960 .bf16) (x1 : Vec Ideal S144x144 .bf16) (x2 : Vec Ideal S4480x1536 .i8) (x3 : Vec Ideal S1x1536 .f32) (g : Good x1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outMain x0 x1 x2 x3) ∗ owns (c : Thread nD τ) arg6 fullShare (outCodes x0 x1) ∗ owns (c : Thread nD τ) arg7 fullShare (outScales x0 x1) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none c none) E (cc0_hadamard_int4_down_proj i arg1 harg1 arg2 harg2 arg3 harg3 arg4 harg4 arg5 harg5 arg6 harg6 arg7 harg7 arg8 harg8 arg9 harg9 arg10 harg10 arg11 harg11 arg12 harg12 arg13 harg13) K := by
  simp only [cc0_hadamard_int4_down_proj_eq_skeleton]; unfold cc0_hadamard_int4_down_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  by_cases hc0 : cond0_0 i
  all_goals
    · iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
      obtain rfl := harg1.eq_unread hf0; obtain rfl := harg2.eq_unread hf1; obtain rfl := harg3.eq_unread hf2; obtain rfl := harg4.eq_unread hf3
      sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; swap; · iexact H4
        ipureintro
        sl_unfold_run_names
        simp only [trips_70, trips_8, trips_144, View.writes_append]
        simp only [pay143_dot, pay144_dot, pay147_dot, pay152_dot, pay1_dot]
        refine six_blocks arg5 _ (outMain x0 x1 x2 x3) _ _ _ _ _ _ ?_ ?_ ?_ ?_ ?_ ?_ _ _ _ _ _ _
        · intro t o; with_reducible exact block_at arg3 harg3 arg4 harg4 x0 x1 x2 x3 _ _ (cb_at Variants.none c none i arg1 harg1 arg2 harg2 arg3 harg3 arg4 harg4 arg5 harg5 arg6 harg6 arg7 harg7 arg8 harg8 arg9 harg9 arg10 harg10 arg11 harg11 arg12 harg12 arg13 harg13 x0 x1 _ _ _ _ g _ _) (col_at Variants.none c none i arg1 harg1 arg2 harg2 arg3 harg3 arg4 harg4 arg5 harg5 arg6 harg6 arg7 harg7 arg8 harg8 arg9 harg9 arg10 harg10 arg11 harg11 arg12 harg12 arg13 harg13 x0 x1 _ _ _ _ g _ _ _ _ _ _) 0 (by norm_num) _ _ t o
        · intro t o; with_reducible exact block_at arg3 harg3 arg4 harg4 x0 x1 x2 x3 _ _ (cb_at Variants.none c none i arg1 harg1 arg2 harg2 arg3 harg3 arg4 harg4 arg5 harg5 arg6 harg6 arg7 harg7 arg8 harg8 arg9 harg9 arg10 harg10 arg11 harg11 arg12 harg12 arg13 harg13 x0 x1 _ _ _ _ g _ _) (col_at Variants.none c none i arg1 harg1 arg2 harg2 arg3 harg3 arg4 harg4 arg5 harg5 arg6 harg6 arg7 harg7 arg8 harg8 arg9 harg9 arg10 harg10 arg11 harg11 arg12 harg12 arg13 harg13 x0 x1 _ _ _ _ g _ _ _ _ _ _) 256 (by norm_num) _ _ t o
        · intro t o; with_reducible exact block_at arg3 harg3 arg4 harg4 x0 x1 x2 x3 _ _ (cb_at Variants.none c none i arg1 harg1 arg2 harg2 arg3 harg3 arg4 harg4 arg5 harg5 arg6 harg6 arg7 harg7 arg8 harg8 arg9 harg9 arg10 harg10 arg11 harg11 arg12 harg12 arg13 harg13 x0 x1 _ _ _ _ g _ _) (col_at Variants.none c none i arg1 harg1 arg2 harg2 arg3 harg3 arg4 harg4 arg5 harg5 arg6 harg6 arg7 harg7 arg8 harg8 arg9 harg9 arg10 harg10 arg11 harg11 arg12 harg12 arg13 harg13 x0 x1 _ _ _ _ g _ _ _ _ _ _) 512 (by norm_num) _ _ t o
        · intro t o; with_reducible exact block_at arg3 harg3 arg4 harg4 x0 x1 x2 x3 _ _ (cb_at Variants.none c none i arg1 harg1 arg2 harg2 arg3 harg3 arg4 harg4 arg5 harg5 arg6 harg6 arg7 harg7 arg8 harg8 arg9 harg9 arg10 harg10 arg11 harg11 arg12 harg12 arg13 harg13 x0 x1 _ _ _ _ g _ _) (col_at Variants.none c none i arg1 harg1 arg2 harg2 arg3 harg3 arg4 harg4 arg5 harg5 arg6 harg6 arg7 harg7 arg8 harg8 arg9 harg9 arg10 harg10 arg11 harg11 arg12 harg12 arg13 harg13 x0 x1 _ _ _ _ g _ _ _ _ _ _) 768 (by norm_num) _ _ t o
        · intro t o; with_reducible exact block_at arg3 harg3 arg4 harg4 x0 x1 x2 x3 _ _ (cb_at Variants.none c none i arg1 harg1 arg2 harg2 arg3 harg3 arg4 harg4 arg5 harg5 arg6 harg6 arg7 harg7 arg8 harg8 arg9 harg9 arg10 harg10 arg11 harg11 arg12 harg12 arg13 harg13 x0 x1 _ _ _ _ g _ _) (col_at Variants.none c none i arg1 harg1 arg2 harg2 arg3 harg3 arg4 harg4 arg5 harg5 arg6 harg6 arg7 harg7 arg8 harg8 arg9 harg9 arg10 harg10 arg11 harg11 arg12 harg12 arg13 harg13 x0 x1 _ _ _ _ g _ _ _ _ _ _) 1024 (by norm_num) _ _ t o
        · intro t o; with_reducible exact block_at arg3 harg3 arg4 harg4 x0 x1 x2 x3 _ _ (cb_at Variants.none c none i arg1 harg1 arg2 harg2 arg3 harg3 arg4 harg4 arg5 harg5 arg6 harg6 arg7 harg7 arg8 harg8 arg9 harg9 arg10 harg10 arg11 harg11 arg12 harg12 arg13 harg13 x0 x1 _ _ _ _ g _ _) (col_at Variants.none c none i arg1 harg1 arg2 harg2 arg3 harg3 arg4 harg4 arg5 harg5 arg6 harg6 arg7 harg7 arg8 harg8 arg9 harg9 arg10 harg10 arg11 harg11 arg12 harg12 arg13 harg13 x0 x1 _ _ _ _ g _ _ _ _ _ _) 1280 (by norm_num) _ _ t o
      isplitl [H5]
      · iexists _; isplitr; swap; · iexact H5
        ipureintro
        sl_unfold_run_names
        simp only [trips_70, trips_8, trips_144, View.writes_append]
        with_reducible exact codes_whole Variants.none c none i arg1 harg1 arg2 harg2 arg3 harg3 arg4 harg4 arg5 harg5 arg6 harg6 arg7 harg7 arg8 harg8 arg9 harg9 arg10 harg10 arg11 harg11 arg12 harg12 arg13 harg13 x0 x1 _ _ _ _ g _
      isplitl [H6]
      · iexists _; isplitr; swap; · iexact H6
        ipureintro
        sl_unfold_run_names
        simp only [trips_70, trips_8, trips_144, View.writes_append]
        with_reducible exact scales_whole Variants.none c none i arg1 harg1 arg2 harg2 arg3 harg3 arg4 harg4 arg5 harg5 arg6 harg6 arg7 harg7 arg8 harg8 arg9 harg9 arg10 harg10 arg11 harg11 arg12 harg12 arg13 harg13 x0 x1 _ _ _ _ g _ _
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      iexists _, _; isplitr; swap; · iexact HS5
      ipureintro; rfl

end Cert.KernelIdeal.Gen

end
-- ==== Proof.ValueFrame.lean ====
/- The idealized kernel's run with its outputs named, when every block it stages holds real numbers. -/
module

public import proofs.«01_k».proof.Proof.KernelIdealFrame
public import proofs.«01_k».proof.Proof.ValueRun

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen hiding dats A_eq after0_0 after0_1 after0_2 after0_3 before0_0 before0_1 before0_2 before0_3 bodyPre bodyPost sound_body body_obligation hin hout run_main_quiescent run_main
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The proof data of the one pipeline on core `c`, its outputs named: after the body at point `t` each input's buffer holds its block and the
    outputs hold the products, the codes and the scales of the block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outMain (iblk m c 0 t) (iblk m c 1 t) (iblk m c 2 t) (iblk m c 3 t)
    | ⟨5, _⟩ => outCodes (iblk m c 0 t) (iblk m c 1 t)
    | ⟨6, _⟩ => outScales (iblk m c 0 t) (iblk m c 1 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outMain (iblk m c 0 t) (iblk m c 1 t) (iblk m c 2 t) (iblk m c 3 t) := by dsimp only [dats]
theorem after0_5 (c : Dev nD) (t : Fin cfg0.N) : (dats m 0 c).after 5 t = outCodes (iblk m c 0 t) (iblk m c 1 t) := by dsimp only [dats]
theorem after0_6 (c : Dev nD) (t : Fin cfg0.N) : (dats m 0 c).after 6 t = outScales (iblk m c 0 t) (iblk m c 1 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point: the inputs' memrefs hold their blocks before and after, and the outputs' hold the named values after
    (`valueRun`). -/
theorem sound_body (hg : ∀ c t, Good (iblk m c 1 t)) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, show (dats m 0 c).Φ t.succ = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply (valueRun c (grid0.coords t) _ _ _ _ _ _ _ _ _ _ _ _ _ _ _ _ _ _ _ _ _ _ _ _ _ _ (iblk m c 0 t) (iblk m c 1 t) (iblk m c 2 t) (iblk m c 3 t) (hg c t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

variable (hg : ∀ c t, Good (iblk m c 1 t))
include hg

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m hg c t) rfl .rfl fun _ => .rfl

omit hg in
/-- What the launch hands the region is the invariant before the first point. -/
theorem hin (c : Dev nD) : Pipeline.ΦA spec0 c ⊢ (dats m 0 c).Φ 0 := Idealize.SL.BI.Entails.refl _

omit hg in
/-- The invariant after the last point is what the region gives back. -/
theorem hout (c : Dev nD) : (dats m 0 c).Φ (Fin.last cfg0.N) ⊢ Pipeline.ΦA spec0 c := Idealize.SL.BI.Entails.refl _

-- the launch theorem's implicit arguments are found by unifying its conclusion with this one, which takes unfolding plain
-- definitions in a metavariable's type
set_option backward.isDefEq.respectTransparency.types false in
set_option maxHeartbeats 800000 in
/-- THE LAUNCH: every run ends with every array of the pipeline at what the proof data says and every other buffer as the
    host's lines leave it, and every counter at zero. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m hg c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ hg)

end Cert.KernelIdeal.Val

end
-- ==== Proof.Arrays.lean ====
/- The arrays the idealized kernel's outputs end at, as functions of the arrays it reads. -/
module

public import proofs.«01_k».proof.Proof.ValueFrame
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen hiding dats A_eq after0_0 after0_1 after0_2 after0_3 before0_0 before0_1 before0_2 before0_3 bodyPre bodyPost sound_body body_obligation hin hout run_main_quiescent run_main
open Cert.Rotation
open Idealize.ShloMosaic.Pipeline (Dat Cfg Window BodyObligation cellOf)

variable (m : (ℓ : Loc nD τ sig) → Buf (Elt Ideal) ℓ) (ρ : Dev nD → PrngReg)

/-- Row `r` of the activations over the naturals, zero outside. -/
def rowOf (x : Vec Ideal S6144x8960 .bf16) (r j : ℕ) : EReal := if h : r < 6144 ∧ j < 8960 then x (ix2 ⟨r, h.1⟩ ⟨j, h.2⟩) else 0

/-- The products of all tokens. -/
def allMain (x : Vec Ideal S6144x8960 .bf16) (h : Vec Ideal S144x144 .bf16) (w : Vec Ideal S4480x1536 .i8) (ws : Vec Ideal S1x1536 .f32) : Vec Ideal S6144x1536 .bf16 :=
  fun k => (prodOf (hOf h) (rowOf x (k 0).val) (fun f => weightOf w f (k 1).val)) * ws (ix2 0 (k 1))
/-- The codes of all tokens. -/
def allCodes (x : Vec Ideal S6144x8960 .bf16) (h : Vec Ideal S144x144 .bf16) : Vec Ideal S6144x8960 .i8 :=
  fun k => codeOf (hOf h) (rowOf x (k 0).val) (k 1).val
/-- The scales of all tokens: lane `l` of row `p` of block `b` holds token `256 b + 2 l + p`. -/
def allScales (x : Vec Ideal S6144x8960 .bf16) (h : Vec Ideal S144x144 .bf16) : Vec Ideal S24x2x128 .f32 :=
  fun k => (scaleOf (hOf h) (rowOf x (256 * (k 0).val + (2 * (k 2).val + (k 1).val))))

theorem idx : ∀ t : Fin grid0.N,
    win0_0.index t 0 = t.val ∧ win0_0.index t 1 = 0 ∧ win0_1.index t 0 = 0 ∧ win0_1.index t 1 = 0 ∧
    win0_2.index t 0 = 0 ∧ win0_2.index t 1 = 0 ∧ win0_3.index t 0 = 0 ∧ win0_3.index t 1 = 0 ∧
    win0_4.index t 0 = t.val ∧ win0_4.index t 1 = 0 ∧ win0_5.index t 0 = t.val ∧ win0_5.index t 1 = 0 ∧
    win0_6.index t 0 = t.val ∧ win0_6.index t 1 = 0 ∧ win0_6.index t 2 = 0 := by decide +kernel

theorem iblk0_at (c : Dev nD) (t : Fin cfg0.N) (a : Fin 256) (j : Fin 8960) (h : 256 * t.val + a.val < 6144) :
    iblk m c 0 t (ix2 a j) = V m c main_v2 (ix2 (⟨256 * t.val + a.val, h⟩ : Fin 6144) j) := by
  blk_ext [iblk, idx t]
theorem iblk1_at (c : Dev nD) (t : Fin cfg0.N) (a k : Fin 144) :
    iblk m c 1 t (ix2 a k) = V m c main_v1 (ix2 a k) := by
  blk_ext [iblk, idx t]
theorem iblk2_at (c : Dev nD) (t : Fin cfg0.N) (a : Fin 4480) (k : Fin 1536) :
    iblk m c 2 t (ix2 a k) = V m c main_arg2 (ix2 a k) := by
  blk_ext [iblk, idx t]
theorem iblk3_at (c : Dev nD) (t : Fin cfg0.N) (a : Fin 1) (k : Fin 1536) :
    iblk m c 3 t (ix2 a k) = V m c main_v3 (ix2 a k) := by
  blk_ext [iblk, idx t]

theorem hOf_iblk (c : Dev nD) (t : Fin cfg0.N) : hOf (iblk m c 1 t) = hOf (V m c main_v1) := by
  funext a k
  unfold hOf
  split
  · rw [iblk1_at]
  · rfl
theorem xOf_iblk (c : Dev nD) (t : Fin cfg0.N) (a : ℕ) (ha : a < 256) : xOf (iblk m c 0 t) a = rowOf (V m c main_v2) (256 * t.val + a) := by
  have ht : t.val < 24 := t.isLt
  funext j
  unfold xOf rowOf
  by_cases hj : j < 8960
  · rw [dif_pos ⟨ha, hj⟩, dif_pos ⟨by omega, hj⟩, iblk0_at m c t ⟨a, ha⟩ ⟨j, hj⟩ (by show 256 * t.val + a < 6144; omega)]
  · rw [dif_neg (fun h => hj h.2), dif_neg (fun h => hj h.2)]
theorem weightOf_iblk (c : Dev nD) (t : Fin cfg0.N) : weightOf (iblk m c 2 t) = weightOf (V m c main_arg2) := by
  funext f o
  unfold weightOf
  split
  · rw [iblk2_at]
  · rfl

theorem main_at (c : Dev nD) (t : Fin cfg0.N) (y : S256x1536.Idx) : outMain (iblk m c 0 t) (iblk m c 1 t) (iblk m c 2 t) (iblk m c 3 t) y = allMain (V m c main_v2) (V m c main_v1) (V m c main_arg2) (V m c main_v3) ((((cfgs 0).win 4).blk t).view.emb y) := by
  have e0 : ((((cfgs 0).win 4).blk t).view.emb y 0).val = 256 * t.val + (y 0).val := by
    blk_simp [idx t]
    omega
  have e1 : ((((cfgs 0).win 4).blk t).view.emb y 1).val = (y 1).val := by
    blk_simp [idx t]
  have e1' : (((cfgs 0).win 4).blk t).view.emb y 1 = y 1 := Fin.ext e1
  unfold outMain allMain
  show _ = (prodOf _ (rowOf _ ((((cfgs 0).win 4).blk t).view.emb y 0).val) (fun f => weightOf _ f ((((cfgs 0).win 4).blk t).view.emb y 1).val)) * V m c main_v3 (ix2 0 ((((cfgs 0).win 4).blk t).view.emb y 1))
  rw [e0, e1, e1', hOf_iblk, weightOf_iblk, xOf_iblk m c t _ (y 0).isLt]
  exact congrArg (_ * ·) (iblk3_at m c t 0 (y 1))
theorem final_main (c : Dev nD) : (dats m 0 c).arrAt 4 (cfgs 0).N = allMain (V m c main_v2) (V m c main_v1) (V m c main_arg2) (V m c main_v3) := by
  refine (dats m 0 c).arrAt_eq_of_covers 4 _ (by decide +kernel) fun t hf y => ?_
  blk_simp
  rw [after0_4]
  frame_out
  exact main_at m c t y
theorem codes_at (c : Dev nD) (t : Fin cfg0.N) (y : S256x8960.Idx) : outCodes (iblk m c 0 t) (iblk m c 1 t) y = allCodes (V m c main_v2) (V m c main_v1) ((((cfgs 0).win 5).blk t).view.emb y) := by
  have e0 : ((((cfgs 0).win 5).blk t).view.emb y 0).val = 256 * t.val + (y 0).val := by
    blk_simp [idx t]
    omega
  have e1 : ((((cfgs 0).win 5).blk t).view.emb y 1).val = (y 1).val := by
    blk_simp [idx t]
  unfold outCodes allCodes
  show _ = codeOf _ (rowOf _ ((((cfgs 0).win 5).blk t).view.emb y 0).val) ((((cfgs 0).win 5).blk t).view.emb y 1).val
  rw [e0, e1, hOf_iblk, xOf_iblk m c t _ (y 0).isLt]
theorem final_codes (c : Dev nD) : (dats m 0 c).arrAt 5 (cfgs 0).N = allCodes (V m c main_v2) (V m c main_v1) := by
  refine (dats m 0 c).arrAt_eq_of_covers 5 _ (by decide +kernel) fun t hf y => ?_
  blk_simp
  rw [after0_5]
  frame_out
  exact codes_at m c t y
theorem scales_at (c : Dev nD) (t : Fin cfg0.N) (y : S1x2x128.Idx) : outScales (iblk m c 0 t) (iblk m c 1 t) y = allScales (V m c main_v2) (V m c main_v1) ((((cfgs 0).win 6).blk t).view.emb y) := by
  have e0 : ((((cfgs 0).win 6).blk t).view.emb y 0).val = t.val := by
    have : (y 0).val < 1 := (y 0).isLt
    blk_simp [idx t]
  have e1 : ((((cfgs 0).win 6).blk t).view.emb y 1).val = (y 1).val := by
    blk_simp [idx t]
  have e2 : ((((cfgs 0).win 6).blk t).view.emb y 2).val = (y 2).val := by
    blk_simp [idx t]
  unfold outScales allScales
  show _ = (scaleOf _ (rowOf _ (256 * ((((cfgs 0).win 6).blk t).view.emb y 0).val + (2 * ((((cfgs 0).win 6).blk t).view.emb y 2).val + ((((cfgs 0).win 6).blk t).view.emb y 1).val))))
  have h1 : (y 1).val < 2 := (y 1).isLt
  have h2 : (y 2).val < 128 := (y 2).isLt
  rw [e0, e1, e2, hOf_iblk, xOf_iblk m c t _ (by omega)]
theorem final_scales (c : Dev nD) : (dats m 0 c).arrAt 6 (cfgs 0).N = allScales (V m c main_v2) (V m c main_v1) := by
  refine (dats m 0 c).arrAt_eq_of_covers 6 _ (by decide +kernel) fun t hf y => ?_
  blk_simp
  rw [after0_6]
  frame_out
  exact scales_at m c t y

end Cert.KernelIdeal.Val

end
-- ==== Proof.KernelValue.lean ====
/- The contents the idealized kernel's region starts from, and the arrays its host operations leave at the end. -/
module

public import proofs.«01_k».proof.Proof.Arrays
public import Idealize.ShloMosaic.Lib.Pipeline.ValueKit
public import Idealize.ShloMosaic.Lib.Claim
public import proofs.«01_k».proof.Defs

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen hiding dats A_eq after0_0 after0_1 after0_2 after0_3 before0_0 before0_1 before0_2 before0_3 bodyPre bodyPost sound_body body_obligation hin hout run_main_quiescent run_main
open Cert.Rotation
open Idealize.ShloMosaic.Pipeline (Dat Cfg Window BodyObligation cellOf)

variable (m : (ℓ : Loc nD τ sig) → Buf (Elt Ideal) ℓ) (ρ : Dev nD → PrngReg)

theorem x_at (c : Dev nD) (r : Fin 6144) (j : Fin 8960) :
    V m c main_v2 (ix2 r j) = m ((c.tc : Thread nD τ).loc main_arg0) (ix3 (⟨r.val / 512, by omega⟩ : Fin 12) (⟨r.val % 512, by omega⟩ : Fin 512) j) := by
  show StableHlo.after [hostOps0, hostOps0_1, hostOps0_2].flatten (fun b => m (c, b)) _ _ = _
  simp only [hostOps0, hostOps0_1, hostOps0_2, List.flatten_cons, List.flatten_nil, List.append_nil, List.cons_append, List.nil_append]
  after_results_simp
  pointwise
theorem had_at (c : Dev nD) (a k : Fin 144) :
    V m c main_v1 (ix2 a k) = if h : a.val < 140 ∧ k.val < 140 then m ((c.tc : Thread nD τ).loc main_arg1) (ix2 (⟨a.val, h.1⟩ : Fin 140) (⟨k.val, h.2⟩ : Fin 140)) else (0 : EReal) := by
  show StableHlo.after [hostOps0, hostOps0_1, hostOps0_2].flatten (fun b => m (c, b)) _ _ = _
  simp only [hostOps0, hostOps0_1, hostOps0_2, List.flatten_cons, List.flatten_nil, List.append_nil, List.cons_append, List.nil_append]
  after_results_simp
  simp only [StableHlo.TRef.toBuf, StableHlo.TRef.ofBuf, cast_eq]
  pointwise
  congr 1
  funext _
  show (((0 : BitVec 32).toInt : ℝ) : EReal) = 0
  simp
theorem ws_at (c : Dev nD) (o : Fin 1536) :
    V m c main_v3 (ix2 0 o) = m ((c.tc : Thread nD τ).loc main_arg3) (ix1 o) := by
  show StableHlo.after [hostOps0, hostOps0_1, hostOps0_2].flatten (fun b => m (c, b)) _ _ = _
  simp only [hostOps0, hostOps0_1, hostOps0_2, List.flatten_cons, List.flatten_nil, List.append_nil, List.cons_append, List.nil_append]
  after_results_simp
  pointwise

theorem arr_inj : Function.Injective (Pipeline.arrRef spec0) := by decide
theorem end_main (c : Dev nD) :
    Pipeline.afterTail₀ cfgs (dats m) 0 (V0 m) [hostOps1] c main_v5 = shapeCast _ ((dats m 0 c).arrAt 4 (cfgs 0).N) shapeCasts_S6144x1536_S12x512x1536 := by
  unfold Pipeline.afterTail₀
  simp only [hostOps1, List.flatten_cons, List.flatten_nil, List.append_nil]
  after_results_simp
  have h := Pipeline.withArrays_arr spec0 arr_inj c (V0 m c) (fun w => (dats m 0 c).arrAt w (cfgs 0).N) 4
  exact congrArg (fun z => shapeCast S12x512x1536 z shapeCasts_S6144x1536_S12x512x1536) h
theorem end_codes (c : Dev nD) :
    Pipeline.afterTail₀ cfgs (dats m) 0 (V0 m) [hostOps1] c main_v6 = shapeCast _ ((dats m 0 c).arrAt 5 (cfgs 0).N) shapeCasts_S6144x8960_S12x512x8960 := by
  unfold Pipeline.afterTail₀
  simp only [hostOps1, List.flatten_cons, List.flatten_nil, List.append_nil]
  after_results_simp
  have h := Pipeline.withArrays_arr spec0 arr_inj c (V0 m c) (fun w => (dats m 0 c).arrAt w (cfgs 0).N) 5
  exact congrArg (fun z => shapeCast S12x512x8960 z shapeCasts_S6144x8960_S12x512x8960) h
theorem end_scales (c : Dev nD) :
    Pipeline.afterTail₀ cfgs (dats m) 0 (V0 m) [hostOps1] c main_v8 = shapeCast _ (transpose S24x128x2 [0, 2, 1] ((dats m 0 c).arrAt 6 (cfgs 0).N) transposes_S24x2x128_S24x128x2_0_2_1) shapeCasts_S24x128x2_S12x512 := by
  unfold Pipeline.afterTail₀
  simp only [hostOps1, List.flatten_cons, List.flatten_nil, List.append_nil]
  after_results_simp
  have h := Pipeline.withArrays_arr spec0 arr_inj c (V0 m c) (fun w => (dats m 0 c).arrAt w (cfgs 0).N) 6
  exact congrArg (fun z => shapeCast S12x512 (transpose S24x128x2 [0, 2, 1] z transposes_S24x2x128_S24x128x2_0_2_1) shapeCasts_S24x128x2_S12x512) h

/-- Row `512 b + s` of the activations, zero outside. -/
def tokOf (x : Vec Ideal S12x512x8960 .bf16) (b : Fin 12) (s : Fin 512) (j : ℕ) : EReal := if h : j < 8960 then x (ix3 b s ⟨j, h⟩) else 0
/-- The Hadamard matrix, zero outside. -/
def hadOf (h : Vec Ideal S140x140 .f32) (a k : ℕ) : EReal := if c : a < 140 ∧ k < 140 then h (ix2 ⟨a, c.1⟩ ⟨k, c.2⟩) else 0

theorem rowOf_eq (c : Dev nD) (b : Fin 12) (s : Fin 512) : rowOf (V m c main_v2) (512 * b.val + s.val) = tokOf (m ((c.tc : Thread nD τ).loc main_arg0)) b s := by
  funext j
  unfold rowOf tokOf
  by_cases hj : j < 8960
  · rw [dif_pos ⟨by omega, hj⟩, dif_pos hj, x_at]
    congr 2
    · exact Fin.ext (by show (512 * b.val + s.val) / 512 = b.val; omega)
    · exact Fin.ext (by show (512 * b.val + s.val) % 512 = s.val; omega)
  · rw [dif_neg (fun h => hj h.2), dif_neg hj]
theorem hOf_eq (c : Dev nD) : hOf (V m c main_v1) = hadOf (m ((c.tc : Thread nD τ).loc main_arg1)) := by
  funext a k
  unfold hOf hadOf
  by_cases h : a < 144 ∧ k < 144
  · rw [dif_pos h, had_at]
  · rw [dif_neg h, dif_neg (fun h' => h ⟨by omega, by omega⟩)]

theorem main_cast (A : Vec Ideal S6144x1536 .bf16) (b : Fin 12) (s : Fin 512) (o : Fin 1536) (h : 512 * b.val + s.val < 6144) :
    shapeCast S12x512x1536 A shapeCasts_S6144x1536_S12x512x1536 (ix3 b s o) = A (ix2 (⟨512 * b.val + s.val, h⟩ : Fin 6144) o) := by
  pointwise
  congr 3
  omega
theorem codes_cast (A : Vec Ideal S6144x8960 .i8) (b : Fin 12) (s : Fin 512) (o : Fin 8960) (h : 512 * b.val + s.val < 6144) :
    shapeCast S12x512x8960 A shapeCasts_S6144x8960_S12x512x8960 (ix3 b s o) = A (ix2 (⟨512 * b.val + s.val, h⟩ : Fin 6144) o) := by
  pointwise
  congr 3
  omega

/-- The first result at block `b`, token `s`, column `o`. -/
theorem result_main (c : Dev nD) (b : Fin 12) (s : Fin 512) (o : Fin 1536) :
    Pipeline.afterTail₀ cfgs (dats m) 0 (V0 m) [hostOps1] c main_v5 (ix3 b s o) =
      (prodOf (hadOf (m ((c.tc : Thread nD τ).loc main_arg1))) (tokOf (m ((c.tc : Thread nD τ).loc main_arg0)) b s) (fun f => weightOf (m ((c.tc : Thread nD τ).loc main_arg2)) f o.val)) * m ((c.tc : Thread nD τ).loc main_arg3) (ix1 o) := by
  rw [end_main, final_main, ← hOf_eq, ← rowOf_eq, ← ws_at m, ← V_main_arg2 m, main_cast _ _ _ _ (by omega)]
  rfl
theorem result_codes (c : Dev nD) (b : Fin 12) (s : Fin 512) (j : Fin 8960) :
    Pipeline.afterTail₀ cfgs (dats m) 0 (V0 m) [hostOps1] c main_v6 (ix3 b s j) =
      codeOf (hadOf (m ((c.tc : Thread nD τ).loc main_arg1))) (tokOf (m ((c.tc : Thread nD τ).loc main_arg0)) b s) j.val := by
  rw [end_codes, final_codes, ← hOf_eq, ← rowOf_eq]
  rw [codes_cast _ _ _ _ (by omega)]
  rfl
theorem result_scales (c : Dev nD) (b : Fin 12) (s : Fin 512) :
    Pipeline.afterTail₀ cfgs (dats m) 0 (V0 m) [hostOps1] c main_v8 (ix2 b s) =
      (scaleOf (hadOf (m ((c.tc : Thread nD τ).loc main_arg1))) (tokOf (m ((c.tc : Thread nD τ).loc main_arg0)) b s)) := by
  rw [end_scales, final_scales, ← hOf_eq, ← rowOf_eq]
  pointwise [allScales]
  congr 2
  omega

/-- The padded Hadamard matrix is zero in its last rows and columns. -/
theorem good (c : Dev nD) (t : Fin cfg0.N) : Good (iblk m c 1 t) where
  h_row a k h := by
    rw [iblk1_at, had_at, dif_neg (fun h' => by omega)]
  h_col a k h := by
    rw [iblk1_at, had_at, dif_neg (fun h' => by omega)]

/-- The idealized kernel's run, its three results named. -/
theorem run_results :
    θ_run defs (onTc (τ := τ) (main (F := Ideal))) ⟨m, fun _ => 0, ρ⟩ (fun r => ∀ c : Dev nD,
      r.2.mem ((c.tc : Thread nD τ).loc main_v5) = Pipeline.afterTail₀ cfgs (dats m) 0 (V0 m) [hostOps1] c main_v5
      ∧ r.2.mem ((c.tc : Thread nD τ).loc main_v6) = Pipeline.afterTail₀ cfgs (dats m) 0 (V0 m) [hostOps1] c main_v6
      ∧ r.2.mem ((c.tc : Thread nD τ).loc main_v8) = Pipeline.afterTail₀ cfgs (dats m) 0 (V0 m) [hostOps1] c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2 main_v5 (Pipeline.mem_restRefs_of main_v5 (by decide) (by decide)),
      (h c).2 main_v6 (Pipeline.mem_restRefs_of main_v6 (by decide) (by decide)),
      (h c).2 main_v8 (Pipeline.mem_restRefs_of main_v8 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ (good m))

end Cert.KernelIdeal.Val

end
-- ==== Proof.Rounding.lean ====
/- Rounding half to even commutes with clamping to an interval with whole ends; the codes as whole numbers between -7 and 7. -/
module

public import proofs.«01_k».proof.Proof.Scales
public import proofs.«01_k».proof.Proof.Quantised
public import proofs.«01_k».proof.Proof.Outputs

@[expose] public section

set_option maxRecDepth 16384

noncomputable section

namespace Cert.Rounding

open Idealize.ShloMosaic Cert.Rotation Cert.KernelIdeal.Gen

/-- A number at most `n` rounds to at most `n`. -/
theorem round_le {v : ℝ} {n : ℤ} (h : v ≤ n) : Ideal.roundHalfEven v ≤ n := by
  have h1 : ⌊v⌋ ≤ n := by
    have := Int.floor_mono h
    simpa using this
  have h2 := Int.floor_le v
  unfold Ideal.roundHalfEven
  rcases h1.lt_or_eq with h3 | h3
  · dsimp only
    split_ifs <;> omega
  · have : v - (⌊v⌋ : ℝ) < 1 / 2 := by
      rw [h3] at h2 ⊢
      linarith
    dsimp only
    rw [if_pos this]
    exact h3.le
/-- A number at least `n` rounds to at least `n`. -/
theorem le_round {v : ℝ} {n : ℤ} (h : (n : ℝ) ≤ v) : n ≤ Ideal.roundHalfEven v := by
  have h1 : n ≤ ⌊v⌋ := Int.le_floor.mpr h
  unfold Ideal.roundHalfEven
  dsimp only
  split_ifs <;> omega
/-- Clamping to `[-7, 7]` may be done before or after rounding. -/
theorem clamp_round (v : ℝ) : min 7 (max (-7) (Ideal.roundHalfEven v)) = Ideal.roundHalfEven (min 7 (max (-7) v)) := by
  rcases le_total v (-7) with h | h
  · have h1 := round_le (n := -7) (by push_cast; exact h)
    have e : min 7 (max (-7) v) = -7 := by rw [max_eq_left h]; norm_num
    have h2 := round_le (v := -7) (n := -7) (by push_cast; exact le_refl _)
    have h3 := le_round (v := -7) (n := -7) (by push_cast; exact le_refl _)
    rw [e, max_eq_left h1]
    omega
  · rw [max_eq_right h]
    have h0 := le_round (n := -7) (v := v) (by push_cast; exact h)
    rw [max_eq_right h0]
    rcases le_total v 7 with h' | h'
    · have h1 := round_le (n := 7) (by push_cast; exact h')
      rw [min_eq_right h', min_eq_right h1]
    · have h1 := le_round (n := 7) (by push_cast; exact h')
      have h2 := round_le (v := 7) (n := 7) (by push_cast; exact le_refl _)
      have h3 := le_round (v := 7) (n := 7) (by push_cast; exact le_refl _)
      rw [min_eq_left h', min_eq_left h1]
      omega

/-- The code of a real number as a whole number. -/
def whole (v : ℝ) : ℤ := Ideal.roundHalfEven (min 7 (max (-7) v))
theorem whole_le (v : ℝ) : whole v ≤ 7 := round_le (by push_cast; exact min_le_left _ _)
theorem le_whole (v : ℝ) : -7 ≤ whole v := le_round (by push_cast; exact le_min (by norm_num) (le_max_left _ _))

/-- A small whole number converts to itself. -/
theorem fptosi_whole (n : ℤ) (h1 : -7 ≤ n) (h2 : n ≤ 7) : Ideal.fptosi 32 (((n : ℝ)) : EReal) = BitVec.ofInt 32 n := by
  unfold Ideal.fptosi
  congr 1
  show max _ (min _ (if (0:ℝ) ≤ (n : ℝ) then ⌊(n : ℝ)⌋ else ⌈(n : ℝ)⌉)) = n
  simp only [Int.floor_intCast, Int.ceil_intCast, ite_self]
  norm_num
  omega

theorem code_real (z r : ℝ) : code (z : EReal) (r : EReal) = BitVec.ofInt 32 (whole (z * r)) := by
  rw [code_unfold, ofBits_7, ofBits_m7, ← EReal.coe_mul, ← coe_max]
  rw [show min ((7 : ℝ) : EReal) ((max (-7) (z * r) : ℝ) : EReal) = ((min 7 (max (-7) (z * r)) : ℝ) : EReal) from (EReal.coe_strictMono.monotone.map_min).symm]
  show Ideal.fptosi 32 (((whole (z * r) : ℤ) : ℝ) : EReal) = _
  exact fptosi_whole _ (le_whole _) (whole_le _)

theorem small_words : ∀ k : Fin 15, ((BitVec.ofInt 32 ((k.val : ℤ) - 7)).setWidth 8).toInt = (k.val : ℤ) - 7 ∧ (BitVec.ofInt 32 ((k.val : ℤ) - 7)).toInt = (k.val : ℤ) - 7 := by decide
theorem small_word (n : ℤ) (h1 : -7 ≤ n) (h2 : n ≤ 7) : ((BitVec.ofInt 32 n).setWidth 8).toInt = n ∧ (BitVec.ofInt 32 n).toInt = n := by
  have h := small_words ⟨(n + 7).toNat, by omega⟩
  have e : (((n + 7).toNat : ℕ) : ℤ) - 7 = n := by omega
  simp only [e] at h
  exact h

/-- Dividing by the scale, rounding and clamping gives the code. -/
theorem reference_code (z c s : ℝ) (hs : s ≠ 0) :
    Ideal.fptosi 32 (min ((7 : ℝ) : EReal) (max ((-7 : ℝ) : EReal) (Ideal.liftRound Ideal.roundHalfEven (Ideal.div ((z * c : ℝ) : EReal) (s : EReal))))) = code (z : EReal) ((c / s : ℝ) : EReal) := by
  rw [code_real, div_real _ hs]
  show Ideal.fptosi 32 (min ((7 : ℝ) : EReal) (max ((-7 : ℝ) : EReal) (((Ideal.roundHalfEven (z * c / s) : ℤ) : ℝ) : EReal))) = _
  rw [← coe_max]
  rw [show min ((7 : ℝ) : EReal) ((max (-7) ((Ideal.roundHalfEven (z * c / s) : ℤ) : ℝ) : ℝ) : EReal) = ((min 7 (max (-7) ((Ideal.roundHalfEven (z * c / s) : ℤ) : ℝ)) : ℝ) : EReal) from (EReal.coe_strictMono.monotone.map_min).symm]
  have e : min 7 (max (-7) ((Ideal.roundHalfEven (z * c / s) : ℤ) : ℝ)) = ((whole (z * (c / s)) : ℤ) : ℝ) := by
    unfold whole
    rw [← mul_div_assoc, ← clamp_round]
    push_cast
    rfl
  rw [e]
  exact fptosi_whole _ (le_whole _) (whole_le _)

end Cert.Rounding

end
-- ==== Proof.Tame.lean ====
/- The rotation over the extended reals comes in two cases. Either every product of an entry of the left factor with an entry of the
   token is a real number, and then everything is the real rotation of the finite parts; or one of them is infinite, and then the
   largest magnitude is plus infinity, the scale too, and all codes are zero. -/
module

public import proofs.«01_k».proof.Proof.Rounding

@[expose] public section

set_option maxRecDepth 16384

noncomputable section

namespace Cert.Tame

open Idealize.ShloMosaic Cert.Rotation Cert.KernelIdeal.Gen
open Finset

/-- A matrix's real parts: infinite entries are replaced by zero. -/
def re2 (H : ℕ → ℕ → EReal) (a k : ℕ) : ℝ := (H a k).toReal
/-- A token's real parts: infinite entries are replaced by zero. -/
def re1 (x : ℕ → EReal) (j : ℕ) : ℝ := (x j).toReal

/-- Some product of an entry of the left factor with an entry of the token is infinite. -/
def Wild (H : ℕ → ℕ → EReal) (x : ℕ → EReal) : Prop := ∃ a k p, a < 140 ∧ k < 140 ∧ p < 64 ∧ Inf (H a k * x (64 * k + p))

variable (H : ℕ → ℕ → EReal) (x : ℕ → EReal)

section real
variable (t : ¬ Wild H x) (hz : ∀ a k, 140 ≤ a → H a k = 0)
include t hz

/-- Without an infinite product, each product is that of the real parts. -/
theorem mul_re (a k p : ℕ) (hk : k < 140) (hp : p < 64) : H a k * x (64 * k + p) = ((re2 H a k * re1 x (64 * k + p) : ℝ) : EReal) := by
  by_cases ha : a < 140
  · have h : ¬ Inf (H a k * x (64 * k + p)) := fun h => t ⟨a, k, p, ha, hk, hp, h⟩
    rw [real_of_not_inf h, EReal.toReal_mul]
    rfl
  · unfold re2
    rw [hz a k (by omega), zero_mul, EReal.toReal_zero, zero_mul]
    rfl
/-- So are the sums over a column. -/
theorem rowsum_re (a q : ℕ) (hq : q < 64) : rowsumE H x a q = ((rowsum (re2 H) (re1 x) a q : ℝ) : EReal) := by
  unfold rowsumE rowsum
  rw [← sum_coe 140 (fun k => re2 H a k * re1 x (64 * k + q)), ← sum_fin 140 (fun k => H a k * x (64 * k + q))]
  exact Finset.sum_congr rfl fun k _ => mul_re H x t hz a k.val q k.isLt hq
/-- So is the first pass. -/
theorem pass1_re (a q : ℕ) (hq : q < 64) : pass1E H x a q = ((pass1 (re2 H) (re1 x) a q : ℝ) : EReal) :=
  wht_coe _ (by omega) _ _ fun j hj => rowsum_re H x t hz a _ (by omega)
/-- So is the second pass. -/
theorem rotated_re (a q : ℕ) (hq : q < 64) : rotatedE H x a q = ((rotated (re2 H) (re1 x) a q : ℝ) : EReal) :=
  wht_coe _ (by omega) _ _ fun j hj => pass1_re H x t hz a _ (by omega)
omit t hz in
/-- The largest of nine real numbers. -/
theorem max8_re (A : ℝ) (z : ℕ → EReal) (f : ℕ → ℝ) (h : ∀ g, g < 8 → z g = (f g : EReal)) : max8E (A : EReal) z = ((max8 A f : ℝ) : EReal) := by
  unfold max8E max8 absE
  rw [h 0 (by omega), h 1 (by omega), h 2 (by omega), h 3 (by omega), h 4 (by omega), h 5 (by omega), h 6 (by omega), h 7 (by omega)]
  simp only [← coe_abs, ← coe_max]
/-- So is the running maximum. -/
theorem runMax_re (s n : ℕ) (hn : n ≤ 144) : runMaxE H x s n = ((runMax (re2 H) (re1 x) s n : ℝ) : EReal) := by
  induction n with
  | zero => rfl
  | succ n ih =>
    show max8E (runMaxE H x s n) _ = _
    rw [ih (by omega)]
    exact max8_re _ _ _ fun g hg => rotated_re H x t hz _ _ (by omega)
/-- So is the largest magnitude. -/
theorem tokMax_re : tokMaxE H x = ((tokMax (re2 H) (re1 x) : ℝ) : EReal) := by
  unfold tokMaxE topE tokMax
  have hf : ∀ s : Fin 8, runMaxE H x s.val 144 = ((runMax (re2 H) (re1 x) s.val 144 : ℝ) : EReal) := fun s => runMax_re H x t hz s.val 144 le_rfl
  simp only [hf]
  apply le_antisymm
  · rw [Finset.fold_max_le]
    refine ⟨bot_le, fun s _ => EReal.coe_le_coe_iff.mpr ?_⟩
    exact (le_abs_self _).trans (le_max8 0 (fun s => runMax (re2 H) (re1 x) s 144) s.val s.isLt)
  · rw [Finset.le_fold_max]
    right
    rcases max8_cases 0 (fun s => runMax (re2 H) (re1 x) s 144) with h | ⟨g, hg, h⟩
    · refine ⟨0, Finset.mem_univ _, ?_⟩
      rw [h, EReal.coe_le_coe_iff]
      exact runMax_nonneg _ _ _ _
    · refine ⟨⟨g, hg⟩, Finset.mem_univ _, ?_⟩
      rw [h, EReal.coe_le_coe_iff, abs_of_nonneg (runMax_nonneg _ _ _ _)]
/-- So is the scale. -/
theorem scaleOf_re : scaleOf H x = ((scaleR (tokMax (re2 H) (re1 x) * cR) : ℝ) : EReal) := by
  unfold scaleOf
  rw [tokMax_re H x t hz, ← EReal.coe_mul, scaleE_coe]
omit t hz in
/-- The real scale is positive. -/
theorem scale_pos : 0 < scaleR (tokMax (re2 H) (re1 x) * cR) := scaleR_pos _ (mul_nonneg (tokMax_nonneg _ _) cR_pos.le)
/-- The factor is the quotient of real numbers. -/
theorem factor_re : Ideal.div ((cR : ℝ) : EReal) (scaleOf H x) = ((cR / scaleR (tokMax (re2 H) (re1 x) * cR) : ℝ) : EReal) := by
  rw [scaleOf_re H x t hz, div_real _ (scale_pos H x).ne']
/-- The code of a feature is that of a real number. -/
theorem codeOf_re (j : ℕ) (hj : j < 8960) : codeOf H x j = (code ((rotated (re2 H) (re1 x) (j / 64) (j % 64) : ℝ) : EReal) ((cR / scaleR (tokMax (re2 H) (re1 x) * cR) : ℝ) : EReal)).setWidth 8 := by
  unfold codeOf
  rw [factor_re H x t hz, rotated_re H x t hz _ _ (by omega)]
/-- An entry of the left factor times a signed sum of entries of the token is that of the real parts. -/
theorem signed_re (a k : ℕ) (hk : k < 140) (q : ℕ) (hq : q < 64) (ha : a < 140) (sp : ℕ → ℝ) :
    H a k * (∑ p ∈ range 64, x (64 * k + p) * ((sp p : ℝ) : EReal)) = ((re2 H a k * ∑ p ∈ range 64, sp p * re1 x (64 * k + p) : ℝ) : EReal) := by
  by_cases h0 : H a k = 0
  · unfold re2
    rw [h0, zero_mul, EReal.toReal_zero, zero_mul]
    rfl
  by_cases hi : Inf (H a k)
  · have hx : ∀ p ∈ range 64, x (64 * k + p) = 0 := by
      intro p hp
      by_contra hc
      exact t ⟨a, k, p, ha, hk, Finset.mem_range.mp hp, hi.mul hc⟩
    rw [Finset.sum_eq_zero fun p hp => by rw [hx p hp, zero_mul], mul_zero]
    rw [Finset.sum_eq_zero fun p hp => by unfold re1; rw [hx p hp, EReal.toReal_zero, mul_zero], mul_zero]
    rfl
  · have hx : ∀ p : ℕ, p < 64 → x (64 * k + p) = ((re1 x (64 * k + p) : ℝ) : EReal) := by
      intro p hp
      refine real_of_not_inf fun hc => t ⟨a, k, p, ha, hk, hp, ?_⟩
      rw [mul_comm]
      exact hc.mul h0
    rw [← sum_fin 64 (fun p => x (64 * k + p) * ((sp p : ℝ) : EReal)), EReal.coe_mul, ← sum_coe 64 (fun p => sp p * re1 x (64 * k + p))]
    rw [show H a k = ((re2 H a k : ℝ) : EReal) from real_of_not_inf hi]
    refine congrArg _ (Finset.sum_congr rfl fun p _ => ?_)
    rw [hx p.val p.isLt, ← EReal.coe_mul, mul_comm]
end real

section infinite

/-- The first argument does not exceed the largest. -/
theorem le_max8E_left (A : EReal) (z : ℕ → EReal) : A ≤ max8E A z := by
  simp only [max8E, le_max_iff]
  simp
/-- No magnitude exceeds the largest. -/
theorem le_max8E (A : EReal) (z : ℕ → EReal) (g : ℕ) (hg : g < 8) : absE (z g) ≤ max8E A z := by
  obtain h | h | h | h | h | h | h | h : g = 0 ∨ g = 1 ∨ g = 2 ∨ g = 3 ∨ g = 4 ∨ g = 5 ∨ g = 6 ∨ g = 7 := by omega
  all_goals
    subst h
    simp only [max8E, le_max_iff]
    simp
/-- The running maximum grows. -/
theorem runMaxE_mono (s j n : ℕ) (h : j ≤ n) : runMaxE H x s j ≤ runMaxE H x s n := by
  induction n with
  | zero => rw [show j = 0 by omega]
  | succ n ih =>
    rcases Nat.lt_or_ge n j with hj | hj
    · rw [show j = n + 1 by omega]
    · exact (ih hj).trans (le_max8E_left _ _)
/-- No rotated entry exceeds the largest magnitude. -/
theorem le_tokMaxE (a q : ℕ) (ha : a < 144) (hq : q < 64) : absE (rotatedE H x a q) ≤ tokMaxE H x := by
  have h1 : absE (rotatedE H x a q) ≤ runMaxE H x (a % 8) (18 * (q % 8) + a / 8 + 1) := by
    have := le_max8E (runMaxE H x (a % 8) (18 * (q % 8) + a / 8)) (fun g => rotatedE H x (8 * ((18 * (q % 8) + a / 8) % 18) + a % 8) (8 * g + (18 * (q % 8) + a / 8) / 18)) (q / 8) (by omega)
    have e1 : 8 * ((18 * (q % 8) + a / 8) % 18) + a % 8 = a := by omega
    have e2 : 8 * (q / 8) + (18 * (q % 8) + a / 8) / 18 = q := by omega
    simp only [e1, e2] at this
    simpa only [runMaxE, e1] using this
  have h2 := runMaxE_mono H x (a % 8) (18 * (q % 8) + a / 8 + 1) 144 (by omega)
  refine (h1.trans h2).trans ?_
  unfold tokMaxE topE
  rw [Finset.le_fold_max]
  exact Or.inr ⟨⟨a % 8, by omega⟩, Finset.mem_univ _, le_refl _⟩

variable (w : Wild H x)
include w

/-- With an infinite product, the largest magnitude is plus infinity. -/
theorem tokMax_top : tokMaxE H x = ⊤ := by
  obtain ⟨a, k, p, ha, hk, hp, h⟩ := w
  have h1 : Inf (rowsumE H x a p) := Inf.sum (range 140) (fun k => H a k * x (64 * k + p)) k (Finset.mem_range.mpr hk) h
  have h2 : Inf (pass1E H x a (8 * (p / 8))) := by
    refine Inf.wht8 _ _ (p % 8) (by omega) ?_
    rw [show 8 * (8 * (p / 8) / 8) + p % 8 = p by omega]
    exact h1
  have h3 : Inf (rotatedE H x a 0) := by
    refine Inf.wht8 _ _ (p / 8) (by omega) ?_
    rw [show 8 * (p / 8) + 0 % 8 = 8 * (p / 8) by omega]
    exact h2
  have h4 := le_tokMaxE H x a 0 (by omega) (by omega)
  rw [h3.abs] at h4
  exact top_le_iff.mp h4
omit w in
/-- The scale of plus infinity is plus infinity. -/
theorem scaleE_top : scaleE ⊤ = ⊤ := by
  unfold scaleE
  rw [if_neg (by simp), Ideal.div_coe (by norm_num)]
  exact EReal.top_mul_of_pos (EReal.coe_pos.mpr (by norm_num))
omit w in
/-- A quotient by plus infinity is zero. -/
theorem div_top (y : EReal) : Ideal.div y ⊤ = 0 := by
  unfold Ideal.div
  rw [if_neg (by simp), EReal.inv_top, mul_zero]
/-- The scale is plus infinity. -/
theorem scaleOf_top : scaleOf H x = ⊤ := by
  unfold scaleOf
  rw [tokMax_top H x w, EReal.top_mul_of_pos (by exact_mod_cast cR_pos), scaleE_top]
omit w in
/-- The whole number nearest to zero is zero. -/
theorem whole_zero : Cert.Rounding.whole 0 = 0 := by
  unfold Cert.Rounding.whole
  have h1 := Cert.Rounding.round_le (v := min 7 (max (-7) 0)) (n := 0) (by norm_num)
  have h2 := Cert.Rounding.le_round (v := min 7 (max (-7) 0)) (n := 0) (by norm_num)
  omega
/-- All codes are zero. -/
theorem codeOf_zero (j : ℕ) : codeOf H x j = 0#8 := by
  unfold codeOf
  rw [scaleOf_top H x w, div_top]
  have e : code (rotatedE H x (j / 64) (j % 64)) 0 = code ((0 : ℝ) : EReal) ((0 : ℝ) : EReal) := by
    unfold code
    rw [mul_zero, EReal.coe_zero, mul_zero]
  rw [e, Cert.Rounding.code_real, mul_zero, whole_zero]
  rfl
omit w in
/-- Eight numbers whose signed sums all vanish vanish. -/
theorem wht_inj (f : ℕ → ℝ) (h : ∀ r, r < 8 → ∑ j ∈ range 8, sg r j * f j = 0) (j : ℕ) (hj : j < 8) : f j = 0 := by
  have h0 := h 0 (by omega)
  have h1 := h 1 (by omega)
  have h2 := h 2 (by omega)
  have h3 := h 3 (by omega)
  have h4 := h 4 (by omega)
  have h5 := h 5 (by omega)
  have h6 := h 6 (by omega)
  have h7 := h 7 (by omega)
  rw [wht_0] at h0
  rw [wht_1] at h1
  rw [wht_2] at h2
  rw [wht_3] at h3
  rw [wht_4] at h4
  rw [wht_5] at h5
  rw [wht_6] at h6
  rw [wht_7] at h7
  obtain e | e | e | e | e | e | e | e : j = 0 ∨ j = 1 ∨ j = 2 ∨ j = 3 ∨ j = 4 ∨ j = 5 ∨ j = 6 ∨ j = 7 := by omega
  all_goals
    subst e
    linarith
omit w in
/-- The sum against a row of the matrix of order 64 in two passes. -/
theorem two_passes (f : ℕ → ℝ) (q : ℕ) (hq : q < 64) :
    ∑ p ∈ range 64, sg q p * f p = ∑ g ∈ range 8, sg (q / 8) g * ∑ j ∈ range 8, sg (q % 8) j * f (8 * g + j) := by
  rw [sum_64]
  refine Finset.sum_congr rfl fun g hg => ?_
  rw [Finset.mul_sum]
  refine Finset.sum_congr rfl fun j hj => ?_
  have e := sg_split (q / 8) g (q % 8) j (by omega) (Finset.mem_range.mp hg) (by omega) (Finset.mem_range.mp hj)
  rw [show 8 * (q / 8) + q % 8 = q by omega] at e
  rw [e]
  ring
omit w in
/-- Sixty-four numbers, one of them not zero, have a signed sum that is not zero. -/
theorem exists_sign (f : ℕ → ℝ) (p : ℕ) (hp : p < 64) (h : f p ≠ 0) : ∃ q, q < 64 ∧ ∑ p ∈ range 64, sg q p * f p ≠ 0 := by
  by_contra hc
  have hq : ∀ q, q < 64 → ∑ p ∈ range 64, sg q p * f p = 0 := fun q hq => by
    by_contra h'
    exact hc ⟨q, hq, h'⟩
  refine h ?_
  have h1 : ∀ r, r < 8 → ∑ j ∈ range 8, sg r j * f (8 * (p / 8) + j) = 0 := by
    intro r hr
    refine wht_inj (fun g => ∑ j ∈ range 8, sg r j * f (8 * g + j)) (fun r' hr' => ?_) (p / 8) (by omega)
    have e := hq (8 * r' + r) (by omega)
    rw [two_passes f _ (by omega), show (8 * r' + r) / 8 = r' by omega, show (8 * r' + r) % 8 = r by omega] at e
    exact e
  have h2 := wht_inj (fun j => f (8 * (p / 8) + j)) h1 (p % 8) (by omega)
  rw [show 8 * (p / 8) + p % 8 = p by omega] at h2
  exact h2
omit w in
/-- A sign is not zero. -/
theorem sg_ne_zero (q p : ℕ) : sg q p ≠ 0 := by
  unfold sg sgn
  split <;> norm_num
/-- With an infinite product, some sum of an entry of the left factor times signed sums of entries of the token is infinite. -/
theorem exists_inf : ∃ a q, a < 140 ∧ q < 64 ∧ Inf (∑ k ∈ range 140, H a k * ∑ p ∈ range 64, x (64 * k + p) * ((sg q p : ℝ) : EReal)) := by
  obtain ⟨a, k, p, ha, hk, hp, h⟩ := w
  obtain ⟨h1, h2, h3⟩ := h.factors
  have key : ∃ q, q < 64 ∧ Inf (H a k * ∑ p ∈ range 64, x (64 * k + p) * ((sg q p : ℝ) : EReal)) := by
    by_cases hx : ∃ p', p' < 64 ∧ Inf (x (64 * k + p'))
    · obtain ⟨p', hp', hi⟩ := hx
      refine ⟨0, by omega, ?_⟩
      rw [mul_comm]
      refine Inf.mul (Inf.sum (range 64) (fun p => x (64 * k + p) * ((sg 0 p : ℝ) : EReal)) p' (Finset.mem_range.mpr hp') ?_) h2
      exact hi.mul (by exact_mod_cast sg_ne_zero 0 p')
    · have hr : ∀ p', p' < 64 → x (64 * k + p') = ((re1 x (64 * k + p') : ℝ) : EReal) := fun p' hp' =>
        real_of_not_inf fun hc => hx ⟨p', hp', hc⟩
      have hi : Inf (H a k) := h1.resolve_right fun hc => hx ⟨p, hp, hc⟩
      obtain ⟨q, hq, hs⟩ := exists_sign (fun p => re1 x (64 * k + p)) p hp (by
        intro e
        refine h3 ((hr p hp).trans ?_)
        rw [e]
        rfl)
      refine ⟨q, hq, hi.mul ?_⟩
      have e : (∑ p ∈ range 64, x (64 * k + p) * ((sg q p : ℝ) : EReal)) = ((∑ p ∈ range 64, sg q p * re1 x (64 * k + p) : ℝ) : EReal) := by
        rw [← sum_fin 64 (fun p => x (64 * k + p) * ((sg q p : ℝ) : EReal)), ← sum_coe 64 (fun p => sg q p * re1 x (64 * k + p))]
        refine Finset.sum_congr rfl fun p _ => ?_
        rw [hr p.val p.isLt, ← EReal.coe_mul, mul_comm]
      rw [e]
      exact_mod_cast hs
  obtain ⟨q, hq, hi⟩ := key
  exact ⟨a, q, ha, hq, Inf.sum (range 140) (fun k => H a k * ∑ p ∈ range 64, x (64 * k + p) * ((sg q p : ℝ) : EReal)) k (Finset.mem_range.mpr hk) hi⟩
end infinite

end Cert.Tame

end
-- ==== Proof.RefStages.lean ====
/- The idealized reference's results, stage by stage and read at an index. -/
module

public import proofs.«01_k».proof.Proof.Gen.ReferenceIdeal
public import proofs.«01_k».proof.Proof.Gen.ReferenceIdeal.Run
public import proofs.«01_k».proof.Proof.Scales
public import proofs.«01_k».proof.Proof.Quantised
public import proofs.«01_k».proof.Proof.Tame
public import Idealize.ShloMosaic.Lib.Pointwise

@[expose] public section

set_option maxRecDepth 16384

noncomputable section

namespace Cert.ReferenceIdeal.Val

open Idealize.ShloMosaic Idealize.SL.Sem Cert.ReferenceIdeal Cert.ReferenceIdeal.Facts₀
open Cert.Tame Cert.Rotation Finset
open Cert.KernelIdeal.Gen (scaleOf codeOf prodOf weightOf weight nibbles code scaleR cR cR_pos scaleE scaleE_coe div_real ofBits_c ofBits_7 ofBits_1 ofBits_bot)

variable (m : (ℓ : Loc nD τ sig) → Buf (Elt Ideal) ℓ)

/-- The sign matrix: `1 - 2 (popcount (q & p) & 1)`. -/
def signs : FVec Ideal S64x64 .f32 := sitofp .f32 (subi (broadcastInDim S64x64 ![] bcast_S_S64x64 (constantI S_ 32 1#32)) (muli (broadcastInDim S64x64 ![] bcast_S_S64x64 (constantI S_ 32 2#32)) (andi (ctpop (andi (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))) (broadcastInDim S64x64 ![] bcast_S_S64x64 (constantI S_ 32 1#32)))))
/-- Each group of 64 features times the sign matrix. -/
def signed (x : FVec Ideal S12x512x8960 .bf16) : FVec Ideal S12x512x140x64 .f32 :=
  Host.dotGeneral dot_S12x512x140x64_S64x64_S12x512x140x64_3_1_012_0_n_n (some .fp32) (shapeCast _ (extf .f32 x bitsLt_bf16_f32) shapeCasts_S12x512x8960_S12x512x140x64) signs
/-- The groups mixed by the Hadamard matrix and scaled. -/
def mixed (x : FVec Ideal S12x512x8960 .bf16) (h : FVec Ideal S140x140 .f32) : FVec Ideal S12x512x140x64 .f32 :=
  mulf (transpose S12x512x140x64 [1, 2, 0, 3] (Host.dotGeneral dot_S140x140_S12x512x140x64_S140x12x512x64_1_2_0_013_n_n (some .fp32) h (signed x)) transposes_S140x12x512x64_S12x512x140x64_1_2_0_3) (broadcastInDim S12x512x140x64 ![] bcast_S_S12x512x140x64 (constant S_ .f32 0x3C2D166C#32))
/-- The rotated activations. -/
def turned (x : FVec Ideal S12x512x8960 .bf16) (h : FVec Ideal S140x140 .f32) : FVec Ideal S12x512x8960 .f32 :=
  shapeCast _ (mixed x h) shapeCasts_S12x512x140x64_S12x512x8960
/-- The largest absolute value of a token. -/
def tops (x : FVec Ideal S12x512x8960 .bf16) (h : FVec Ideal S140x140 .f32) : FVec Ideal S12x512 .f32 :=
  Host.reduce FloatOps.maximumf (Host.absf (turned x h)) (constant S_ .f32 0xFF800000#32) reducesTo_S12x512x8960_S12x512_d2 h_S_
/-- The scales, of the largest absolute values. -/
def scaled (t : FVec Ideal S12x512 .f32) : FVec Ideal S12x512 .f32 :=
  select (cmpf .oeq t (broadcastInDim S12x512 ![] bcast_S_S12x512 (constant S_ .f32 0x00000000#32))) (broadcastInDim S12x512 ![] bcast_S_S12x512 (id (constant S_ .f32 0x3F800000#32))) (Host.divf t (broadcastInDim S12x512 ![] bcast_S_S12x512 (constant S_ .f32 0x40E00000#32)))
/-- The codes as 32-bit integers, of the rotated activations and the scales. -/
def rounded (y : FVec Ideal S12x512x8960 .f32) (t : FVec Ideal S12x512 .f32) : IVec S12x512x8960 32 :=
  fptosi 32 (minimumf (broadcastInDim S12x512x8960 ![] bcast_S_S12x512x8960 (sitofp .f32 (constantI S_ 32 7#32))) (maximumf (broadcastInDim S12x512x8960 ![] bcast_S_S12x512x8960 (sitofp .f32 (constantI S_ 32 4294967289#32))) (Host.roundeven (Host.divf y (broadcastInDim S12x512x8960 ![0, 1, 2] bcast_S12x512x1_S12x512x8960_0_1_2 (broadcastInDim S12x512x1 ![0, 1] bcast_S12x512_S12x512x1_0_1 t))))))
/-- The scales. -/
def scales (x : FVec Ideal S12x512x8960 .bf16) (h : FVec Ideal S140x140 .f32) : FVec Ideal S12x512 .f32 := scaled (tops x h)
/-- The codes as 32-bit integers. -/
def words (x : FVec Ideal S12x512x8960 .bf16) (h : FVec Ideal S140x140 .f32) : IVec S12x512x8960 32 := rounded (turned x h) (scales x h)
/-- The low nibbles of the weights as signed numbers. -/
def lows (w : IVec S4480x1536 8) : FVec Ideal S4480x1536 .bf16 :=
  truncf .bf16 (sitofp .f32 (select (cmpi .sge (andi (extui 32 w natLt_8_32) (broadcastInDim S4480x1536 ![] bcast_S_S4480x1536 (constantI S_ 32 15#32))) (broadcastInDim S4480x1536 ![] bcast_S_S4480x1536 (constantI S_ 32 8#32))) (subi (andi (extui 32 w natLt_8_32) (broadcastInDim S4480x1536 ![] bcast_S_S4480x1536 (constantI S_ 32 15#32))) (broadcastInDim S4480x1536 ![] bcast_S_S4480x1536 (constantI S_ 32 16#32))) (andi (extui 32 w natLt_8_32) (broadcastInDim S4480x1536 ![] bcast_S_S4480x1536 (constantI S_ 32 15#32))))) bitsLt_bf16_f32
/-- The high nibbles of the weights as signed numbers. -/
def highs (w : IVec S4480x1536 8) : FVec Ideal S4480x1536 .bf16 :=
  truncf .bf16 (sitofp .f32 (select (cmpi .sge (Host.shrsi (extui 32 w natLt_8_32) (broadcastInDim S4480x1536 ![] bcast_S_S4480x1536 (constantI S_ 32 4#32))) (broadcastInDim S4480x1536 ![] bcast_S_S4480x1536 (constantI S_ 32 8#32))) (subi (Host.shrsi (extui 32 w natLt_8_32) (broadcastInDim S4480x1536 ![] bcast_S_S4480x1536 (constantI S_ 32 4#32))) (broadcastInDim S4480x1536 ![] bcast_S_S4480x1536 (constantI S_ 32 16#32))) (Host.shrsi (extui 32 w natLt_8_32) (broadcastInDim S4480x1536 ![] bcast_S_S4480x1536 (constantI S_ 32 4#32))))) bitsLt_bf16_f32
/-- The two halves of the product of the codes with the weights, scaled. -/
def product (q : IVec S12x512x8960 32) (t : FVec Ideal S12x512 .f32) (w : IVec S4480x1536 8) (ws : FVec Ideal S1536 .f32) : FVec Ideal S12x512x1536 .bf16 :=
  truncf .bf16 (mulf (mulf (addf (Host.dotGeneral dot_S12x512x4480_S4480x1536_S12x512x1536_2_0_01_1_n_n none (shapeCast _ (extractStridedSlice S12x512x4480x1 ![0, 0, 0, 0] (truncf .bf16 (sitofp .f32 (shapeCast _ q shapeCasts_S12x512x8960_S12x512x4480x2)) bitsLt_bf16_f32) slices_S12x512x4480x2_S12x512x4480x1_0_0_0_0) shapeCasts_S12x512x4480x1_S12x512x4480) (lows w)) (Host.dotGeneral dot_S12x512x4480_S4480x1536_S12x512x1536_2_0_01_1_n_n none (shapeCast _ (extractStridedSlice S12x512x4480x1 ![0, 0, 0, 1] (truncf .bf16 (sitofp .f32 (shapeCast _ q shapeCasts_S12x512x8960_S12x512x4480x2)) bitsLt_bf16_f32) slices_S12x512x4480x2_S12x512x4480x1_0_0_0_1) shapeCasts_S12x512x4480x1_S12x512x4480) (highs w))) (broadcastInDim S12x512x1536 ![0, 1, 2] bcast_S12x512x1_S12x512x1536_0_1_2 (broadcastInDim S12x512x1 ![0, 1] bcast_S12x512_S12x512x1_0_1 t))) (broadcastInDim S12x512x1536 ![0, 1, 2] bcast_S1x1x1536_S12x512x1536_0_1_2 (broadcastInDim S1x1x1536 ![2] bcast_S1536_S1x1x1536_2 ws))) bitsLt_bf16_f32

theorem res_codes (c : Dev nD) : Value.res_main_v35 m c = trunci 8 (words (m ((c.tc : Thread nD τ).loc main_arg0)) (m ((c.tc : Thread nD τ).loc main_arg1))) natLt_8_32 := rfl

theorem res_main (c : Dev nD) : Value.res_main_v71 m c = product (words (m ((c.tc : Thread nD τ).loc main_arg0)) (m ((c.tc : Thread nD τ).loc main_arg1))) (scales (m ((c.tc : Thread nD τ).loc main_arg0)) (m ((c.tc : Thread nD τ).loc main_arg1))) (m ((c.tc : Thread nD τ).loc main_arg2)) (m ((c.tc : Thread nD τ).loc main_arg3)) := rfl

variable (x : FVec Ideal S12x512x8960 .bf16) (h : FVec Ideal S140x140 .f32) (X : ℕ → EReal) (H : ℕ → ℕ → EReal) (b : Fin 12) (s : Fin 512)

theorem sign_words : ∀ q p : Fin 64, (IntOp.subi (1#32) (IntOp.muli (2#32) (IntOp.andi (IntOp.ctpop (IntOp.andi (BitVec.ofNat 32 q.val) (BitVec.ofNat 32 p.val))) 1#32))).toInt = sgn q.val p.val := by decide +kernel
/-- The sign matrix's entries. -/
theorem signs_at (q p : Fin 64) : signs (ix2 q p) = ((sg q.val p.val : ℝ) : EReal) := by
  pointwise [signs]
  show (((BitVec.toInt _ : ℤ) : ℝ) : EReal) = _
  rw [sign_words]
  rfl
/-- A group of 64 features times the sign matrix. -/
theorem signed_at (hx : ∀ j : Fin 8960, x (ix3 b s j) = X j.val) (k : Fin 140) (q : Fin 64) :
    signed x (ix4 b s k q) = ∑ p ∈ range 64, X (64 * k.val + p) * ((sg q.val p : ℝ) : EReal) := by
  pointwise [signed]
  rw [← sum_fin 64 (fun p => X (64 * k.val + p) * ((sg q.val p : ℝ) : EReal))]
  refine Finset.sum_congr rfl fun p _ => ?_
  rw [signs_at, hx]
  congr 2
  show k.val * 64 + p.val = _
  ring
/-- The groups mixed by the Hadamard matrix and scaled. -/
theorem mixed_at (hx : ∀ j : Fin 8960, x (ix3 b s j) = X j.val) (hh : ∀ a k : Fin 140, h (ix2 a k) = H a.val k.val)
    (a : Fin 140) (q : Fin 64) : mixed x h (ix4 b s a q) = (∑ k ∈ range 140, H a.val k * ∑ p ∈ range 64, X (64 * k + p) * ((sg q.val p : ℝ) : EReal)) * ((cR : ℝ) : EReal) := by
  pointwise [mixed]
  have e : (∑ k : Fin 140, h (ix2 a k) * signed x (ix4 b s k q)) = ∑ k ∈ range 140, H a.val k * ∑ p ∈ range 64, X (64 * k + p) * ((sg q.val p : ℝ) : EReal) := by
    rw [← sum_fin 140 (fun k => H a.val k * ∑ p ∈ range 64, X (64 * k + p) * ((sg q.val p : ℝ) : EReal))]
    refine Finset.sum_congr rfl fun k _ => ?_
    rw [hh, signed_at x X b s hx]
  rw [← ofBits_c]
  exact congrArg (· * _) e
/-- Where no product is infinite, they are real numbers. -/
theorem mixed_re (t : ¬ Wild H X) (hz : ∀ a k, 140 ≤ a → H a k = 0) (hx : ∀ j : Fin 8960, x (ix3 b s j) = X j.val) (hh : ∀ a k : Fin 140, h (ix2 a k) = H a.val k.val)
    (a : Fin 140) (q : Fin 64) : mixed x h (ix4 b s a q) = ((rotated (re2 H) (re1 X) a.val q.val * cR : ℝ) : EReal) := by
  rw [mixed_at x h X H b s hx hh, EReal.coe_mul]
  refine congrArg (· * _) ?_
  rw [rotated_eq _ _ _ _ q.isLt]
  have e1 : (∑ p ∈ range 64, sg q.val p * rowsum (re2 H) (re1 X) a.val p : ℝ) = ∑ k ∈ range 140, re2 H a.val k * ∑ p ∈ range 64, sg q.val p * re1 X (64 * k + p) := by
    unfold rowsum
    simp_rw [Finset.mul_sum]
    rw [Finset.sum_comm]
    refine Finset.sum_congr rfl fun k _ => Finset.sum_congr rfl fun p _ => ?_
    ring
  rw [e1, ← sum_coe 140 (fun k => re2 H a.val k * ∑ p ∈ range 64, sg q.val p * re1 X (64 * k + p)), ← sum_fin 140 (fun k => H a.val k * ∑ p ∈ range 64, X (64 * k + p) * ((sg q.val p : ℝ) : EReal))]
  exact Finset.sum_congr rfl fun k _ => signed_re H X t hz a.val k.val k.isLt q.val q.isLt a.isLt (fun p => sg q.val p)
/-- The rotated activations at a feature. -/
theorem turned_mixed (j : Fin 8960) : turned x h (ix3 b s j) = mixed x h (ix4 b s (⟨j.val / 64, by omega⟩ : Fin 140) (⟨j.val % 64, by omega⟩ : Fin 64)) := by
  pointwise [turned]
/-- Where no product is infinite, they are real numbers. -/
theorem turned_re (t : ¬ Wild H X) (hz : ∀ a k, 140 ≤ a → H a k = 0) (hx : ∀ j : Fin 8960, x (ix3 b s j) = X j.val) (hh : ∀ a k : Fin 140, h (ix2 a k) = H a.val k.val)
    (j : Fin 8960) : turned x h (ix3 b s j) = ((rotated (re2 H) (re1 X) (j.val / 64) (j.val % 64) * cR : ℝ) : EReal) := by
  rw [turned_mixed, mixed_re x h X H b s t hz hx hh]
/-- The largest absolute value of a token, as a maximum over its features. -/
theorem tops_fold : tops x h (ix2 b s) = Finset.fold max ⊥ (fun j : Fin 8960 => max (turned x h (ix3 b s j)) (-(turned x h (ix3 b s j)))) Finset.univ := by
  have e : tops x h (ix2 b s) = Finset.fold max (Ideal.ofBits FTy.f32 0xFF800000#32) (fun j : Fin 8960 => max (turned x h (ix3 b s j)) (-(turned x h (ix3 b s j)))) Finset.univ := by
    pointwise [tops]
    rfl
  rw [e, ofBits_bot]
/-- The largest absolute value of a token. -/
theorem tops_re (t : ¬ Wild H X) (hx : ∀ j : Fin 8960, x (ix3 b s j) = X j.val) (hh : ∀ a k : Fin 140, h (ix2 a k) = H a.val k.val)
    (hz : ∀ a k, 140 ≤ a → H a k = 0) : tops x h (ix2 b s) = ((tokMax (re2 H) (re1 X) * cR : ℝ) : EReal) := by
  have et : ∀ j : Fin 8960, max (turned x h (ix3 b s j)) (-(turned x h (ix3 b s j))) = ((|rotated (re2 H) (re1 X) (j.val / 64) (j.val % 64)| * cR : ℝ) : EReal) := by
    intro j
    rw [turned_re x h X H b s t hz hx hh, ← coe_abs, abs_mul, abs_of_pos cR_pos]
  rw [tops_fold]
  simp only [et]
  apply le_antisymm
  · rw [Finset.fold_max_le]
    refine ⟨bot_le, fun j _ => EReal.coe_le_coe_iff.mpr ?_⟩
    exact mul_le_mul_of_nonneg_right (le_tokMax (re2 H) (re1 X) _ _ (by omega) (by omega)) cR_pos.le
  · rw [Finset.le_fold_max]
    right
    rcases tokMax_cases (re2 H) (re1 X) with h0 | ⟨a, q, ha, hq, hm⟩
    · refine ⟨⟨0, by omega⟩, Finset.mem_univ _, EReal.coe_le_coe_iff.mpr ?_⟩
      rw [h0, zero_mul]
      exact mul_nonneg (abs_nonneg _) cR_pos.le
    · by_cases h140 : a < 140
      · refine ⟨⟨64 * a + q, by omega⟩, Finset.mem_univ _, EReal.coe_le_coe_iff.mpr ?_⟩
        have e1 : (64 * a + q) / 64 = a := by omega
        have e2 : (64 * a + q) % 64 = q := by omega
        simp only [e1, e2, hm, le_refl]
      · refine ⟨⟨0, by omega⟩, Finset.mem_univ _, EReal.coe_le_coe_iff.mpr ?_⟩
        rw [hm, rotated_zero (re2 H) (re1 X) a q (fun k => by unfold re2; rw [hz a k (by omega), EReal.toReal_zero]), abs_zero, zero_mul]
        exact mul_nonneg (abs_nonneg _) cR_pos.le
/-- Where a product is infinite, it is plus infinity. -/
theorem tops_top (w : Wild H X) (hx : ∀ j : Fin 8960, x (ix3 b s j) = X j.val) (hh : ∀ a k : Fin 140, h (ix2 a k) = H a.val k.val) : tops x h (ix2 b s) = ⊤ := by
  obtain ⟨a, q, ha, hq, hi⟩ := exists_inf H X w
  rw [tops_fold]
  refine top_le_iff.mp ?_
  rw [Finset.le_fold_max]
  refine Or.inr ⟨⟨64 * a + q, by omega⟩, Finset.mem_univ _, ?_⟩
  have e : turned x h (ix3 b s (⟨64 * a + q, by omega⟩ : Fin 8960)) = mixed x h (ix4 b s (⟨a, ha⟩ : Fin 140) (⟨q, hq⟩ : Fin 64)) := by
    rw [turned_mixed]
    exact congrArg₂ (fun (i : Fin 140) (j : Fin 64) => mixed x h (ix4 b s i j)) (Fin.ext (by show (64 * a + q) / 64 = a; omega)) (Fin.ext (by show (64 * a + q) % 64 = q; omega))
  have ei : Inf (turned x h (ix3 b s (⟨64 * a + q, by omega⟩ : Fin 8960))) := by
    rw [e, mixed_at x h X H b s hx hh]
    exact hi.mul (by exact_mod_cast cR_pos.ne')
  exact ei.abs.ge
/-- The scale of a token from its largest absolute value. -/
theorem scaled_at (t : FVec Ideal S12x512 .f32) : scaled t (ix2 b s) = scaleE (t (ix2 b s)) := by
  unfold scaleE
  rw [← ofBits_7]
  pointwise [scaled]
  show (if _ then Ideal.ofBits FTy.f32 1065353216#32 else _) = _
  rw [ofBits_1]
  rfl
/-- The scale of a token. -/
theorem scales_at (hx : ∀ j : Fin 8960, x (ix3 b s j) = X j.val) (hh : ∀ a k : Fin 140, h (ix2 a k) = H a.val k.val)
    (hz : ∀ a k, 140 ≤ a → H a k = 0) : scales x h (ix2 b s) = scaleOf H X := by
  unfold scales
  rw [scaled_at]
  by_cases t : Wild H X
  · rw [tops_top x h X H b s t hx hh, scaleE_top, scaleOf_top H X t]
  · rw [tops_re x h X H b s t hx hh hz, scaleE_coe, scaleOf_re H X t hz]
theorem word_7 : FloatOps.sitofp (F := Ideal) FTy.f32 7#32 = ((7 : ℝ) : EReal) := by
  show (((BitVec.toInt (7#32) : ℤ) : ℝ) : EReal) = _
  rw [show BitVec.toInt (7#32) = 7 by decide]
  norm_num
theorem word_m7 : FloatOps.sitofp (F := Ideal) FTy.f32 4294967289#32 = ((-7 : ℝ) : EReal) := by
  show (((BitVec.toInt (4294967289#32) : ℤ) : ℝ) : EReal) = _
  rw [show BitVec.toInt (4294967289#32) = -7 by decide]
  norm_num
/-- The codes of the rotated activations. -/
theorem rounded_at (y : FVec Ideal S12x512x8960 .f32) (t : FVec Ideal S12x512 .f32) (j : Fin 8960) :
    rounded y t (ix3 b s j) = Ideal.fptosi 32 (min ((7 : ℝ) : EReal) (max ((-7 : ℝ) : EReal) (Ideal.liftRound Ideal.roundHalfEven (Ideal.div (y (ix3 b s j)) (t (ix2 b s)))))) := by
  rw [← word_7, ← word_m7]
  pointwise [rounded]
  rfl
/-- The code of a feature as a 32-bit integer, where no product is infinite. -/
theorem words_re (t : ¬ Wild H X) (hx : ∀ j : Fin 8960, x (ix3 b s j) = X j.val) (hh : ∀ a k : Fin 140, h (ix2 a k) = H a.val k.val)
    (hz : ∀ a k, 140 ≤ a → H a k = 0) (j : Fin 8960) :
    words x h (ix3 b s j) = code ((rotated (re2 H) (re1 X) (j.val / 64) (j.val % 64) : ℝ) : EReal) ((cR / scaleR (tokMax (re2 H) (re1 X) * cR) : ℝ) : EReal) := by
  unfold words
  rw [rounded_at, turned_re x h X H b s t hz hx hh, scales_at x h X H b s hx hh hz, scaleOf_re H X t hz, Cert.Rounding.reference_code _ _ _ (scale_pos H X).ne']
/-- Where a product is infinite, it is zero. -/
theorem words_zero (w : Wild H X) (hx : ∀ j : Fin 8960, x (ix3 b s j) = X j.val) (hh : ∀ a k : Fin 140, h (ix2 a k) = H a.val k.val)
    (hz : ∀ a k, 140 ≤ a → H a k = 0) (j : Fin 8960) : words x h (ix3 b s j) = 0#32 := by
  unfold words
  rw [rounded_at, scales_at x h X H b s hx hh hz, scaleOf_top H X w, div_top]
  have e := Cert.Rounding.reference_code 0 0 1 one_ne_zero
  rw [div_real _ one_ne_zero, zero_mul, zero_div, Cert.Rounding.code_real, zero_mul, whole_zero] at e
  exact e
/-- The code of a feature, as a number and as a byte. -/
theorem word_at (hx : ∀ j : Fin 8960, x (ix3 b s j) = X j.val) (hh : ∀ a k : Fin 140, h (ix2 a k) = H a.val k.val)
    (hz : ∀ a k, 140 ≤ a → H a k = 0) (j : Fin 8960) : (words x h (ix3 b s j)).toInt = (codeOf H X j.val).toInt ∧ (words x h (ix3 b s j)).setWidth 8 = codeOf H X j.val := by
  by_cases t : Wild H X
  · rw [words_zero x h X H b s t hx hh hz, codeOf_zero H X t]
    exact ⟨rfl, rfl⟩
  · rw [words_re x h X H b s t hx hh hz, codeOf_re H X t hz _ j.isLt, Cert.Rounding.code_real]
    have := Cert.Rounding.small_word _ (Cert.Rounding.le_whole (rotated (re2 H) (re1 X) (j.val / 64) (j.val % 64) * (cR / scaleR (tokMax (re2 H) (re1 X) * cR)))) (Cert.Rounding.whole_le _)
    exact ⟨this.2.trans this.1.symm, rfl⟩

theorem low_bytes : ∀ b : BitVec 8, (Scalar.select (IntOp.cmpi CmpIPredicate.sge (IntOp.andi (BitVec.setWidth 32 b) 15#32) 8#32)
        (IntOp.subi (IntOp.andi (BitVec.setWidth 32 b) 15#32) 16#32) (IntOp.andi (BitVec.setWidth 32 b) 15#32)).toInt = ((nibbles b).extractLsb' (16 * 0) 16).toInt := by decide +kernel
theorem high_bytes : ∀ b : BitVec 8, (Scalar.select
        (IntOp.cmpi CmpIPredicate.sge (IntOp.shrsi ArithUnit.host (BitVec.setWidth 32 b) 4#32) 8#32)
        (IntOp.subi (IntOp.shrsi ArithUnit.host (BitVec.setWidth 32 b) 4#32) 16#32)
        (IntOp.shrsi ArithUnit.host (BitVec.setWidth 32 b) 4#32)).toInt = ((nibbles b).extractLsb' (16 * 1) 16).toInt := by decide +kernel
theorem lows_at (w : IVec S4480x1536 8) (f : Fin 4480) (o : Fin 1536) : lows w (ix2 f o) = ((weight (w (ix2 f o)) 0 : ℝ) : EReal) := by
  pointwise [lows]
  show (((BitVec.toInt _ : ℤ) : ℝ) : EReal) = _
  rw [low_bytes]
  rfl
theorem highs_at (w : IVec S4480x1536 8) (f : Fin 4480) (o : Fin 1536) : highs w (ix2 f o) = ((weight (w (ix2 f o)) 1 : ℝ) : EReal) := by
  pointwise [highs]
  show (((BitVec.toInt _ : ℤ) : ℝ) : EReal) = _
  rw [high_bytes]
  rfl
/-- A sum over pairs. -/
theorem sum_pairs (n : ℕ) (f : ℕ → ℝ) : ∑ k ∈ range (2 * n), f k = ∑ k ∈ range n, f (2 * k) + ∑ k ∈ range n, f (2 * k + 1) := by
  induction n with
  | zero => simp
  | succ n ih =>
    rw [show 2 * (n + 1) = 2 * n + 1 + 1 by ring, Finset.sum_range_succ, Finset.sum_range_succ, ih, Finset.sum_range_succ, Finset.sum_range_succ]
    ring
theorem product_at (q : IVec S12x512x8960 32) (t : FVec Ideal S12x512 .f32) (w : IVec S4480x1536 8) (ws : FVec Ideal S1536 .f32) (o : Fin 1536)
    (hq : ∀ j : Fin 8960, (q (ix3 b s j)).toInt = (codeOf H X j.val).toInt) (ht : t (ix2 b s) = scaleOf H X) :
    product q t w ws (ix3 b s o) = prodOf H X (fun f => weightOf w f o.val) * ws (ix1 o) := by
  have e : product q t w ws (ix3 b s o) = ((∑ k : Fin 4480, (((q (ix3 b s (⟨k.val * 2, by omega⟩ : Fin 8960))).toInt : ℝ) : EReal) * lows w (ix2 k o)) + (∑ k : Fin 4480, (((q (ix3 b s (⟨k.val * 2 + 1, by omega⟩ : Fin 8960))).toInt : ℝ) : EReal) * highs w (ix2 k o))) * t (ix2 b s) * ws (ix1 o) := by
    pointwise [product]
    rfl
  have es : ((∑ k : Fin 4480, (((q (ix3 b s (⟨k.val * 2, by omega⟩ : Fin 8960))).toInt : ℝ) : EReal) * lows w (ix2 k o)) + (∑ k : Fin 4480, (((q (ix3 b s (⟨k.val * 2 + 1, by omega⟩ : Fin 8960))).toInt : ℝ) : EReal) * highs w (ix2 k o)))
      = ((∑ f ∈ range (2 * 4480), (((codeOf H X f).toInt : ℤ) : ℝ) * weightOf w f o.val : ℝ) : EReal) := by
    rw [sum_pairs, EReal.coe_add, ← sum_coe 4480 (fun k => (((codeOf H X (2 * k)).toInt : ℤ) : ℝ) * weightOf w (2 * k) o.val), ← sum_coe 4480 (fun k => (((codeOf H X (2 * k + 1)).toInt : ℤ) : ℝ) * weightOf w (2 * k + 1) o.val)]
    refine congrArg₂ (· + ·) (Finset.sum_congr rfl fun k _ => ?_) (Finset.sum_congr rfl fun k _ => ?_)
    · have hk := k.isLt
      rw [hq, lows_at, ← EReal.coe_mul]
      show (((((codeOf H X (k.val * 2)).toInt : ℤ) : ℝ) * weight (w (ix2 k o)) 0 : ℝ) : EReal) = _
      rw [mul_comm k.val 2]
      have ew : weightOf w (2 * k.val) o.val = weight (w (ix2 k o)) 0 := by
        unfold weightOf
        rw [dif_pos ⟨by omega, o.isLt⟩]
        have e1 : (⟨2 * k.val / 2, by omega⟩ : Fin 4480) = k := Fin.ext (by show 2 * k.val / 2 = k.val; omega)
        have e2 : 2 * k.val % 2 = 0 := by omega
        rw [e1, e2]
      rw [ew]
    · have hk := k.isLt
      rw [hq, highs_at, ← EReal.coe_mul]
      show (((((codeOf H X (k.val * 2 + 1)).toInt : ℤ) : ℝ) * weight (w (ix2 k o)) 1 : ℝ) : EReal) = _
      rw [mul_comm k.val 2]
      have ew : weightOf w (2 * k.val + 1) o.val = weight (w (ix2 k o)) 1 := by
        unfold weightOf
        rw [dif_pos ⟨by omega, o.isLt⟩]
        have e1 : (⟨(2 * k.val + 1) / 2, by omega⟩ : Fin 4480) = k := Fin.ext (by show (2 * k.val + 1) / 2 = k.val; omega)
        have e2 : (2 * k.val + 1) % 2 = 1 := by omega
        rw [e1, e2]
      rw [ew]
  rw [e, es, ht]
  rfl

end Cert.ReferenceIdeal.Val

end
-- ==== Proof.Algebraic.lean ====
/- The idealized kernel and the idealized reference leave the same three results. -/
module

public import proofs.«01_k».proof.Proof.KernelValue
public import proofs.«01_k».proof.Proof.RefStages
public import proofs.«01_k».proof.Defs

@[expose] public section

set_option maxRecDepth 16384

noncomputable section

namespace Cert.Algebraic

open Idealize.ShloMosaic Idealize.SL.Sem
open Cert.KernelIdeal.Val (tokOf hadOf result_main result_codes result_scales run_results)

/-- An index of rank three is the index of its coordinates. -/
theorem idx3 {a b c : ℕ} (k : Shape.Idx ⟨3, ![a, b, c]⟩) : ∃ (i : Fin a) (j : Fin b) (l : Fin c), k = ix3 i j l :=
  ⟨k 0, k 1, k 2, by funext d; fin_cases d <;> rfl⟩
/-- So is an index of rank two. -/
theorem idx2 {a b : ℕ} (k : Shape.Idx ⟨2, ![a, b]⟩) : ∃ (i : Fin a) (j : Fin b), k = ix2 i j :=
  ⟨k 0, k 1, by funext d; fin_cases d <;> rfl⟩

variable (m : (ℓ : Loc Cert.KernelIdeal.nD Cert.KernelIdeal.τ Cert.KernelIdeal.sig) → Buf (Elt Ideal) ℓ) (c : Dev Cert.KernelIdeal.nD)

/-- The token's entries. -/
theorem hx (b : Fin 12) (s : Fin 512) (j : Fin 8960) :
    m ((c.tc : Thread Cert.KernelIdeal.nD Cert.KernelIdeal.τ).loc Cert.KernelIdeal.main_arg0) (ix3 b s j) = (tokOf (m ((c.tc : Thread Cert.KernelIdeal.nD Cert.KernelIdeal.τ).loc Cert.KernelIdeal.main_arg0)) b s j.val) := by
  unfold tokOf
  rw [dif_pos j.isLt]
/-- The Hadamard matrix's entries. -/
theorem hh (a k : Fin 140) :
    m ((c.tc : Thread Cert.KernelIdeal.nD Cert.KernelIdeal.τ).loc Cert.KernelIdeal.main_arg1) (ix2 a k) = (hadOf (m ((c.tc : Thread Cert.KernelIdeal.nD Cert.KernelIdeal.τ).loc Cert.KernelIdeal.main_arg1)) a.val k.val) := by
  unfold hadOf
  rw [dif_pos ⟨a.isLt, k.isLt⟩]
/-- Beyond its rows the Hadamard matrix is zero. -/
theorem hz (h : Vec Ideal Cert.KernelIdeal.S140x140 .f32) (a k : ℕ) (ha : 140 ≤ a) : hadOf h a k = 0 := by
  unfold hadOf
  rw [dif_neg (fun h => by omega)]

/-- The first results agree. -/
theorem main_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v71 m' c = Pipeline.afterTail₀ Cert.KernelIdeal.cfgs (Cert.KernelIdeal.Val.dats m) 0 (Cert.KernelIdeal.Gen.V0 m) [Cert.KernelIdeal.Gen.hostOps1] c Cert.KernelIdeal.main_v5 := by
  rw [Cert.ReferenceIdeal.Val.res_main, h0, h1, h2, h3]
  funext k
  obtain ⟨b, s, o, rfl⟩ := idx3 k
  refine Eq.trans ?_ (result_main m c b s o).symm
  exact Cert.ReferenceIdeal.Val.product_at _ _ b s _ _ _ _ o
    (fun j => (Cert.ReferenceIdeal.Val.word_at _ _ _ _ b s (hx m c b s) (hh m c) (hz _) j).1)
    (Cert.ReferenceIdeal.Val.scales_at _ _ _ _ b s (hx m c b s) (hh m c) (hz _))
/-- The codes agree. -/
theorem codes_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.res_main_v35 m' c = Pipeline.afterTail₀ Cert.KernelIdeal.cfgs (Cert.KernelIdeal.Val.dats m) 0 (Cert.KernelIdeal.Gen.V0 m) [Cert.KernelIdeal.Gen.hostOps1] c Cert.KernelIdeal.main_v6 := by
  rw [Cert.ReferenceIdeal.Val.res_codes, h0, h1]
  funext k
  obtain ⟨b, s, j, rfl⟩ := idx3 k
  refine Eq.trans ?_ (result_codes m c b s j).symm
  exact (Cert.ReferenceIdeal.Val.word_at _ _ _ _ b s (hx m c b s) (hh m c) (hz _) j).2
/-- The scales agree. -/
theorem scales_eq : Cert.ReferenceIdeal.Val.scales (m ((c.tc : Thread Cert.KernelIdeal.nD Cert.KernelIdeal.τ).loc Cert.KernelIdeal.main_arg0)) (m ((c.tc : Thread Cert.KernelIdeal.nD Cert.KernelIdeal.τ).loc Cert.KernelIdeal.main_arg1)) = Pipeline.afterTail₀ Cert.KernelIdeal.cfgs (Cert.KernelIdeal.Val.dats m) 0 (Cert.KernelIdeal.Gen.V0 m) [Cert.KernelIdeal.Gen.hostOps1] c Cert.KernelIdeal.main_v8 := by
  funext k
  obtain ⟨b, s, rfl⟩ := idx2 k
  refine Eq.trans ?_ (result_scales m c b s).symm
  exact Cert.ReferenceIdeal.Val.scales_at _ _ _ _ b s (hx m c b s) (hh m c) (hz _)

omit c in
/-- The algebraic claim: on all inputs both programs end with the same three results. -/
theorem algebraic : Cert.algebraic_KernelIdeal_ReferenceIdeal := fun m g m' g' _ hm =>
  ⟨fun c => Pipeline.afterTail₀ Cert.KernelIdeal.cfgs (Cert.KernelIdeal.Val.dats m) 0 (Cert.KernelIdeal.Gen.V0 m) [Cert.KernelIdeal.Gen.hostOps1] c Cert.KernelIdeal.main_v5, fun c => Pipeline.afterTail₀ Cert.KernelIdeal.cfgs (Cert.KernelIdeal.Val.dats m) 0 (Cert.KernelIdeal.Gen.V0 m) [Cert.KernelIdeal.Gen.hostOps1] c Cert.KernelIdeal.main_v6, fun c => Pipeline.afterTail₀ Cert.KernelIdeal.cfgs (Cert.KernelIdeal.Val.dats m) 0 (Cert.KernelIdeal.Gen.V0 m) [Cert.KernelIdeal.Gen.hostOps1] c Cert.KernelIdeal.main_v8,
    run_results m g,
    (θ_run Cert.ReferenceIdeal.defs _ _).mono (fun _ h c => ⟨(h c).1.trans (main_eq m c m' (hm c).1 (hm c).2.1 (hm c).2.2.1 (hm c).2.2.2),
        (h c).2.1.trans (codes_eq m c m' (hm c).1 (hm c).2.1),
        (h c).2.2.1.trans (by
          refine Eq.trans ?_ (scales_eq m c)
          rw [← (hm c).1, ← (hm c).2.1]
          rfl),
        (h c).2.2.2⟩)
      (Cert.ReferenceIdeal.Value.run (F := Ideal) m' g')⟩

end Cert.Algebraic

end
-- ==== Proof.Bounds.lean ====
/- The idealized kernel's codes lie between -7 and 7, and its scales are positive, whatever the arguments are. -/
module

public import proofs.«01_k».proof.Proof.Algebraic

@[expose] public section

set_option maxRecDepth 16384

noncomputable section

namespace Cert.Bounds

open Idealize.ShloMosaic Idealize.SL.Sem Cert.Rotation
open Cert.KernelIdeal.Gen (codeOf scaleOf ofBits_0)
open Cert.KernelIdeal.Val (tokOf hadOf result_codes result_scales run_results)
open Cert.Algebraic (idx2 idx3 hz)

/-- The shape relations the predicate on the codes states. -/
instance factsCodes : Cert.Post_codes_bounded.Facts where
  natLt_8_32 := by decide
  bcast_S_S12x512x8960 := by decide
/-- The shape relation the predicate on the scales states. -/
instance factsScales : Cert.Post_scales_positive.Facts where
  bcast_S_S12x512 := by decide

/-- The fifteen codes, as 8-bit words widened to 32 bits, lie between -7 and 7 as signed words. -/
theorem words_bounded : ∀ k : Fin 15, IntOp.cmpi .sge (((BitVec.ofInt 32 ((k.val : ℤ) - 7)).setWidth 8).signExtend 32) 4294967289#32 = 1#1
    ∧ IntOp.cmpi .sle (((BitVec.ofInt 32 ((k.val : ℤ) - 7)).setWidth 8).signExtend 32) 7#32 = 1#1 := by decide

/-- The code of a feature is one of the fifteen. -/
theorem code_cases (H : ℕ → ℕ → EReal) (x : ℕ → EReal) (h : ∀ a k, 140 ≤ a → H a k = 0) (j : ℕ) (hj : j < 8960) :
    ∃ k : Fin 15, codeOf H x j = (BitVec.ofInt 32 ((k.val : ℤ) - 7)).setWidth 8 := by
  by_cases w : Cert.Tame.Wild H x
  · exact ⟨7, by rw [Cert.Tame.codeOf_zero H x w j]; rfl⟩
  · rw [Cert.Tame.codeOf_re H x w h j hj, Cert.Rounding.code_real]
    generalize hn : Cert.Rounding.whole _ = n
    have h1 : -7 ≤ n := hn ▸ Cert.Rounding.le_whole _
    have h2 : n ≤ 7 := hn ▸ Cert.Rounding.whole_le _
    exact ⟨⟨(n + 7).toNat, by omega⟩, by rw [show (((n + 7).toNat : ℕ) : ℤ) - 7 = n by omega]⟩

/-- The scale of a token is positive. -/
theorem scale_positive (H : ℕ → ℕ → EReal) (x : ℕ → EReal) (h : ∀ a k, 140 ≤ a → H a k = 0) : 0 < scaleOf H x := by
  by_cases w : Cert.Tame.Wild H x
  · rw [Cert.Tame.scaleOf_top H x w]
    exact EReal.coe_lt_top 0
  · rw [Cert.Tame.scaleOf_re H x w h]
    exact_mod_cast Cert.Tame.scale_pos H x

/-- Every code the idealized kernel leaves is between -7 and 7. -/
theorem codes_bounded : Cert.holds_KernelIdeal_codes_bounded := by
  intro m g _
  refine (θ_run Cert.KernelIdeal.defs _ _).mono (fun r h c => ?_) (run_results m g)
  obtain ⟨-, e, -, h0, h1, h2, h3⟩ := h c
  refine ⟨h0, h1, h2, h3, ?_, ?_⟩
  all_goals
    rw [e]
    funext k
    obtain ⟨b, s, j, rfl⟩ := idx3 k
    obtain ⟨n, hn⟩ := code_cases _ (tokOf (m ((c.tc : Thread Cert.KernelIdeal.nD Cert.KernelIdeal.τ).loc Cert.KernelIdeal.main_arg0)) b s) (hz (m ((c.tc : Thread Cert.KernelIdeal.nD Cert.KernelIdeal.τ).loc Cert.KernelIdeal.main_arg1))) j.val j.isLt
    simp only [Cert.Post_codes_bounded.fn, cmpi, extsi, broadcastInDim, constantI]
    rw [(result_codes m c b s j).trans hn]
    first | exact (words_bounded n).1 | exact (words_bounded n).2

/-- Every scale the idealized kernel leaves is positive. -/
theorem scales_positive : Cert.holds_KernelIdeal_scales_positive := by
  intro m g _
  refine (θ_run Cert.KernelIdeal.defs _ _).mono (fun r h c => ?_) (run_results m g)
  obtain ⟨-, -, e, h0, h1, h2, h3⟩ := h c
  refine ⟨h0, h1, h2, h3, ?_⟩
  rw [e]
  funext k
  obtain ⟨b, s, rfl⟩ := idx2 k
  have hp := scale_positive _ (tokOf (m ((c.tc : Thread Cert.KernelIdeal.nD Cert.KernelIdeal.τ).loc Cert.KernelIdeal.main_arg0)) b s) (hz (m ((c.tc : Thread Cert.KernelIdeal.nD Cert.KernelIdeal.τ).loc Cert.KernelIdeal.main_arg1)))
  simp only [Cert.Post_scales_positive.fn, cmpf, broadcastInDim, constant]
  rw [result_scales m c b s]
  exact congrArg BitVec.ofBool (decide_eq_true (ofBits_0.trans_lt hp))

end Cert.Bounds

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.KernelIdealFrame
public import proofs.«01_k».proof.Proof.Algebraic
public import proofs.«01_k».proof.Proof.Bounds
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The bit-level kernel runs to the end with its arguments unchanged and every counter at zero. -/
theorem frame_kernel : Cert.quiescent_Kernel := fun m ρ _ => Cert.Kernel.Gen.frame m ρ

/-- So does the idealized kernel. -/
theorem frame_kernelIdeal : Cert.quiescent_KernelIdeal := fun m ρ _ => Cert.KernelIdeal.Gen.frame m ρ

/-- The idealized reference runs to the end with its arguments unchanged; it declares no semaphore. -/
theorem frame_referenceIdeal : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The rewrites of 32-bit words holding bf16 pairs that lead from the kernel to the idealized kernel: each is an
    instance of the pair rules' statements. -/
theorem preserves : Cert.preserves_Kernel_KernelIdeal :=
  ⟨IdealRules.bf16_pair.bufferStatement _ _, IdealRules.bf16_pair.statement _ _,
    IdealRules.bf16_pair.selectZeroStatement _, IdealRules.bf16_pair.statement _ _,
    IdealRules.bf16_pair.packStatement _, IdealRules.bf16_pair.statement _ _,
    IdealRules.bf16_pair.statement _ _, IdealRules.bf16_pair.statement _ _⟩

/-- Every claim of the certificate. -/
theorem claim : Cert.Claim := ⟨Cert.Kernel.Gen.facts, Cert.KernelIdeal.Gen.facts, Cert.ReferenceIdeal.Gen.facts,
  Cert.Bounds.factsCodes, Cert.Bounds.factsScales,
  frame_kernel, frame_kernelIdeal, frame_referenceIdeal, preserves, Cert.Algebraic.algebraic,
  Cert.Bounds.codes_bounded, Cert.Bounds.scales_positive⟩

end Cert.Proof

end
